-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qk [hPre_finite_qk : Cert.Pre_finite_qk.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qk [hPre_finite_qk : Cert.Pre_finite_qk.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_OdProj (m : (ℓ : Loc Cert.OdProj.nD Cert.OdProj.τ Cert.OdProj.sig) → Buf (Elt Bits) ℓ) : Prop :=
  True

def Pre_OdProjIdeal (m : (ℓ : Loc Cert.OdProjIdeal.nD Cert.OdProjIdeal.τ Cert.OdProjIdeal.sig) → Buf (Elt Ideal) ℓ) : Prop :=
  True

def Pre_OdProjRefIdeal (m : (ℓ : Loc Cert.OdProjRefIdeal.nD Cert.OdProjRefIdeal.τ Cert.OdProjRefIdeal.sig) → Buf (Elt Ideal) ℓ) : Prop :=
  True

def Pre_EvProj (m : (ℓ : Loc Cert.EvProj.nD Cert.EvProj.τ Cert.EvProj.sig) → Buf (Elt Bits) ℓ) : Prop :=
  True

def Pre_EvProjIdeal (m : (ℓ : Loc Cert.EvProjIdeal.nD Cert.EvProjIdeal.τ Cert.EvProjIdeal.sig) → Buf (Elt Ideal) ℓ) : Prop :=
  True

def Pre_EvProjRefIdeal (m : (ℓ : Loc Cert.EvProjRefIdeal.nD Cert.EvProjRefIdeal.τ Cert.EvProjRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_OdBwd (m : (ℓ : Loc Cert.OdBwd.nD Cert.OdBwd.τ Cert.OdBwd.sig) → Buf (Elt Bits) ℓ) : Prop :=
  True

def Pre_OdBwdIdeal (m : (ℓ : Loc Cert.OdBwdIdeal.nD Cert.OdBwdIdeal.τ Cert.OdBwdIdeal.sig) → Buf (Elt Ideal) ℓ) : Prop :=
  True

def Pre_OdBwdRefIdeal (m : (ℓ : Loc Cert.OdBwdRefIdeal.nD Cert.OdBwdRefIdeal.τ Cert.OdBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qk [hFwdIdeal : Cert.FwdIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qk m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qk [hFwdRefIdeal : Cert.FwdRefIdeal.Facts] [hPre_finite_qk : Cert.Pre_finite_qk.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qk m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_OdProj [hOdProj : Cert.OdProj.Facts] : Prop :=
  ∀ (m : (ℓ : Loc Cert.OdProj.nD Cert.OdProj.τ Cert.OdProj.sig) → Buf (Elt Bits) ℓ) (g : Dev Cert.OdProj.nD → PrngReg), Pre_OdProj m →
    θ_run (Cert.OdProj.defs (F := Bits)) (onTc (τ := Cert.OdProj.τ) (Cert.OdProj.main (F := Bits))) ⟨m, fun _ => 0, g⟩ (fun r => (∀ c : Dev Cert.OdProj.nD,
      r.2.mem ((c.tc : Thread Cert.OdProj.nD Cert.OdProj.τ).loc Cert.OdProj.main_arg0) = m ((c.tc : Thread Cert.OdProj.nD Cert.OdProj.τ).loc Cert.OdProj.main_arg0)
      ∧ r.2.mem ((c.tc : Thread Cert.OdProj.nD Cert.OdProj.τ).loc Cert.OdProj.main_arg1) = m ((c.tc : Thread Cert.OdProj.nD Cert.OdProj.τ).loc Cert.OdProj.main_arg1)
      ∧ r.2.mem ((c.tc : Thread Cert.OdProj.nD Cert.OdProj.τ).loc Cert.OdProj.main_arg2) = m ((c.tc : Thread Cert.OdProj.nD Cert.OdProj.τ).loc Cert.OdProj.main_arg2)
      ∧ r.2.mem ((c.tc : Thread Cert.OdProj.nD Cert.OdProj.τ).loc Cert.OdProj.main_arg3) = m ((c.tc : Thread Cert.OdProj.nD Cert.OdProj.τ).loc Cert.OdProj.main_arg3)
      ∧ r.2.mem ((c.tc : Thread Cert.OdProj.nD Cert.OdProj.τ).loc Cert.OdProj.main_arg4) = m ((c.tc : Thread Cert.OdProj.nD Cert.OdProj.τ).loc Cert.OdProj.main_arg4)
      ∧ r.2.mem ((c.tc : Thread Cert.OdProj.nD Cert.OdProj.τ).loc Cert.OdProj.main_arg5) = m ((c.tc : Thread Cert.OdProj.nD Cert.OdProj.τ).loc Cert.OdProj.main_arg5))
      ∧ r.2.sem = fun _ => 0)

def quiescent_OdProjIdeal [hOdProjIdeal : Cert.OdProjIdeal.Facts] : Prop :=
  ∀ (m : (ℓ : Loc Cert.OdProjIdeal.nD Cert.OdProjIdeal.τ Cert.OdProjIdeal.sig) → Buf (Elt Ideal) ℓ) (g : Dev Cert.OdProjIdeal.nD → PrngReg), Pre_OdProjIdeal m →
    θ_run (Cert.OdProjIdeal.defs (F := Ideal)) (onTc (τ := Cert.OdProjIdeal.τ) (Cert.OdProjIdeal.main (F := Ideal))) ⟨m, fun _ => 0, g⟩ (fun r => (∀ c : Dev Cert.OdProjIdeal.nD,
      r.2.mem ((c.tc : Thread Cert.OdProjIdeal.nD Cert.OdProjIdeal.τ).loc Cert.OdProjIdeal.main_arg0) = m ((c.tc : Thread Cert.OdProjIdeal.nD Cert.OdProjIdeal.τ).loc Cert.OdProjIdeal.main_arg0)
      ∧ r.2.mem ((c.tc : Thread Cert.OdProjIdeal.nD Cert.OdProjIdeal.τ).loc Cert.OdProjIdeal.main_arg1) = m ((c.tc : Thread Cert.OdProjIdeal.nD Cert.OdProjIdeal.τ).loc Cert.OdProjIdeal.main_arg1)
      ∧ r.2.mem ((c.tc : Thread Cert.OdProjIdeal.nD Cert.OdProjIdeal.τ).loc Cert.OdProjIdeal.main_arg2) = m ((c.tc : Thread Cert.OdProjIdeal.nD Cert.OdProjIdeal.τ).loc Cert.OdProjIdeal.main_arg2)
      ∧ r.2.mem ((c.tc : Thread Cert.OdProjIdeal.nD Cert.OdProjIdeal.τ).loc Cert.OdProjIdeal.main_arg3) = m ((c.tc : Thread Cert.OdProjIdeal.nD Cert.OdProjIdeal.τ).loc Cert.OdProjIdeal.main_arg3)
      ∧ r.2.mem ((c.tc : Thread Cert.OdProjIdeal.nD Cert.OdProjIdeal.τ).loc Cert.OdProjIdeal.main_arg4) = m ((c.tc : Thread Cert.OdProjIdeal.nD Cert.OdProjIdeal.τ).loc Cert.OdProjIdeal.main_arg4)
      ∧ r.2.mem ((c.tc : Thread Cert.OdProjIdeal.nD Cert.OdProjIdeal.τ).loc Cert.OdProjIdeal.main_arg5) = m ((c.tc : Thread Cert.OdProjIdeal.nD Cert.OdProjIdeal.τ).loc Cert.OdProjIdeal.main_arg5))
      ∧ r.2.sem = fun _ => 0)

def quiescent_OdProjRefIdeal [hOdProjRefIdeal : Cert.OdProjRefIdeal.Facts] : Prop :=
  ∀ (m : (ℓ : Loc Cert.OdProjRefIdeal.nD Cert.OdProjRefIdeal.τ Cert.OdProjRefIdeal.sig) → Buf (Elt Ideal) ℓ) (g : Dev Cert.OdProjRefIdeal.nD → PrngReg), Pre_OdProjRefIdeal m →
    θ_run (Cert.OdProjRefIdeal.defs (F := Ideal)) (onTc (τ := Cert.OdProjRefIdeal.τ) (Cert.OdProjRefIdeal.main (F := Ideal))) ⟨m, fun _ => 0, g⟩ (fun r => (∀ c : Dev Cert.OdProjRefIdeal.nD,
      r.2.mem ((c.tc : Thread Cert.OdProjRefIdeal.nD Cert.OdProjRefIdeal.τ).loc Cert.OdProjRefIdeal.main_arg0) = m ((c.tc : Thread Cert.OdProjRefIdeal.nD Cert.OdProjRefIdeal.τ).loc Cert.OdProjRefIdeal.main_arg0)
      ∧ r.2.mem ((c.tc : Thread Cert.OdProjRefIdeal.nD Cert.OdProjRefIdeal.τ).loc Cert.OdProjRefIdeal.main_arg1) = m ((c.tc : Thread Cert.OdProjRefIdeal.nD Cert.OdProjRefIdeal.τ).loc Cert.OdProjRefIdeal.main_arg1)
      ∧ r.2.mem ((c.tc : Thread Cert.OdProjRefIdeal.nD Cert.OdProjRefIdeal.τ).loc Cert.OdProjRefIdeal.main_arg2) = m ((c.tc : Thread Cert.OdProjRefIdeal.nD Cert.OdProjRefIdeal.τ).loc Cert.OdProjRefIdeal.main_arg2)
      ∧ r.2.mem ((c.tc : Thread Cert.OdProjRefIdeal.nD Cert.OdProjRefIdeal.τ).loc Cert.OdProjRefIdeal.main_arg3) = m ((c.tc : Thread Cert.OdProjRefIdeal.nD Cert.OdProjRefIdeal.τ).loc Cert.OdProjRefIdeal.main_arg3)
      ∧ r.2.mem ((c.tc : Thread Cert.OdProjRefIdeal.nD Cert.OdProjRefIdeal.τ).loc Cert.OdProjRefIdeal.main_arg4) = m ((c.tc : Thread Cert.OdProjRefIdeal.nD Cert.OdProjRefIdeal.τ).loc Cert.OdProjRefIdeal.main_arg4)
      ∧ r.2.mem ((c.tc : Thread Cert.OdProjRefIdeal.nD Cert.OdProjRefIdeal.τ).loc Cert.OdProjRefIdeal.main_arg5) = m ((c.tc : Thread Cert.OdProjRefIdeal.nD Cert.OdProjRefIdeal.τ).loc Cert.OdProjRefIdeal.main_arg5))
      ∧ r.2.sem = fun _ => 0)

def quiescent_EvProj [hEvProj : Cert.EvProj.Facts] : Prop :=
  ∀ (m : (ℓ : Loc Cert.EvProj.nD Cert.EvProj.τ Cert.EvProj.sig) → Buf (Elt Bits) ℓ) (g : Dev Cert.EvProj.nD → PrngReg), Pre_EvProj m →
    θ_run (Cert.EvProj.defs (F := Bits)) (onTc (τ := Cert.EvProj.τ) (Cert.EvProj.main (F := Bits))) ⟨m, fun _ => 0, g⟩ (fun r => (∀ c : Dev Cert.EvProj.nD,
      r.2.mem ((c.tc : Thread Cert.EvProj.nD Cert.EvProj.τ).loc Cert.EvProj.main_arg0) = m ((c.tc : Thread Cert.EvProj.nD Cert.EvProj.τ).loc Cert.EvProj.main_arg0)
      ∧ r.2.mem ((c.tc : Thread Cert.EvProj.nD Cert.EvProj.τ).loc Cert.EvProj.main_arg1) = m ((c.tc : Thread Cert.EvProj.nD Cert.EvProj.τ).loc Cert.EvProj.main_arg1)
      ∧ r.2.mem ((c.tc : Thread Cert.EvProj.nD Cert.EvProj.τ).loc Cert.EvProj.main_arg2) = m ((c.tc : Thread Cert.EvProj.nD Cert.EvProj.τ).loc Cert.EvProj.main_arg2)
      ∧ r.2.mem ((c.tc : Thread Cert.EvProj.nD Cert.EvProj.τ).loc Cert.EvProj.main_arg3) = m ((c.tc : Thread Cert.EvProj.nD Cert.EvProj.τ).loc Cert.EvProj.main_arg3)
      ∧ r.2.mem ((c.tc : Thread Cert.EvProj.nD Cert.EvProj.τ).loc Cert.EvProj.main_arg4) = m ((c.tc : Thread Cert.EvProj.nD Cert.EvProj.τ).loc Cert.EvProj.main_arg4))
      ∧ r.2.sem = fun _ => 0)

def quiescent_EvProjIdeal [hEvProjIdeal : Cert.EvProjIdeal.Facts] : Prop :=
  ∀ (m : (ℓ : Loc Cert.EvProjIdeal.nD Cert.EvProjIdeal.τ Cert.EvProjIdeal.sig) → Buf (Elt Ideal) ℓ) (g : Dev Cert.EvProjIdeal.nD → PrngReg), Pre_EvProjIdeal m →
    θ_run (Cert.EvProjIdeal.defs (F := Ideal)) (onTc (τ := Cert.EvProjIdeal.τ) (Cert.EvProjIdeal.main (F := Ideal))) ⟨m, fun _ => 0, g⟩ (fun r => (∀ c : Dev Cert.EvProjIdeal.nD,
      r.2.mem ((c.tc : Thread Cert.EvProjIdeal.nD Cert.EvProjIdeal.τ).loc Cert.EvProjIdeal.main_arg0) = m ((c.tc : Thread Cert.EvProjIdeal.nD Cert.EvProjIdeal.τ).loc Cert.EvProjIdeal.main_arg0)
      ∧ r.2.mem ((c.tc : Thread Cert.EvProjIdeal.nD Cert.EvProjIdeal.τ).loc Cert.EvProjIdeal.main_arg1) = m ((c.tc : Thread Cert.EvProjIdeal.nD Cert.EvProjIdeal.τ).loc Cert.EvProjIdeal.main_arg1)
      ∧ r.2.mem ((c.tc : Thread Cert.EvProjIdeal.nD Cert.EvProjIdeal.τ).loc Cert.EvProjIdeal.main_arg2) = m ((c.tc : Thread Cert.EvProjIdeal.nD Cert.EvProjIdeal.τ).loc Cert.EvProjIdeal.main_arg2)
      ∧ r.2.mem ((c.tc : Thread Cert.EvProjIdeal.nD Cert.EvProjIdeal.τ).loc Cert.EvProjIdeal.main_arg3) = m ((c.tc : Thread Cert.EvProjIdeal.nD Cert.EvProjIdeal.τ).loc Cert.EvProjIdeal.main_arg3)
      ∧ r.2.mem ((c.tc : Thread Cert.EvProjIdeal.nD Cert.EvProjIdeal.τ).loc Cert.EvProjIdeal.main_arg4) = m ((c.tc : Thread Cert.EvProjIdeal.nD Cert.EvProjIdeal.τ).loc Cert.EvProjIdeal.main_arg4))
      ∧ r.2.sem = fun _ => 0)

def quiescent_EvProjRefIdeal [hEvProjRefIdeal : Cert.EvProjRefIdeal.Facts] : Prop :=
  ∀ (m : (ℓ : Loc Cert.EvProjRefIdeal.nD Cert.EvProjRefIdeal.τ Cert.EvProjRefIdeal.sig) → Buf (Elt Ideal) ℓ) (g : Dev Cert.EvProjRefIdeal.nD → PrngReg), Pre_EvProjRefIdeal m →
    θ_run (Cert.EvProjRefIdeal.defs (F := Ideal)) (onTc (τ := Cert.EvProjRefIdeal.τ) (Cert.EvProjRefIdeal.main (F := Ideal))) ⟨m, fun _ => 0, g⟩ (fun r => (∀ c : Dev Cert.EvProjRefIdeal.nD,
      r.2.mem ((c.tc : Thread Cert.EvProjRefIdeal.nD Cert.EvProjRefIdeal.τ).loc Cert.EvProjRefIdeal.main_arg0) = m ((c.tc : Thread Cert.EvProjRefIdeal.nD Cert.EvProjRefIdeal.τ).loc Cert.EvProjRefIdeal.main_arg0)
      ∧ r.2.mem ((c.tc : Thread Cert.EvProjRefIdeal.nD Cert.EvProjRefIdeal.τ).loc Cert.EvProjRefIdeal.main_arg1) = m ((c.tc : Thread Cert.EvProjRefIdeal.nD Cert.EvProjRefIdeal.τ).loc Cert.EvProjRefIdeal.main_arg1)
      ∧ r.2.mem ((c.tc : Thread Cert.EvProjRefIdeal.nD Cert.EvProjRefIdeal.τ).loc Cert.EvProjRefIdeal.main_arg2) = m ((c.tc : Thread Cert.EvProjRefIdeal.nD Cert.EvProjRefIdeal.τ).loc Cert.EvProjRefIdeal.main_arg2)
      ∧ r.2.mem ((c.tc : Thread Cert.EvProjRefIdeal.nD Cert.EvProjRefIdeal.τ).loc Cert.EvProjRefIdeal.main_arg3) = m ((c.tc : Thread Cert.EvProjRefIdeal.nD Cert.EvProjRefIdeal.τ).loc Cert.EvProjRefIdeal.main_arg3)
      ∧ r.2.mem ((c.tc : Thread Cert.EvProjRefIdeal.nD Cert.EvProjRefIdeal.τ).loc Cert.EvProjRefIdeal.main_arg4) = m ((c.tc : Thread Cert.EvProjRefIdeal.nD Cert.EvProjRefIdeal.τ).loc Cert.EvProjRefIdeal.main_arg4))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_OdBwd [hOdBwd : Cert.OdBwd.Facts] : Prop :=
  ∀ (m : (ℓ : Loc Cert.OdBwd.nD Cert.OdBwd.τ Cert.OdBwd.sig) → Buf (Elt Bits) ℓ) (g : Dev Cert.OdBwd.nD → PrngReg), Pre_OdBwd m →
    θ_run (Cert.OdBwd.defs (F := Bits)) (onTc (τ := Cert.OdBwd.τ) (Cert.OdBwd.main (F := Bits))) ⟨m, fun _ => 0, g⟩ (fun r => (∀ c : Dev Cert.OdBwd.nD,
      r.2.mem ((c.tc : Thread Cert.OdBwd.nD Cert.OdBwd.τ).loc Cert.OdBwd.main_arg0) = m ((c.tc : Thread Cert.OdBwd.nD Cert.OdBwd.τ).loc Cert.OdBwd.main_arg0)
      ∧ r.2.mem ((c.tc : Thread Cert.OdBwd.nD Cert.OdBwd.τ).loc Cert.OdBwd.main_arg1) = m ((c.tc : Thread Cert.OdBwd.nD Cert.OdBwd.τ).loc Cert.OdBwd.main_arg1)
      ∧ r.2.mem ((c.tc : Thread Cert.OdBwd.nD Cert.OdBwd.τ).loc Cert.OdBwd.main_arg2) = m ((c.tc : Thread Cert.OdBwd.nD Cert.OdBwd.τ).loc Cert.OdBwd.main_arg2)
      ∧ r.2.mem ((c.tc : Thread Cert.OdBwd.nD Cert.OdBwd.τ).loc Cert.OdBwd.main_arg3) = m ((c.tc : Thread Cert.OdBwd.nD Cert.OdBwd.τ).loc Cert.OdBwd.main_arg3)
      ∧ r.2.mem ((c.tc : Thread Cert.OdBwd.nD Cert.OdBwd.τ).loc Cert.OdBwd.main_arg4) = m ((c.tc : Thread Cert.OdBwd.nD Cert.OdBwd.τ).loc Cert.OdBwd.main_arg4)
      ∧ r.2.mem ((c.tc : Thread Cert.OdBwd.nD Cert.OdBwd.τ).loc Cert.OdBwd.main_arg5) = m ((c.tc : Thread Cert.OdBwd.nD Cert.OdBwd.τ).loc Cert.OdBwd.main_arg5)
      ∧ r.2.mem ((c.tc : Thread Cert.OdBwd.nD Cert.OdBwd.τ).loc Cert.OdBwd.main_arg6) = m ((c.tc : Thread Cert.OdBwd.nD Cert.OdBwd.τ).loc Cert.OdBwd.main_arg6)
      ∧ r.2.mem ((c.tc : Thread Cert.OdBwd.nD Cert.OdBwd.τ).loc Cert.OdBwd.main_arg7) = m ((c.tc : Thread Cert.OdBwd.nD Cert.OdBwd.τ).loc Cert.OdBwd.main_arg7)
      ∧ r.2.mem ((c.tc : Thread Cert.OdBwd.nD Cert.OdBwd.τ).loc Cert.OdBwd.main_arg8) = m ((c.tc : Thread Cert.OdBwd.nD Cert.OdBwd.τ).loc Cert.OdBwd.main_arg8)
      ∧ r.2.mem ((c.tc : Thread Cert.OdBwd.nD Cert.OdBwd.τ).loc Cert.OdBwd.main_arg9) = m ((c.tc : Thread Cert.OdBwd.nD Cert.OdBwd.τ).loc Cert.OdBwd.main_arg9))
      ∧ r.2.sem = fun _ => 0)

def quiescent_OdBwdIdeal [hOdBwdIdeal : Cert.OdBwdIdeal.Facts] : Prop :=
  ∀ (m : (ℓ : Loc Cert.OdBwdIdeal.nD Cert.OdBwdIdeal.τ Cert.OdBwdIdeal.sig) → Buf (Elt Ideal) ℓ) (g : Dev Cert.OdBwdIdeal.nD → PrngReg), Pre_OdBwdIdeal m →
    θ_run (Cert.OdBwdIdeal.defs (F := Ideal)) (onTc (τ := Cert.OdBwdIdeal.τ) (Cert.OdBwdIdeal.main (F := Ideal))) ⟨m, fun _ => 0, g⟩ (fun r => (∀ c : Dev Cert.OdBwdIdeal.nD,
      r.2.mem ((c.tc : Thread Cert.OdBwdIdeal.nD Cert.OdBwdIdeal.τ).loc Cert.OdBwdIdeal.main_arg0) = m ((c.tc : Thread Cert.OdBwdIdeal.nD Cert.OdBwdIdeal.τ).loc Cert.OdBwdIdeal.main_arg0)
      ∧ r.2.mem ((c.tc : Thread Cert.OdBwdIdeal.nD Cert.OdBwdIdeal.τ).loc Cert.OdBwdIdeal.main_arg1) = m ((c.tc : Thread Cert.OdBwdIdeal.nD Cert.OdBwdIdeal.τ).loc Cert.OdBwdIdeal.main_arg1)
      ∧ r.2.mem ((c.tc : Thread Cert.OdBwdIdeal.nD Cert.OdBwdIdeal.τ).loc Cert.OdBwdIdeal.main_arg2) = m ((c.tc : Thread Cert.OdBwdIdeal.nD Cert.OdBwdIdeal.τ).loc Cert.OdBwdIdeal.main_arg2)
      ∧ r.2.mem ((c.tc : Thread Cert.OdBwdIdeal.nD Cert.OdBwdIdeal.τ).loc Cert.OdBwdIdeal.main_arg3) = m ((c.tc : Thread Cert.OdBwdIdeal.nD Cert.OdBwdIdeal.τ).loc Cert.OdBwdIdeal.main_arg3)
      ∧ r.2.mem ((c.tc : Thread Cert.OdBwdIdeal.nD Cert.OdBwdIdeal.τ).loc Cert.OdBwdIdeal.main_arg4) = m ((c.tc : Thread Cert.OdBwdIdeal.nD Cert.OdBwdIdeal.τ).loc Cert.OdBwdIdeal.main_arg4)
      ∧ r.2.mem ((c.tc : Thread Cert.OdBwdIdeal.nD Cert.OdBwdIdeal.τ).loc Cert.OdBwdIdeal.main_arg5) = m ((c.tc : Thread Cert.OdBwdIdeal.nD Cert.OdBwdIdeal.τ).loc Cert.OdBwdIdeal.main_arg5)
      ∧ r.2.mem ((c.tc : Thread Cert.OdBwdIdeal.nD Cert.OdBwdIdeal.τ).loc Cert.OdBwdIdeal.main_arg6) = m ((c.tc : Thread Cert.OdBwdIdeal.nD Cert.OdBwdIdeal.τ).loc Cert.OdBwdIdeal.main_arg6)
      ∧ r.2.mem ((c.tc : Thread Cert.OdBwdIdeal.nD Cert.OdBwdIdeal.τ).loc Cert.OdBwdIdeal.main_arg7) = m ((c.tc : Thread Cert.OdBwdIdeal.nD Cert.OdBwdIdeal.τ).loc Cert.OdBwdIdeal.main_arg7)
      ∧ r.2.mem ((c.tc : Thread Cert.OdBwdIdeal.nD Cert.OdBwdIdeal.τ).loc Cert.OdBwdIdeal.main_arg8) = m ((c.tc : Thread Cert.OdBwdIdeal.nD Cert.OdBwdIdeal.τ).loc Cert.OdBwdIdeal.main_arg8)
      ∧ r.2.mem ((c.tc : Thread Cert.OdBwdIdeal.nD Cert.OdBwdIdeal.τ).loc Cert.OdBwdIdeal.main_arg9) = m ((c.tc : Thread Cert.OdBwdIdeal.nD Cert.OdBwdIdeal.τ).loc Cert.OdBwdIdeal.main_arg9))
      ∧ r.2.sem = fun _ => 0)

def quiescent_OdBwdRefIdeal [hOdBwdRefIdeal : Cert.OdBwdRefIdeal.Facts] : Prop :=
  ∀ (m : (ℓ : Loc Cert.OdBwdRefIdeal.nD Cert.OdBwdRefIdeal.τ Cert.OdBwdRefIdeal.sig) → Buf (Elt Ideal) ℓ) (g : Dev Cert.OdBwdRefIdeal.nD → PrngReg), Pre_OdBwdRefIdeal m →
    θ_run (Cert.OdBwdRefIdeal.defs (F := Ideal)) (onTc (τ := Cert.OdBwdRefIdeal.τ) (Cert.OdBwdRefIdeal.main (F := Ideal))) ⟨m, fun _ => 0, g⟩ (fun r => (∀ c : Dev Cert.OdBwdRefIdeal.nD,
      r.2.mem ((c.tc : Thread Cert.OdBwdRefIdeal.nD Cert.OdBwdRefIdeal.τ).loc Cert.OdBwdRefIdeal.main_arg0) = m ((c.tc : Thread Cert.OdBwdRefIdeal.nD Cert.OdBwdRefIdeal.τ).loc Cert.OdBwdRefIdeal.main_arg0)
      ∧ r.2.mem ((c.tc : Thread Cert.OdBwdRefIdeal.nD Cert.OdBwdRefIdeal.τ).loc Cert.OdBwdRefIdeal.main_arg1) = m ((c.tc : Thread Cert.OdBwdRefIdeal.nD Cert.OdBwdRefIdeal.τ).loc Cert.OdBwdRefIdeal.main_arg1)
      ∧ r.2.mem ((c.tc : Thread Cert.OdBwdRefIdeal.nD Cert.OdBwdRefIdeal.τ).loc Cert.OdBwdRefIdeal.main_arg2) = m ((c.tc : Thread Cert.OdBwdRefIdeal.nD Cert.OdBwdRefIdeal.τ).loc Cert.OdBwdRefIdeal.main_arg2)
      ∧ r.2.mem ((c.tc : Thread Cert.OdBwdRefIdeal.nD Cert.OdBwdRefIdeal.τ).loc Cert.OdBwdRefIdeal.main_arg3) = m ((c.tc : Thread Cert.OdBwdRefIdeal.nD Cert.OdBwdRefIdeal.τ).loc Cert.OdBwdRefIdeal.main_arg3)
      ∧ r.2.mem ((c.tc : Thread Cert.OdBwdRefIdeal.nD Cert.OdBwdRefIdeal.τ).loc Cert.OdBwdRefIdeal.main_arg4) = m ((c.tc : Thread Cert.OdBwdRefIdeal.nD Cert.OdBwdRefIdeal.τ).loc Cert.OdBwdRefIdeal.main_arg4)
      ∧ r.2.mem ((c.tc : Thread Cert.OdBwdRefIdeal.nD Cert.OdBwdRefIdeal.τ).loc Cert.OdBwdRefIdeal.main_arg5) = m ((c.tc : Thread Cert.OdBwdRefIdeal.nD Cert.OdBwdRefIdeal.τ).loc Cert.OdBwdRefIdeal.main_arg5)
      ∧ r.2.mem ((c.tc : Thread Cert.OdBwdRefIdeal.nD Cert.OdBwdRefIdeal.τ).loc Cert.OdBwdRefIdeal.main_arg6) = m ((c.tc : Thread Cert.OdBwdRefIdeal.nD Cert.OdBwdRefIdeal.τ).loc Cert.OdBwdRefIdeal.main_arg6)
      ∧ r.2.mem ((c.tc : Thread Cert.OdBwdRefIdeal.nD Cert.OdBwdRefIdeal.τ).loc Cert.OdBwdRefIdeal.main_arg7) = m ((c.tc : Thread Cert.OdBwdRefIdeal.nD Cert.OdBwdRefIdeal.τ).loc Cert.OdBwdRefIdeal.main_arg7)
      ∧ r.2.mem ((c.tc : Thread Cert.OdBwdRefIdeal.nD Cert.OdBwdRefIdeal.τ).loc Cert.OdBwdRefIdeal.main_arg8) = m ((c.tc : Thread Cert.OdBwdRefIdeal.nD Cert.OdBwdRefIdeal.τ).loc Cert.OdBwdRefIdeal.main_arg8)
      ∧ r.2.mem ((c.tc : Thread Cert.OdBwdRefIdeal.nD Cert.OdBwdRefIdeal.τ).loc Cert.OdBwdRefIdeal.main_arg9) = m ((c.tc : Thread Cert.OdBwdRefIdeal.nD Cert.OdBwdRefIdeal.τ).loc Cert.OdBwdRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v6) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v6) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Fwd_FwdIdeal : Prop :=
  IdealRules.named_const.Statement Cert.FwdIdeal.κ "log2e" .f32 0x3FB8AA3B#32 (((Real.log 2)⁻¹ : ℝ) : EReal)

def algebraic_FwdIdeal_FwdRefIdeal_pre_finite_qk [hFwdIdeal : Cert.FwdIdeal.Facts] [hFwdRefIdeal : Cert.FwdRefIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qk m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v13_0)) (v1 : (c : Dev Cert.FwdIdeal.nD) → Buf (Elt Ideal) ((c.tc : Thread Cert.FwdIdeal.nD Cert.FwdIdeal.τ).loc Cert.FwdIdeal.main_v13_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v13_0) = v0 c
          ∧ r.2.mem ((c.tc : Thread Cert.FwdIdeal.nD Cert.FwdIdeal.τ).loc Cert.FwdIdeal.main_v13_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v28) = v0 c
          ∧ r.2.mem ((c.tc : Thread Cert.FwdRefIdeal.nD Cert.FwdRefIdeal.τ).loc Cert.FwdRefIdeal.main_v32) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_OdProj_OdProjIdeal : Prop :=
  True

def algebraic_OdProjIdeal_OdProjRefIdeal [hOdProjIdeal : Cert.OdProjIdeal.Facts] [hOdProjRefIdeal : Cert.OdProjRefIdeal.Facts] : Prop :=
  ∀ (m : (ℓ : Loc Cert.OdProjIdeal.nD Cert.OdProjIdeal.τ Cert.OdProjIdeal.sig) → Buf (Elt Ideal) ℓ) (g : Dev Cert.OdProjIdeal.nD → PrngReg)
    (m' : (ℓ : Loc Cert.OdProjRefIdeal.nD Cert.OdProjRefIdeal.τ Cert.OdProjRefIdeal.sig) → Buf (Elt Ideal) ℓ) (g' : Dev Cert.OdProjRefIdeal.nD → PrngReg), Pre_OdProjIdeal m →
    (∀ c : Dev Cert.OdProjIdeal.nD,
      m' ((c.tc : Thread Cert.OdProjRefIdeal.nD Cert.OdProjRefIdeal.τ).loc Cert.OdProjRefIdeal.main_arg0) = m ((c.tc : Thread Cert.OdProjIdeal.nD Cert.OdProjIdeal.τ).loc Cert.OdProjIdeal.main_arg0)
      ∧ m' ((c.tc : Thread Cert.OdProjRefIdeal.nD Cert.OdProjRefIdeal.τ).loc Cert.OdProjRefIdeal.main_arg1) = m ((c.tc : Thread Cert.OdProjIdeal.nD Cert.OdProjIdeal.τ).loc Cert.OdProjIdeal.main_arg1)
      ∧ m' ((c.tc : Thread Cert.OdProjRefIdeal.nD Cert.OdProjRefIdeal.τ).loc Cert.OdProjRefIdeal.main_arg2) = m ((c.tc : Thread Cert.OdProjIdeal.nD Cert.OdProjIdeal.τ).loc Cert.OdProjIdeal.main_arg2)
      ∧ m' ((c.tc : Thread Cert.OdProjRefIdeal.nD Cert.OdProjRefIdeal.τ).loc Cert.OdProjRefIdeal.main_arg3) = m ((c.tc : Thread Cert.OdProjIdeal.nD Cert.OdProjIdeal.τ).loc Cert.OdProjIdeal.main_arg3)
      ∧ m' ((c.tc : Thread Cert.OdProjRefIdeal.nD Cert.OdProjRefIdeal.τ).loc Cert.OdProjRefIdeal.main_arg4) = m ((c.tc : Thread Cert.OdProjIdeal.nD Cert.OdProjIdeal.τ).loc Cert.OdProjIdeal.main_arg4)
      ∧ m' ((c.tc : Thread Cert.OdProjRefIdeal.nD Cert.OdProjRefIdeal.τ).loc Cert.OdProjRefIdeal.main_arg5) = m ((c.tc : Thread Cert.OdProjIdeal.nD Cert.OdProjIdeal.τ).loc Cert.OdProjIdeal.main_arg5)) →
    ∃ (v0 : (c : Dev Cert.OdProjIdeal.nD) → Buf (Elt Ideal) ((c.tc : Thread Cert.OdProjIdeal.nD Cert.OdProjIdeal.τ).loc Cert.OdProjIdeal.main_v0_0)) (v1 : (c : Dev Cert.OdProjIdeal.nD) → Buf (Elt Ideal) ((c.tc : Thread Cert.OdProjIdeal.nD Cert.OdProjIdeal.τ).loc Cert.OdProjIdeal.main_v0_1)) (v2 : (c : Dev Cert.OdProjIdeal.nD) → Buf (Elt Ideal) ((c.tc : Thread Cert.OdProjIdeal.nD Cert.OdProjIdeal.τ).loc Cert.OdProjIdeal.main_v0_2)),
      θ_run (Cert.OdProjIdeal.defs (F := Ideal)) (onTc (τ := Cert.OdProjIdeal.τ) (Cert.OdProjIdeal.main (F := Ideal))) ⟨m, fun _ => 0, g⟩ (fun r => ∀ c : Dev Cert.OdProjIdeal.nD,
          r.2.mem ((c.tc : Thread Cert.OdProjIdeal.nD Cert.OdProjIdeal.τ).loc Cert.OdProjIdeal.main_v0_0) = v0 c
          ∧ r.2.mem ((c.tc : Thread Cert.OdProjIdeal.nD Cert.OdProjIdeal.τ).loc Cert.OdProjIdeal.main_v0_1) = v1 c
          ∧ r.2.mem ((c.tc : Thread Cert.OdProjIdeal.nD Cert.OdProjIdeal.τ).loc Cert.OdProjIdeal.main_v0_2) = v2 c
          ∧ r.2.mem ((c.tc : Thread Cert.OdProjIdeal.nD Cert.OdProjIdeal.τ).loc Cert.OdProjIdeal.main_arg0) = m ((c.tc : Thread Cert.OdProjIdeal.nD Cert.OdProjIdeal.τ).loc Cert.OdProjIdeal.main_arg0)
          ∧ r.2.mem ((c.tc : Thread Cert.OdProjIdeal.nD Cert.OdProjIdeal.τ).loc Cert.OdProjIdeal.main_arg1) = m ((c.tc : Thread Cert.OdProjIdeal.nD Cert.OdProjIdeal.τ).loc Cert.OdProjIdeal.main_arg1)
          ∧ r.2.mem ((c.tc : Thread Cert.OdProjIdeal.nD Cert.OdProjIdeal.τ).loc Cert.OdProjIdeal.main_arg2) = m ((c.tc : Thread Cert.OdProjIdeal.nD Cert.OdProjIdeal.τ).loc Cert.OdProjIdeal.main_arg2)
          ∧ r.2.mem ((c.tc : Thread Cert.OdProjIdeal.nD Cert.OdProjIdeal.τ).loc Cert.OdProjIdeal.main_arg3) = m ((c.tc : Thread Cert.OdProjIdeal.nD Cert.OdProjIdeal.τ).loc Cert.OdProjIdeal.main_arg3)
          ∧ r.2.mem ((c.tc : Thread Cert.OdProjIdeal.nD Cert.OdProjIdeal.τ).loc Cert.OdProjIdeal.main_arg4) = m ((c.tc : Thread Cert.OdProjIdeal.nD Cert.OdProjIdeal.τ).loc Cert.OdProjIdeal.main_arg4)
          ∧ r.2.mem ((c.tc : Thread Cert.OdProjIdeal.nD Cert.OdProjIdeal.τ).loc Cert.OdProjIdeal.main_arg5) = m ((c.tc : Thread Cert.OdProjIdeal.nD Cert.OdProjIdeal.τ).loc Cert.OdProjIdeal.main_arg5))
      ∧ θ_run (Cert.OdProjRefIdeal.defs (F := Ideal)) (onTc (τ := Cert.OdProjRefIdeal.τ) (Cert.OdProjRefIdeal.main (F := Ideal))) ⟨m', fun _ => 0, g'⟩ (fun r => ∀ c : Dev Cert.OdProjRefIdeal.nD,
          r.2.mem ((c.tc : Thread Cert.OdProjRefIdeal.nD Cert.OdProjRefIdeal.τ).loc Cert.OdProjRefIdeal.main_v29) = v0 c
          ∧ r.2.mem ((c.tc : Thread Cert.OdProjRefIdeal.nD Cert.OdProjRefIdeal.τ).loc Cert.OdProjRefIdeal.main_v23) = v1 c
          ∧ r.2.mem ((c.tc : Thread Cert.OdProjRefIdeal.nD Cert.OdProjRefIdeal.τ).loc Cert.OdProjRefIdeal.main_v36) = v2 c
          ∧ r.2.mem ((c.tc : Thread Cert.OdProjRefIdeal.nD Cert.OdProjRefIdeal.τ).loc Cert.OdProjRefIdeal.main_arg0) = m' ((c.tc : Thread Cert.OdProjRefIdeal.nD Cert.OdProjRefIdeal.τ).loc Cert.OdProjRefIdeal.main_arg0)
          ∧ r.2.mem ((c.tc : Thread Cert.OdProjRefIdeal.nD Cert.OdProjRefIdeal.τ).loc Cert.OdProjRefIdeal.main_arg1) = m' ((c.tc : Thread Cert.OdProjRefIdeal.nD Cert.OdProjRefIdeal.τ).loc Cert.OdProjRefIdeal.main_arg1)
          ∧ r.2.mem ((c.tc : Thread Cert.OdProjRefIdeal.nD Cert.OdProjRefIdeal.τ).loc Cert.OdProjRefIdeal.main_arg2) = m' ((c.tc : Thread Cert.OdProjRefIdeal.nD Cert.OdProjRefIdeal.τ).loc Cert.OdProjRefIdeal.main_arg2)
          ∧ r.2.mem ((c.tc : Thread Cert.OdProjRefIdeal.nD Cert.OdProjRefIdeal.τ).loc Cert.OdProjRefIdeal.main_arg3) = m' ((c.tc : Thread Cert.OdProjRefIdeal.nD Cert.OdProjRefIdeal.τ).loc Cert.OdProjRefIdeal.main_arg3)
          ∧ r.2.mem ((c.tc : Thread Cert.OdProjRefIdeal.nD Cert.OdProjRefIdeal.τ).loc Cert.OdProjRefIdeal.main_arg4) = m' ((c.tc : Thread Cert.OdProjRefIdeal.nD Cert.OdProjRefIdeal.τ).loc Cert.OdProjRefIdeal.main_arg4)
          ∧ r.2.mem ((c.tc : Thread Cert.OdProjRefIdeal.nD Cert.OdProjRefIdeal.τ).loc Cert.OdProjRefIdeal.main_arg5) = m' ((c.tc : Thread Cert.OdProjRefIdeal.nD Cert.OdProjRefIdeal.τ).loc Cert.OdProjRefIdeal.main_arg5))

def preserves_EvProj_EvProjIdeal : Prop :=
  True

def algebraic_EvProjIdeal_EvProjRefIdeal [hEvProjIdeal : Cert.EvProjIdeal.Facts] [hEvProjRefIdeal : Cert.EvProjRefIdeal.Facts] : Prop :=
  ∀ (m : (ℓ : Loc Cert.EvProjIdeal.nD Cert.EvProjIdeal.τ Cert.EvProjIdeal.sig) → Buf (Elt Ideal) ℓ) (g : Dev Cert.EvProjIdeal.nD → PrngReg)
    (m' : (ℓ : Loc Cert.EvProjRefIdeal.nD Cert.EvProjRefIdeal.τ Cert.EvProjRefIdeal.sig) → Buf (Elt Ideal) ℓ) (g' : Dev Cert.EvProjRefIdeal.nD → PrngReg), Pre_EvProjIdeal m →
    (∀ c : Dev Cert.EvProjIdeal.nD,
      m' ((c.tc : Thread Cert.EvProjRefIdeal.nD Cert.EvProjRefIdeal.τ).loc Cert.EvProjRefIdeal.main_arg0) = m ((c.tc : Thread Cert.EvProjIdeal.nD Cert.EvProjIdeal.τ).loc Cert.EvProjIdeal.main_arg0)
      ∧ m' ((c.tc : Thread Cert.EvProjRefIdeal.nD Cert.EvProjRefIdeal.τ).loc Cert.EvProjRefIdeal.main_arg1) = m ((c.tc : Thread Cert.EvProjIdeal.nD Cert.EvProjIdeal.τ).loc Cert.EvProjIdeal.main_arg1)
      ∧ m' ((c.tc : Thread Cert.EvProjRefIdeal.nD Cert.EvProjRefIdeal.τ).loc Cert.EvProjRefIdeal.main_arg2) = m ((c.tc : Thread Cert.EvProjIdeal.nD Cert.EvProjIdeal.τ).loc Cert.EvProjIdeal.main_arg2)
      ∧ m' ((c.tc : Thread Cert.EvProjRefIdeal.nD Cert.EvProjRefIdeal.τ).loc Cert.EvProjRefIdeal.main_arg3) = m ((c.tc : Thread Cert.EvProjIdeal.nD Cert.EvProjIdeal.τ).loc Cert.EvProjIdeal.main_arg3)
      ∧ m' ((c.tc : Thread Cert.EvProjRefIdeal.nD Cert.EvProjRefIdeal.τ).loc Cert.EvProjRefIdeal.main_arg4) = m ((c.tc : Thread Cert.EvProjIdeal.nD Cert.EvProjIdeal.τ).loc Cert.EvProjIdeal.main_arg4)) →
    ∃ (v0 : (c : Dev Cert.EvProjIdeal.nD) → Buf (Elt Ideal) ((c.tc : Thread Cert.EvProjIdeal.nD Cert.EvProjIdeal.τ).loc Cert.EvProjIdeal.main_v0_0)) (v1 : (c : Dev Cert.EvProjIdeal.nD) → Buf (Elt Ideal) ((c.tc : Thread Cert.EvProjIdeal.nD Cert.EvProjIdeal.τ).loc Cert.EvProjIdeal.main_v0_1)),
      θ_run (Cert.EvProjIdeal.defs (F := Ideal)) (onTc (τ := Cert.EvProjIdeal.τ) (Cert.EvProjIdeal.main (F := Ideal))) ⟨m, fun _ => 0, g⟩ (fun r => ∀ c : Dev Cert.EvProjIdeal.nD,
          r.2.mem ((c.tc : Thread Cert.EvProjIdeal.nD Cert.EvProjIdeal.τ).loc Cert.EvProjIdeal.main_v0_0) = v0 c
          ∧ r.2.mem ((c.tc : Thread Cert.EvProjIdeal.nD Cert.EvProjIdeal.τ).loc Cert.EvProjIdeal.main_v0_1) = v1 c
          ∧ r.2.mem ((c.tc : Thread Cert.EvProjIdeal.nD Cert.EvProjIdeal.τ).loc Cert.EvProjIdeal.main_arg0) = m ((c.tc : Thread Cert.EvProjIdeal.nD Cert.EvProjIdeal.τ).loc Cert.EvProjIdeal.main_arg0)
          ∧ r.2.mem ((c.tc : Thread Cert.EvProjIdeal.nD Cert.EvProjIdeal.τ).loc Cert.EvProjIdeal.main_arg1) = m ((c.tc : Thread Cert.EvProjIdeal.nD Cert.EvProjIdeal.τ).loc Cert.EvProjIdeal.main_arg1)
          ∧ r.2.mem ((c.tc : Thread Cert.EvProjIdeal.nD Cert.EvProjIdeal.τ).loc Cert.EvProjIdeal.main_arg2) = m ((c.tc : Thread Cert.EvProjIdeal.nD Cert.EvProjIdeal.τ).loc Cert.EvProjIdeal.main_arg2)
          ∧ r.2.mem ((c.tc : Thread Cert.EvProjIdeal.nD Cert.EvProjIdeal.τ).loc Cert.EvProjIdeal.main_arg3) = m ((c.tc : Thread Cert.EvProjIdeal.nD Cert.EvProjIdeal.τ).loc Cert.EvProjIdeal.main_arg3)
          ∧ r.2.mem ((c.tc : Thread Cert.EvProjIdeal.nD Cert.EvProjIdeal.τ).loc Cert.EvProjIdeal.main_arg4) = m ((c.tc : Thread Cert.EvProjIdeal.nD Cert.EvProjIdeal.τ).loc Cert.EvProjIdeal.main_arg4))
      ∧ θ_run (Cert.EvProjRefIdeal.defs (F := Ideal)) (onTc (τ := Cert.EvProjRefIdeal.τ) (Cert.EvProjRefIdeal.main (F := Ideal))) ⟨m', fun _ => 0, g'⟩ (fun r => ∀ c : Dev Cert.EvProjRefIdeal.nD,
          r.2.mem ((c.tc : Thread Cert.EvProjRefIdeal.nD Cert.EvProjRefIdeal.τ).loc Cert.EvProjRefIdeal.main_v22) = v0 c
          ∧ r.2.mem ((c.tc : Thread Cert.EvProjRefIdeal.nD Cert.EvProjRefIdeal.τ).loc Cert.EvProjRefIdeal.main_v24) = v1 c
          ∧ r.2.mem ((c.tc : Thread Cert.EvProjRefIdeal.nD Cert.EvProjRefIdeal.τ).loc Cert.EvProjRefIdeal.main_arg0) = m' ((c.tc : Thread Cert.EvProjRefIdeal.nD Cert.EvProjRefIdeal.τ).loc Cert.EvProjRefIdeal.main_arg0)
          ∧ r.2.mem ((c.tc : Thread Cert.EvProjRefIdeal.nD Cert.EvProjRefIdeal.τ).loc Cert.EvProjRefIdeal.main_arg1) = m' ((c.tc : Thread Cert.EvProjRefIdeal.nD Cert.EvProjRefIdeal.τ).loc Cert.EvProjRefIdeal.main_arg1)
          ∧ r.2.mem ((c.tc : Thread Cert.EvProjRefIdeal.nD Cert.EvProjRefIdeal.τ).loc Cert.EvProjRefIdeal.main_arg2) = m' ((c.tc : Thread Cert.EvProjRefIdeal.nD Cert.EvProjRefIdeal.τ).loc Cert.EvProjRefIdeal.main_arg2)
          ∧ r.2.mem ((c.tc : Thread Cert.EvProjRefIdeal.nD Cert.EvProjRefIdeal.τ).loc Cert.EvProjRefIdeal.main_arg3) = m' ((c.tc : Thread Cert.EvProjRefIdeal.nD Cert.EvProjRefIdeal.τ).loc Cert.EvProjRefIdeal.main_arg3)
          ∧ r.2.mem ((c.tc : Thread Cert.EvProjRefIdeal.nD Cert.EvProjRefIdeal.τ).loc Cert.EvProjRefIdeal.main_arg4) = m' ((c.tc : Thread Cert.EvProjRefIdeal.nD Cert.EvProjRefIdeal.τ).loc Cert.EvProjRefIdeal.main_arg4))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v6) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v6) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_OdBwd_OdBwdIdeal : Prop :=
  True

def algebraic_OdBwdIdeal_OdBwdRefIdeal [hOdBwdIdeal : Cert.OdBwdIdeal.Facts] [hOdBwdRefIdeal : Cert.OdBwdRefIdeal.Facts] : Prop :=
  ∀ (m : (ℓ : Loc Cert.OdBwdIdeal.nD Cert.OdBwdIdeal.τ Cert.OdBwdIdeal.sig) → Buf (Elt Ideal) ℓ) (g : Dev Cert.OdBwdIdeal.nD → PrngReg)
    (m' : (ℓ : Loc Cert.OdBwdRefIdeal.nD Cert.OdBwdRefIdeal.τ Cert.OdBwdRefIdeal.sig) → Buf (Elt Ideal) ℓ) (g' : Dev Cert.OdBwdRefIdeal.nD → PrngReg), Pre_OdBwdIdeal m →
    (∀ c : Dev Cert.OdBwdIdeal.nD,
      m' ((c.tc : Thread Cert.OdBwdRefIdeal.nD Cert.OdBwdRefIdeal.τ).loc Cert.OdBwdRefIdeal.main_arg0) = m ((c.tc : Thread Cert.OdBwdIdeal.nD Cert.OdBwdIdeal.τ).loc Cert.OdBwdIdeal.main_arg0)
      ∧ m' ((c.tc : Thread Cert.OdBwdRefIdeal.nD Cert.OdBwdRefIdeal.τ).loc Cert.OdBwdRefIdeal.main_arg1) = m ((c.tc : Thread Cert.OdBwdIdeal.nD Cert.OdBwdIdeal.τ).loc Cert.OdBwdIdeal.main_arg1)
      ∧ m' ((c.tc : Thread Cert.OdBwdRefIdeal.nD Cert.OdBwdRefIdeal.τ).loc Cert.OdBwdRefIdeal.main_arg2) = m ((c.tc : Thread Cert.OdBwdIdeal.nD Cert.OdBwdIdeal.τ).loc Cert.OdBwdIdeal.main_arg2)
      ∧ m' ((c.tc : Thread Cert.OdBwdRefIdeal.nD Cert.OdBwdRefIdeal.τ).loc Cert.OdBwdRefIdeal.main_arg3) = m ((c.tc : Thread Cert.OdBwdIdeal.nD Cert.OdBwdIdeal.τ).loc Cert.OdBwdIdeal.main_arg3)
      ∧ m' ((c.tc : Thread Cert.OdBwdRefIdeal.nD Cert.OdBwdRefIdeal.τ).loc Cert.OdBwdRefIdeal.main_arg4) = m ((c.tc : Thread Cert.OdBwdIdeal.nD Cert.OdBwdIdeal.τ).loc Cert.OdBwdIdeal.main_arg4)
      ∧ m' ((c.tc : Thread Cert.OdBwdRefIdeal.nD Cert.OdBwdRefIdeal.τ).loc Cert.OdBwdRefIdeal.main_arg5) = m ((c.tc : Thread Cert.OdBwdIdeal.nD Cert.OdBwdIdeal.τ).loc Cert.OdBwdIdeal.main_arg5)
      ∧ m' ((c.tc : Thread Cert.OdBwdRefIdeal.nD Cert.OdBwdRefIdeal.τ).loc Cert.OdBwdRefIdeal.main_arg6) = m ((c.tc : Thread Cert.OdBwdIdeal.nD Cert.OdBwdIdeal.τ).loc Cert.OdBwdIdeal.main_arg6)
      ∧ m' ((c.tc : Thread Cert.OdBwdRefIdeal.nD Cert.OdBwdRefIdeal.τ).loc Cert.OdBwdRefIdeal.main_arg7) = m ((c.tc : Thread Cert.OdBwdIdeal.nD Cert.OdBwdIdeal.τ).loc Cert.OdBwdIdeal.main_arg7)
      ∧ m' ((c.tc : Thread Cert.OdBwdRefIdeal.nD Cert.OdBwdRefIdeal.τ).loc Cert.OdBwdRefIdeal.main_arg8) = m ((c.tc : Thread Cert.OdBwdIdeal.nD Cert.OdBwdIdeal.τ).loc Cert.OdBwdIdeal.main_arg8)
      ∧ m' ((c.tc : Thread Cert.OdBwdRefIdeal.nD Cert.OdBwdRefIdeal.τ).loc Cert.OdBwdRefIdeal.main_arg9) = m ((c.tc : Thread Cert.OdBwdIdeal.nD Cert.OdBwdIdeal.τ).loc Cert.OdBwdIdeal.main_arg9)) →
    ∃ (v0 : (c : Dev Cert.OdBwdIdeal.nD) → Buf (Elt Ideal) ((c.tc : Thread Cert.OdBwdIdeal.nD Cert.OdBwdIdeal.τ).loc Cert.OdBwdIdeal.main_v0_0)) (v1 : (c : Dev Cert.OdBwdIdeal.nD) → Buf (Elt Ideal) ((c.tc : Thread Cert.OdBwdIdeal.nD Cert.OdBwdIdeal.τ).loc Cert.OdBwdIdeal.main_v0_1)) (v2 : (c : Dev Cert.OdBwdIdeal.nD) → Buf (Elt Ideal) ((c.tc : Thread Cert.OdBwdIdeal.nD Cert.OdBwdIdeal.τ).loc Cert.OdBwdIdeal.main_v0_2)) (v3 : (c : Dev Cert.OdBwdIdeal.nD) → Buf (Elt Ideal) ((c.tc : Thread Cert.OdBwdIdeal.nD Cert.OdBwdIdeal.τ).loc Cert.OdBwdIdeal.main_v0_3)) (v4 : (c : Dev Cert.OdBwdIdeal.nD) → Buf (Elt Ideal) ((c.tc : Thread Cert.OdBwdIdeal.nD Cert.OdBwdIdeal.τ).loc Cert.OdBwdIdeal.main_v0_4)) (v5 : (c : Dev Cert.OdBwdIdeal.nD) → Buf (Elt Ideal) ((c.tc : Thread Cert.OdBwdIdeal.nD Cert.OdBwdIdeal.τ).loc Cert.OdBwdIdeal.main_v0_5)) (v6 : (c : Dev Cert.OdBwdIdeal.nD) → Buf (Elt Ideal) ((c.tc : Thread Cert.OdBwdIdeal.nD Cert.OdBwdIdeal.τ).loc Cert.OdBwdIdeal.main_v0_6)),
      θ_run (Cert.OdBwdIdeal.defs (F := Ideal)) (onTc (τ := Cert.OdBwdIdeal.τ) (Cert.OdBwdIdeal.main (F := Ideal))) ⟨m, fun _ => 0, g⟩ (fun r => ∀ c : Dev Cert.OdBwdIdeal.nD,
          r.2.mem ((c.tc : Thread Cert.OdBwdIdeal.nD Cert.OdBwdIdeal.τ).loc Cert.OdBwdIdeal.main_v0_0) = v0 c
          ∧ r.2.mem ((c.tc : Thread Cert.OdBwdIdeal.nD Cert.OdBwdIdeal.τ).loc Cert.OdBwdIdeal.main_v0_1) = v1 c
          ∧ r.2.mem ((c.tc : Thread Cert.OdBwdIdeal.nD Cert.OdBwdIdeal.τ).loc Cert.OdBwdIdeal.main_v0_2) = v2 c
          ∧ r.2.mem ((c.tc : Thread Cert.OdBwdIdeal.nD Cert.OdBwdIdeal.τ).loc Cert.OdBwdIdeal.main_v0_3) = v3 c
          ∧ r.2.mem ((c.tc : Thread Cert.OdBwdIdeal.nD Cert.OdBwdIdeal.τ).loc Cert.OdBwdIdeal.main_v0_4) = v4 c
          ∧ r.2.mem ((c.tc : Thread Cert.OdBwdIdeal.nD Cert.OdBwdIdeal.τ).loc Cert.OdBwdIdeal.main_v0_5) = v5 c
          ∧ r.2.mem ((c.tc : Thread Cert.OdBwdIdeal.nD Cert.OdBwdIdeal.τ).loc Cert.OdBwdIdeal.main_v0_6) = v6 c
          ∧ r.2.mem ((c.tc : Thread Cert.OdBwdIdeal.nD Cert.OdBwdIdeal.τ).loc Cert.OdBwdIdeal.main_arg0) = m ((c.tc : Thread Cert.OdBwdIdeal.nD Cert.OdBwdIdeal.τ).loc Cert.OdBwdIdeal.main_arg0)
          ∧ r.2.mem ((c.tc : Thread Cert.OdBwdIdeal.nD Cert.OdBwdIdeal.τ).loc Cert.OdBwdIdeal.main_arg1) = m ((c.tc : Thread Cert.OdBwdIdeal.nD Cert.OdBwdIdeal.τ).loc Cert.OdBwdIdeal.main_arg1)
          ∧ r.2.mem ((c.tc : Thread Cert.OdBwdIdeal.nD Cert.OdBwdIdeal.τ).loc Cert.OdBwdIdeal.main_arg2) = m ((c.tc : Thread Cert.OdBwdIdeal.nD Cert.OdBwdIdeal.τ).loc Cert.OdBwdIdeal.main_arg2)
          ∧ r.2.mem ((c.tc : Thread Cert.OdBwdIdeal.nD Cert.OdBwdIdeal.τ).loc Cert.OdBwdIdeal.main_arg3) = m ((c.tc : Thread Cert.OdBwdIdeal.nD Cert.OdBwdIdeal.τ).loc Cert.OdBwdIdeal.main_arg3)
          ∧ r.2.mem ((c.tc : Thread Cert.OdBwdIdeal.nD Cert.OdBwdIdeal.τ).loc Cert.OdBwdIdeal.main_arg4) = m ((c.tc : Thread Cert.OdBwdIdeal.nD Cert.OdBwdIdeal.τ).loc Cert.OdBwdIdeal.main_arg4)
          ∧ r.2.mem ((c.tc : Thread Cert.OdBwdIdeal.nD Cert.OdBwdIdeal.τ).loc Cert.OdBwdIdeal.main_arg5) = m ((c.tc : Thread Cert.OdBwdIdeal.nD Cert.OdBwdIdeal.τ).loc Cert.OdBwdIdeal.main_arg5)
          ∧ r.2.mem ((c.tc : Thread Cert.OdBwdIdeal.nD Cert.OdBwdIdeal.τ).loc Cert.OdBwdIdeal.main_arg6) = m ((c.tc : Thread Cert.OdBwdIdeal.nD Cert.OdBwdIdeal.τ).loc Cert.OdBwdIdeal.main_arg6)
          ∧ r.2.mem ((c.tc : Thread Cert.OdBwdIdeal.nD Cert.OdBwdIdeal.τ).loc Cert.OdBwdIdeal.main_arg7) = m ((c.tc : Thread Cert.OdBwdIdeal.nD Cert.OdBwdIdeal.τ).loc Cert.OdBwdIdeal.main_arg7)
          ∧ r.2.mem ((c.tc : Thread Cert.OdBwdIdeal.nD Cert.OdBwdIdeal.τ).loc Cert.OdBwdIdeal.main_arg8) = m ((c.tc : Thread Cert.OdBwdIdeal.nD Cert.OdBwdIdeal.τ).loc Cert.OdBwdIdeal.main_arg8)
          ∧ r.2.mem ((c.tc : Thread Cert.OdBwdIdeal.nD Cert.OdBwdIdeal.τ).loc Cert.OdBwdIdeal.main_arg9) = m ((c.tc : Thread Cert.OdBwdIdeal.nD Cert.OdBwdIdeal.τ).loc Cert.OdBwdIdeal.main_arg9))
      ∧ θ_run (Cert.OdBwdRefIdeal.defs (F := Ideal)) (onTc (τ := Cert.OdBwdRefIdeal.τ) (Cert.OdBwdRefIdeal.main (F := Ideal))) ⟨m', fun _ => 0, g'⟩ (fun r => ∀ c : Dev Cert.OdBwdRefIdeal.nD,
          r.2.mem ((c.tc : Thread Cert.OdBwdRefIdeal.nD Cert.OdBwdRefIdeal.τ).loc Cert.OdBwdRefIdeal.main_v85) = v0 c
          ∧ r.2.mem ((c.tc : Thread Cert.OdBwdRefIdeal.nD Cert.OdBwdRefIdeal.τ).loc Cert.OdBwdRefIdeal.main_v86) = v1 c
          ∧ r.2.mem ((c.tc : Thread Cert.OdBwdRefIdeal.nD Cert.OdBwdRefIdeal.τ).loc Cert.OdBwdRefIdeal.main_v79) = v2 c
          ∧ r.2.mem ((c.tc : Thread Cert.OdBwdRefIdeal.nD Cert.OdBwdRefIdeal.τ).loc Cert.OdBwdRefIdeal.main_v80) = v3 c
          ∧ r.2.mem ((c.tc : Thread Cert.OdBwdRefIdeal.nD Cert.OdBwdRefIdeal.τ).loc Cert.OdBwdRefIdeal.main_v60) = v4 c
          ∧ r.2.mem ((c.tc : Thread Cert.OdBwdRefIdeal.nD Cert.OdBwdRefIdeal.τ).loc Cert.OdBwdRefIdeal.main_v83) = v5 c
          ∧ r.2.mem ((c.tc : Thread Cert.OdBwdRefIdeal.nD Cert.OdBwdRefIdeal.τ).loc Cert.OdBwdRefIdeal.main_v82) = v6 c
          ∧ r.2.mem ((c.tc : Thread Cert.OdBwdRefIdeal.nD Cert.OdBwdRefIdeal.τ).loc Cert.OdBwdRefIdeal.main_arg0) = m' ((c.tc : Thread Cert.OdBwdRefIdeal.nD Cert.OdBwdRefIdeal.τ).loc Cert.OdBwdRefIdeal.main_arg0)
          ∧ r.2.mem ((c.tc : Thread Cert.OdBwdRefIdeal.nD Cert.OdBwdRefIdeal.τ).loc Cert.OdBwdRefIdeal.main_arg1) = m' ((c.tc : Thread Cert.OdBwdRefIdeal.nD Cert.OdBwdRefIdeal.τ).loc Cert.OdBwdRefIdeal.main_arg1)
          ∧ r.2.mem ((c.tc : Thread Cert.OdBwdRefIdeal.nD Cert.OdBwdRefIdeal.τ).loc Cert.OdBwdRefIdeal.main_arg2) = m' ((c.tc : Thread Cert.OdBwdRefIdeal.nD Cert.OdBwdRefIdeal.τ).loc Cert.OdBwdRefIdeal.main_arg2)
          ∧ r.2.mem ((c.tc : Thread Cert.OdBwdRefIdeal.nD Cert.OdBwdRefIdeal.τ).loc Cert.OdBwdRefIdeal.main_arg3) = m' ((c.tc : Thread Cert.OdBwdRefIdeal.nD Cert.OdBwdRefIdeal.τ).loc Cert.OdBwdRefIdeal.main_arg3)
          ∧ r.2.mem ((c.tc : Thread Cert.OdBwdRefIdeal.nD Cert.OdBwdRefIdeal.τ).loc Cert.OdBwdRefIdeal.main_arg4) = m' ((c.tc : Thread Cert.OdBwdRefIdeal.nD Cert.OdBwdRefIdeal.τ).loc Cert.OdBwdRefIdeal.main_arg4)
          ∧ r.2.mem ((c.tc : Thread Cert.OdBwdRefIdeal.nD Cert.OdBwdRefIdeal.τ).loc Cert.OdBwdRefIdeal.main_arg5) = m' ((c.tc : Thread Cert.OdBwdRefIdeal.nD Cert.OdBwdRefIdeal.τ).loc Cert.OdBwdRefIdeal.main_arg5)
          ∧ r.2.mem ((c.tc : Thread Cert.OdBwdRefIdeal.nD Cert.OdBwdRefIdeal.τ).loc Cert.OdBwdRefIdeal.main_arg6) = m' ((c.tc : Thread Cert.OdBwdRefIdeal.nD Cert.OdBwdRefIdeal.τ).loc Cert.OdBwdRefIdeal.main_arg6)
          ∧ r.2.mem ((c.tc : Thread Cert.OdBwdRefIdeal.nD Cert.OdBwdRefIdeal.τ).loc Cert.OdBwdRefIdeal.main_arg7) = m' ((c.tc : Thread Cert.OdBwdRefIdeal.nD Cert.OdBwdRefIdeal.τ).loc Cert.OdBwdRefIdeal.main_arg7)
          ∧ r.2.mem ((c.tc : Thread Cert.OdBwdRefIdeal.nD Cert.OdBwdRefIdeal.τ).loc Cert.OdBwdRefIdeal.main_arg8) = m' ((c.tc : Thread Cert.OdBwdRefIdeal.nD Cert.OdBwdRefIdeal.τ).loc Cert.OdBwdRefIdeal.main_arg8)
          ∧ r.2.mem ((c.tc : Thread Cert.OdBwdRefIdeal.nD Cert.OdBwdRefIdeal.τ).loc Cert.OdBwdRefIdeal.main_arg9) = m' ((c.tc : Thread Cert.OdBwdRefIdeal.nD Cert.OdBwdRefIdeal.τ).loc Cert.OdBwdRefIdeal.main_arg9))

def Claim : Prop :=
  ∃ (hKernel : Cert.Kernel.Facts) (hKernelIdeal : Cert.KernelIdeal.Facts) (hReferenceIdeal : Cert.ReferenceIdeal.Facts) (hOdIn : Cert.OdIn.Facts) (hOdInIdeal : Cert.OdInIdeal.Facts) (hOdInRefIdeal : Cert.OdInRefIdeal.Facts) (hEvIn : Cert.EvIn.Facts) (hEvInIdeal : Cert.EvInIdeal.Facts) (hEvInRefIdeal : Cert.EvInRefIdeal.Facts) (hOut : Cert.Out.Facts) (hOutIdeal : Cert.OutIdeal.Facts) (hOutRefIdeal : Cert.OutRefIdeal.Facts) (hFwd : Cert.Fwd.Facts) (hFwdIdeal : Cert.FwdIdeal.Facts) (hFwdRefIdeal : Cert.FwdRefIdeal.Facts) (hOdProj : Cert.OdProj.Facts) (hOdProjIdeal : Cert.OdProjIdeal.Facts) (hOdProjRefIdeal : Cert.OdProjRefIdeal.Facts) (hEvProj : Cert.EvProj.Facts) (hEvProjIdeal : Cert.EvProjIdeal.Facts) (hEvProjRefIdeal : Cert.EvProjRefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hOdBwd : Cert.OdBwd.Facts) (hOdBwdIdeal : Cert.OdBwdIdeal.Facts) (hOdBwdRefIdeal : Cert.OdBwdRefIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OdIn (hOdIn := hOdIn)
    ∧ quiescent_OdInIdeal (hOdInIdeal := hOdInIdeal)
    ∧ quiescent_OdInRefIdeal (hOdInRefIdeal := hOdInRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_Out (hOut := hOut)
    ∧ quiescent_OutIdeal (hOutIdeal := hOutIdeal)
    ∧ quiescent_OutRefIdeal (hOutRefIdeal := hOutRefIdeal)
    ∧ quiescent_Fwd (hFwd := hFwd)
    ∧ quiescent_FwdIdeal (hFwdIdeal := hFwdIdeal)
    ∧ quiescent_FwdIdeal_pre_finite_qk (hFwdIdeal := hFwdIdeal) (hPre_finite_qk := hPre_finite_qk)
    ∧ quiescent_FwdRefIdeal (hFwdRefIdeal := hFwdRefIdeal)
    ∧ quiescent_FwdRefIdeal_pre_finite_qk (hFwdRefIdeal := hFwdRefIdeal) (hPre_finite_qk := hPre_finite_qk)
    ∧ quiescent_OdProj (hOdProj := hOdProj)
    ∧ quiescent_OdProjIdeal (hOdProjIdeal := hOdProjIdeal)
    ∧ quiescent_OdProjRefIdeal (hOdProjRefIdeal := hOdProjRefIdeal)
    ∧ quiescent_EvProj (hEvProj := hEvProj)
    ∧ quiescent_EvProjIdeal (hEvProjIdeal := hEvProjIdeal)
    ∧ quiescent_EvProjRefIdeal (hEvProjRefIdeal := hEvProjRefIdeal)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_OdBwd (hOdBwd := hOdBwd)
    ∧ quiescent_OdBwdIdeal (hOdBwdIdeal := hOdBwdIdeal)
    ∧ quiescent_OdBwdRefIdeal (hOdBwdRefIdeal := hOdBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OdIn_OdInIdeal
    ∧ algebraic_OdInIdeal_OdInRefIdeal (hOdInIdeal := hOdInIdeal) (hOdInRefIdeal := hOdInRefIdeal)
    ∧ preserves_EvIn_EvInIdeal
    ∧ algebraic_EvInIdeal_EvInRefIdeal (hEvInIdeal := hEvInIdeal) (hEvInRefIdeal := hEvInRefIdeal)
    ∧ preserves_Out_OutIdeal
    ∧ algebraic_OutIdeal_OutRefIdeal (hOutIdeal := hOutIdeal) (hOutRefIdeal := hOutRefIdeal)
    ∧ preserves_Fwd_FwdIdeal
    ∧ algebraic_FwdIdeal_FwdRefIdeal_pre_finite_qk (hFwdIdeal := hFwdIdeal) (hFwdRefIdeal := hFwdRefIdeal) (hPre_finite_qk := hPre_finite_qk)
    ∧ preserves_OdProj_OdProjIdeal
    ∧ algebraic_OdProjIdeal_OdProjRefIdeal (hOdProjIdeal := hOdProjIdeal) (hOdProjRefIdeal := hOdProjRefIdeal)
    ∧ preserves_EvProj_EvProjIdeal
    ∧ algebraic_EvProjIdeal_EvProjRefIdeal (hEvProjIdeal := hEvProjIdeal) (hEvProjRefIdeal := hEvProjRefIdeal)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
    ∧ preserves_OdBwd_OdBwdIdeal
    ∧ algebraic_OdBwdIdeal_OdBwdRefIdeal (hOdBwdIdeal := hOdBwdIdeal) (hOdBwdRefIdeal := hOdBwdRefIdeal)
-- ==== Pre_finite.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part1 {F : FTy → Type} [FloatOps F] (main_v13 : IVec S_ 1) (main_v16 : IVec S8192x4x128 1) : IVec S_ 1 :=
  let main_c_5 : IVec S_ 1 := constantI S_ 1 1#1
  let main_v17 : IVec S_ 1 := (fun x v => Host.reduce IntOp.andi x v reducesTo_S8192x4x128_S_d0_1_2 h_S_) main_v16 main_c_5
  let main_v18 : IVec S_ 1 := andi main_v13 main_v17
  main_v18

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x4x128 .f32 := Host.absf main_arg3
  let main_cst_4 : FVec F S_ .f32 := constant S_ .f32 0x7F800000#32
  let main_v15 : FVec F S8192x4x128 .f32 := broadcastInDim S8192x4x128 ![] bcast_S_S8192x4x128 main_cst_4
  let main_v16 : IVec S8192x4x128 1 := cmpf .olt main_v14 main_v15
  fn_part1 (F := F) main_v13 main_v16
-- ==== Pre_finite_qk.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel

variable [Facts]

def fn {F : FTy → Type} [FloatOps F] (main_arg0 : FVec F S8192x4x192 .f32) (main_arg1 : FVec F S8192x4x192 .f32) (main_arg2 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  main_v8
-- ==== Kernel.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S4x8192x8192 : Shape := ⟨3, ![4, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x1x8192 : Shape := ⟨3, ![4, 1, 8192]⟩
abbrev S1024x256 : Shape := ⟨2, ![1024, 256]⟩
abbrev S1024x128 : Shape := ⟨2, ![1024, 128]⟩
abbrev S1x1x1024 : Shape := ⟨3, ![1, 1, 1024]⟩
abbrev S8192x256 : Shape := ⟨2, ![8192, 256]⟩
abbrev S8192x128 : Shape := ⟨2, ![8192, 128]⟩
abbrev S128x1024 : Shape := ⟨2, ![128, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 51
  | .vmem => 19
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S8192x4x256, .f32⟩
  | .hbm, ⟨9, _⟩ => ⟨S_, .f32⟩
  | .hbm, ⟨10, _⟩ => ⟨S8192x4x256, .f32⟩
  | .hbm, ⟨11, _⟩ => ⟨S8192x4x256, .f32⟩
  | .hbm, ⟨12, _⟩ => ⟨S8192x4x256, .f32⟩
  | .hbm, ⟨13, _⟩ => ⟨S8192x4x256, .f32⟩
  | .hbm, ⟨14, _⟩ => ⟨S8192x1024, .f32⟩
  | .hbm, ⟨15, _⟩ => ⟨S8192x1024, .bf16⟩
  | .hbm, ⟨16, _⟩ => ⟨S_, .i32⟩
  | .hbm, ⟨17, _⟩ => ⟨S_, .f32⟩
  | .hbm, ⟨18, _⟩ => ⟨S8192x4x256, .f32⟩
  | .hbm, ⟨19, _⟩ => ⟨S8192x1024, .f32⟩
  | .hbm, ⟨20, _⟩ => ⟨S8192x1024, .bf16⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .bf16⟩
  | .hbm, ⟨25, _⟩ => ⟨S4x8192x8192, .f32⟩
  | .hbm, ⟨26, _⟩ => ⟨S_, .f32⟩
  | .hbm, ⟨27, _⟩ => ⟨S4x8192x8192, .f32⟩
  | .hbm, ⟨28, _⟩ => ⟨S4x8192x8192, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x128x8192, .f32⟩
  | .hbm, ⟨41, _⟩ => ⟨S8192x4x128, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1, .f32⟩
  | .hbm, ⟨46, _⟩ => ⟨S8192x512, .f32⟩
  | .hbm, ⟨47, _⟩ => ⟨S4x1x8192, .f32⟩
  | .hbm, ⟨48, _⟩ => ⟨S8192x1024, .f32⟩
  | .hbm, ⟨49, _⟩ => ⟨S8192x1024, .f32⟩
  | .hbm, ⟨50, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1x1x1024, .f32⟩
  | .local _ .vmem, ⟨7, _⟩ => ⟨S1x1x1024, .f32⟩
  | .local _ .vmem, ⟨8, _⟩ => ⟨S8192x256, .bf16⟩
  | .local _ .vmem, ⟨9, _⟩ => ⟨S8192x256, .bf16⟩
  | .local _ .vmem, ⟨10, _⟩ => ⟨S8192x128, .bf16⟩
  | .local _ .vmem, ⟨11, _⟩ => ⟨S8192x128, .bf16⟩
  | .local _ .vmem, ⟨12, _⟩ => ⟨S1024x256, .f32⟩
  | .local _ .vmem, ⟨13, _⟩ => ⟨S1024x256, .f32⟩
  | .local _ .vmem, ⟨14, _⟩ => ⟨S8192x256, .f32⟩
  | .local _ .vmem, ⟨15, _⟩ => ⟨S8192x256, .f32⟩
  | .local _ .vmem, ⟨16, _⟩ => ⟨S8192x128, .f32⟩
  | .local _ .vmem, ⟨17, _⟩ => ⟨S8192x128, .f32⟩
  | .local _ .vmem, ⟨18, _⟩ => ⟨S1024x256, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_10 : BitVec 32 := 0#32
  let c8_i32 : BitVec 32 := 8#32
  let v18 : BitVec 32 := Scalar.addi c0_i32_10 c8_i32
  let c1_i32 : BitVec 32 := 1#32
  ⟨c0_i32_10, v18, c1_i32⟩
def k0_mult1 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32 : BitVec 32 := 1024#32
  let v21 : BitVec 32 := Scalar.muli arg12 c1024_i32
  v21
def k0_off1 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c1024_i32 : BitVec 32 := 1024#32
  let v21 : BitVec 32 := Scalar.muli arg12 c1024_i32
  let v22 : BitVec 32 := v21
  let v23 : Index := Scalar.indexCast v22
  let c0_16 : Index := 0#32
  ![v23.toNat, 0]
def k0_mult2 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_20 : BitVec 32 := 1024#32
  let v29 : BitVec 32 := Scalar.muli arg12 c1024_i32_20
  v29
def k0_off2 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c1024_i32_20 : BitVec 32 := 1024#32
  let v29 : BitVec 32 := Scalar.muli arg12 c1024_i32_20
  let v30 : BitVec 32 := v29
  let v31 : Index := Scalar.indexCast v30
  let c0_21 : Index := 0#32
  ![v31.toNat, 0]
def k0_mult3 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_25 : BitVec 32 := 1024#32
  let v44 : BitVec 32 := Scalar.muli arg12 c1024_i32_25
  v44
def k0_mult4 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_31 : BitVec 32 := 1024#32
  let v56 : BitVec 32 := Scalar.muli arg12 c1024_i32_31
  v56
def k0_mult5 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c1024_i32_39 : BitVec 32 := 1024#32
  let v68 : BitVec 32 := Scalar.muli arg12 c1024_i32_39
  v68
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S8192x1024 : Shape := ⟨2, ![8192, 1024]⟩
abbrev S8192x512 : Shape := ⟨2, ![8192, 512]⟩

abbrev nBuf : Space → Nat
  | .hbm => 89
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x8192, .f32⟩
  | .hbm, ⟨12, _⟩ => ⟨S4x8192x8192, .i1⟩
  | .hbm, ⟨13, _⟩ => ⟨S4x8192x8192, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .i1⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x8192, .f32⟩
  | .hbm, ⟨41, _⟩ => ⟨S4x8192x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x128x8192, .f32⟩
  | .hbm, ⟨47, _⟩ => ⟨S8192x4x128, .f32⟩
  | .hbm, ⟨48, _⟩ => ⟨S4x128x8192, .f32⟩
  | .hbm, ⟨49, _⟩ => ⟨S4x8192x8192, .f32⟩
  | .hbm, ⟨50, _⟩ => ⟨S4x128x8192, .f32⟩
  | .hbm, ⟨51, _⟩ => ⟨S8192x4x128, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S_, .f32⟩
  | .hbm, ⟨62, _⟩ => ⟨S4x8192, .f32⟩
  | .hbm, ⟨63, _⟩ => ⟨S4x8192x8192, .f32⟩
  | .hbm, ⟨64, _⟩ => ⟨S4x8192x8192, .f32⟩
  | .hbm, ⟨65, _⟩ => ⟨S4x8192x8192, .f32⟩
  | .hbm, ⟨66, _⟩ => ⟨S_, .f32⟩
  | .hbm, ⟨67, _⟩ => ⟨S4x8192x8192, .f32⟩
  | .hbm, ⟨68, _⟩ => ⟨S4x8192x8192, .f32⟩
  | .hbm, ⟨69, _⟩ => ⟨S4x8192x192, .f32⟩
  | .hbm, ⟨70, _⟩ => ⟨S8192x4x192, .f32⟩
  | .hbm, ⟨71, _⟩ => ⟨S4x8192x192, .f32⟩
  | .hbm, ⟨72, _⟩ => ⟨S8192x4x192, .f32⟩
  | .hbm, ⟨73, _⟩ => ⟨S_, .f32⟩
  | .hbm, ⟨74, _⟩ => ⟨S8192x4x192, .f32⟩
  | .hbm, ⟨75, _⟩ => ⟨S8192x4x192, .f32⟩
  | .hbm, ⟨76, _⟩ => ⟨S_, .i32⟩
  | .hbm, ⟨77, _⟩ => ⟨S_, .f32⟩
  | .hbm, ⟨78, _⟩ => ⟨S8192x4x256, .f32⟩
  | .hbm, ⟨79, _⟩ => ⟨S8192x1024, .f32⟩
  | .hbm, ⟨80, _⟩ => ⟨S_, .f32⟩
  | .hbm, ⟨81, _⟩ => ⟨S_, .f32⟩
  | .hbm, ⟨82, _⟩ => ⟨S8192x4x192, .f32⟩
  | .hbm, ⟨83, _⟩ => ⟨S8192x4x192, .f32⟩
  | .hbm, ⟨84, _⟩ => ⟨S_, .i32⟩
  | .hbm, ⟨85, _⟩ => ⟨S_, .f32⟩
  | .hbm, ⟨86, _⟩ => ⟨S8192x4x256, .f32⟩
  | .hbm, ⟨87, _⟩ => ⟨S8192x1024, .f32⟩
  | .hbm, ⟨88, _⟩ => ⟨S8192x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_call0_v0 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_15 : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== OdIn.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvIn.lean ====
abbrev S8192x1024 : Shape := ⟨2, ![8192, 1024]⟩
abbrev S8192x3328 : Shape := ⟨2, ![8192, 3328]⟩
abbrev S1024x3328 : Shape := ⟨2, ![1024, 3328]⟩
abbrev S1024x1024 : Shape := ⟨2, ![1024, 1024]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S1024x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S8192x1024 : Shape := ⟨2, ![8192, 1024]⟩
abbrev S8192x3328 : Shape := ⟨2, ![8192, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S_, .f32⟩
  | .hbm, ⟨3, _⟩ => ⟨S1024x3328, .f32⟩
  | .hbm, ⟨4, _⟩ => ⟨S8192x1024, .f32⟩
  | .hbm, ⟨5, _⟩ => ⟨S8192x3328, .f32⟩
  | .hbm, ⟨6, _⟩ => ⟨S8192x3328, .f32⟩
  | .hbm, ⟨7, _⟩ => ⟨S3328x1024, .f32⟩
  | .hbm, ⟨8, _⟩ => ⟨S1024x3328, .f32⟩
  | .hbm, ⟨9, _⟩ => ⟨S1024x3328, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fwd.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S4x1x8192 : Shape := ⟨3, ![4, 1, 8192]⟩
abbrev S2048x256 : Shape := ⟨2, ![2048, 256]⟩
abbrev S8192x256 : Shape := ⟨2, ![8192, 256]⟩
abbrev S8192x128 : Shape := ⟨2, ![8192, 128]⟩
abbrev S2048x128 : Shape := ⟨2, ![2048, 128]⟩
abbrev S1x1x2048 : Shape := ⟨3, ![1, 1, 2048]⟩
abbrev S1x2048 : Shape := ⟨2, ![1, 2048]⟩
abbrev S128x2048 : Shape := ⟨2, ![128, 2048]⟩
abbrev S1024x2048 : Shape := ⟨2, ![1024, 2048]⟩
abbrev S1024x256 : Shape := ⟨2, ![1024, 256]⟩
abbrev S2048 : Shape := ⟨1, ![2048]⟩
abbrev S1024x128 : Shape := ⟨2, ![1024, 128]⟩

abbrev nBuf : Space → Nat
  | .hbm => 24
  | .vmem => 15
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S_, .i32⟩
  | .hbm, ⟨4, _⟩ => ⟨S_, .f32⟩
  | .hbm, ⟨5, _⟩ => ⟨S8192x4x256, .f32⟩
  | .hbm, ⟨6, _⟩ => ⟨S_, .f32⟩
  | .hbm, ⟨7, _⟩ => ⟨S8192x4x256, .f32⟩
  | .hbm, ⟨8, _⟩ => ⟨S8192x4x256, .f32⟩
  | .hbm, ⟨9, _⟩ => ⟨S_, .f32⟩
  | .hbm, ⟨10, _⟩ => ⟨S_, .f32⟩
  | .hbm, ⟨11, _⟩ => ⟨S8192x4x256, .f32⟩
  | .hbm, ⟨12, _⟩ => ⟨S8192x4x256, .f32⟩
  | .hbm, ⟨13, _⟩ => ⟨S8192x1024, .f32⟩
  | .hbm, ⟨14, _⟩ => ⟨S8192x1024, .bf16⟩
  | .hbm, ⟨15, _⟩ => ⟨S_, .i32⟩
  | .hbm, ⟨16, _⟩ => ⟨S_, .f32⟩
  | .hbm, ⟨17, _⟩ => ⟨S8192x4x256, .f32⟩
  | .hbm, ⟨18, _⟩ => ⟨S8192x1024, .f32⟩
  | .hbm, ⟨19, _⟩ => ⟨S8192x1024, .bf16⟩
  | .hbm, ⟨20, _⟩ => ⟨S8192x512, .f32⟩
  | .hbm, ⟨21, _⟩ => ⟨S8192x512, .bf16⟩
  | .hbm, ⟨22, _⟩ => ⟨S8192x512, .f32⟩
  | .hbm, ⟨23, _⟩ => ⟨S4x1x8192, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S1024x2048, .f32⟩
  | .local _ .vmem, ⟨14, _⟩ => ⟨S1024x2048, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
@[reducible] def k0_t1_loop : Scf.Loop 32 :=
  let c0_i32_13 : BitVec 32 := 0#32
  let c4_i32 : BitVec 32 := 4#32
  let v22 : BitVec 32 := Scalar.addi c0_i32_13 c4_i32
  let c1_i32 : BitVec 32 := 1#32
  ⟨c0_i32_13, v22, c1_i32⟩
def k0_mult2 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_28 : BitVec 32 := 1#32
  let v40 : BitVec 32 := Scalar.addi v39 c1_i32_28
  let c1024_i32 : BitVec 32 := 1024#32
  let v41 : BitVec 32 := Scalar.muli v40 c1024_i32
  v41
def k0_off1 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_28 : BitVec 32 := 1#32
  let v40 : BitVec 32 := Scalar.addi v39 c1_i32_28
  let c1024_i32 : BitVec 32 := 1024#32
  let v41 : BitVec 32 := Scalar.muli v40 c1024_i32
  let v42 : BitVec 32 := v41
  let v43 : Index := Scalar.indexCast v42
  let c0_29 : Index := 0#32
  ![v43.toNat, 0]
def k0_mult3 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1024_i32_45 : BitVec 32 := 1024#32
  let v70 : BitVec 32 := Scalar.muli v39 c1024_i32_45
  v70
def k0_off2 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1024_i32_45 : BitVec 32 := 1024#32
  let v70 : BitVec 32 := Scalar.muli v39 c1024_i32_45
  let v71 : BitVec 32 := v70
  let v72 : Index := Scalar.indexCast v71
  let c0_46 : Index := 0#32
  ![v72.toNat, 0]
def k0_mult4 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c2_i32_54 : BitVec 32 := 2#32
  let v87 : BitVec 32 := Scalar.addi v39 c2_i32_54
  let c7_i32 : BitVec 32 := 7#32
  let v88 : BitVec 32 := Scalar.minsi v87 c7_i32
  let c1024_i32_55 : BitVec 32 := 1024#32
  let v89 : BitVec 32 := Scalar.muli v88 c1024_i32_55
  v89
def k0_off3 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c2_i32_54 : BitVec 32 := 2#32
  let v87 : BitVec 32 := Scalar.addi v39 c2_i32_54
  let c7_i32 : BitVec 32 := 7#32
  let v88 : BitVec 32 := Scalar.minsi v87 c7_i32
  let c1024_i32_55 : BitVec 32 := 1024#32
  let v89 : BitVec 32 := Scalar.muli v88 c1024_i32_55
  let v90 : BitVec 32 := v89
  let v91 : Index := Scalar.indexCast v90
  let c0_56 : Index := 0#32
  ![v91.toNat, 0]
def k0_mult5 (k0_t1 : Fin k0_t1_loop.trips) : BitVec 32 :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_64 : BitVec 32 := 1#32
  let v101 : BitVec 32 := Scalar.addi v39 c1_i32_64
  let c1024_i32_73 : BitVec 32 := 1024#32
  let v119 : BitVec 32 := Scalar.muli v101 c1024_i32_73
  v119
def k0_off4 (k0_t1 : Fin k0_t1_loop.trips) : Fin 2 → Nat :=
  let c2_i32 : BitVec 32 := 2#32
  let c0_i32_13 : BitVec 32 := 0#32
  let c1_i32 : BitVec 32 := 1#32
  let arg12 : BitVec 32 := Scf.iv c0_i32_13 c1_i32 k0_t1
  let v39 : BitVec 32 := Scalar.muli c2_i32 arg12
  let c1_i32_64 : BitVec 32 := 1#32
  let v101 : BitVec 32 := Scalar.addi v39 c1_i32_64
  let c1024_i32_73 : BitVec 32 := 1024#32
  let v119 : BitVec 32 := Scalar.muli v101 c1024_i32_73
  let v120 : BitVec 32 := v119
  let v121 : Index := Scalar.indexCast v120
  let c0_74 : Index := 0#32
  ![v121.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | _ => none
-- ==== FwdRefIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192x512 : Shape := ⟨2, ![8192, 512]⟩
abbrev S4x1x8192 : Shape := ⟨3, ![4, 1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x1, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x128x8192, .f32⟩
  | .hbm, ⟨37, _⟩ => ⟨S8192x4x128, .f32⟩
  | .hbm, ⟨38, _⟩ => ⟨S8192x512, .f32⟩
  | .hbm, ⟨39, _⟩ => ⟨S_, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x1x8192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== OdProj.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .bf16⟩
  | .hbm, ⟨5, _⟩ => ⟨S1x3072, .f32⟩
  | .hbm, ⟨6, _⟩ => ⟨S8192x1024, .bf16⟩
  | .hbm, ⟨7, _⟩ => ⟨S8192x3072, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .f32⟩
  | .local _ .vmem, ⟨10, _⟩ => ⟨S512x3072, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OdProjRefIdeal.lean ====
abbrev S8192x1024 : Shape := ⟨2, ![8192, 1024]⟩
abbrev S1x1024 : Shape := ⟨2, ![1, 1024]⟩
abbrev S1x3072 : Shape := ⟨2, ![1, 3072]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3072, .bf16⟩
  | .hbm, ⟨5, _⟩ => ⟨S1x3072, .f32⟩
  | .hbm, ⟨6, _⟩ => ⟨S1x3072, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== EvProj.lean ====
abbrev S8192x1024 : Shape := ⟨2, ![8192, 1024]⟩
abbrev S1x1024 : Shape := ⟨2, ![1, 1024]⟩
abbrev S1x3072 : Shape := ⟨2, ![1, 3072]⟩
abbrev S1024x3328 : Shape := ⟨2, ![1024, 3328]⟩
abbrev S8192x3328 : Shape := ⟨2, ![8192, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3328, .bf16⟩
  | .hbm, ⟨5, _⟩ => ⟨S8192x1024, .bf16⟩
  | .hbm, ⟨6, _⟩ => ⟨S8192x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072, .f32⟩
  | .local _ .vmem, ⟨4, _⟩ => ⟨S1x3072, .f32⟩
  | .local _ .vmem, ⟨5, _⟩ => ⟨S1024x3328, .bf16⟩
  | .local _ .vmem, ⟨6, _⟩ => ⟨S512x1024, .bf16⟩
  | .local _ .vmem, ⟨7, _⟩ => ⟨S512x1024, .bf16⟩
  | .local _ .vmem, ⟨8, _⟩ => ⟨S512x3328, .f32⟩
  | .local _ .vmem, ⟨9, _⟩ => ⟨S512x3328, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvProjRefIdeal.lean ====
abbrev S8192x1024 : Shape := ⟨2, ![8192, 1024]⟩
abbrev S1x1024 : Shape := ⟨2, ![1, 1024]⟩
abbrev S1x3072 : Shape := ⟨2, ![1, 3072]⟩
abbrev S1024x3328 : Shape := ⟨2, ![1024, 3328]⟩
abbrev S_ : Shape := ⟨0, ![]⟩
abbrev S8192 : Shape := ⟨1, ![8192]⟩
abbrev S8192x1 : Shape := ⟨2, ![8192, 1]⟩
abbrev S8192x3328 : Shape := ⟨2, ![8192, 3328]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x3072, .f32⟩
  | .hbm, ⟨3, _⟩ => ⟨S1x3072, .f32⟩
  | .hbm, ⟨4, _⟩ => ⟨S1024x3328, .bf16⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1024x3328, .f32⟩
  | .hbm, ⟨33, _⟩ => ⟨S8192x3328, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Uq.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .bf16⟩
  | .local _ .vmem, ⟨5, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqRefIdeal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S_, .f32⟩
  | .hbm, ⟨3, _⟩ => ⟨S384x1024, .f32⟩
  | .hbm, ⟨4, _⟩ => ⟨S8192x384, .f32⟩
  | .hbm, ⟨5, _⟩ => ⟨S8192x1024, .f32⟩
  | .hbm, ⟨6, _⟩ => ⟨S8192x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ukv.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdBwd.lean ====
abbrev S8192x3072 : Shape := ⟨2, ![8192, 3072]⟩
abbrev S1x3072 : Shape := ⟨2, ![1, 3072]⟩
abbrev S8192x1024 : Shape := ⟨2, ![8192, 1024]⟩
abbrev S1024x3072 : Shape := ⟨2, ![1024, 3072]⟩
abbrev S1x1024 : Shape := ⟨2, ![1, 1024]⟩
abbrev S256x1024 : Shape := ⟨2, ![256, 1024]⟩
abbrev S256x3072 : Shape := ⟨2, ![256, 3072]⟩
abbrev S1024 : Shape := ⟨1, ![1024]⟩
abbrev S256 : Shape := ⟨1, ![256]⟩
abbrev S256x1 : Shape := ⟨2, ![256, 1]⟩

abbrev nBuf : Space → Nat
  | .hbm => 17
  | .vmem => 26
  | .smem => 0
  | _ => 0

abbrev bufTy : (tb : Table) → Fin (tcTables nBuf tb) → BufTy
  | .hbm, ⟨0, _⟩ => ⟨S8192x3072, .f32⟩
  | .hbm, ⟨1, _⟩ => ⟨S1x3072, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S1024x3072, .bf16⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S8192x3072, .bf16⟩
  | .hbm, ⟨11, _⟩ => ⟨S8192x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S1x1024, .f32⟩
  | .local _ .vmem, ⟨14, _⟩ => ⟨S1x3072, .f32⟩
  | .local _ .vmem, ⟨15, _⟩ => ⟨S1x3072, .f32⟩
  | .local _ .vmem, ⟨16, _⟩ => ⟨S1024x3072, .bf16⟩
  | .local _ .vmem, ⟨17, _⟩ => ⟨S256x3072, .bf16⟩
  | .local _ .vmem, ⟨18, _⟩ => ⟨S256x3072, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== OdBwdRefIdeal.lean ====
abbrev S8192x3072 : Shape := ⟨2, ![8192, 3072]⟩
abbrev S1x3072 : Shape := ⟨2, ![1, 3072]⟩
abbrev S8192x1024 : Shape := ⟨2, ![8192, 1024]⟩
abbrev S1024x3072 : Shape := ⟨2, ![1024, 3072]⟩
abbrev S1x1024 : Shape := ⟨2, ![1, 1024]⟩
abbrev S_ : Shape := ⟨0, ![]⟩
abbrev S3072 : Shape := ⟨1, ![3072]⟩
abbrev S8192 : Shape := ⟨1, ![8192]⟩
abbrev S8192x1 : Shape := ⟨2, ![8192, 1]⟩
abbrev S1024 : Shape := ⟨1, ![1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1x3072, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S1024x3072, .bf16⟩
  | .hbm, ⟨7, _⟩ => ⟨S1x1024, .f32⟩
  | .hbm, ⟨8, _⟩ => ⟨S1x3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x3072, .f32⟩
  | .hbm, ⟨33, _⟩ => ⟨S_, .f32⟩
  | .hbm, ⟨34, _⟩ => ⟨S3072, .f32⟩
  | .hbm, ⟨35, _⟩ => ⟨S1x3072, .f32⟩
  | .hbm, ⟨36, _⟩ => ⟨S_, .f32⟩
  | .hbm, ⟨37, _⟩ => ⟨S8192x1024, .f32⟩
  | .hbm, ⟨38, _⟩ => ⟨S1024x3072, .f32⟩
  | .hbm, ⟨39, _⟩ => ⟨S8192x3072, .f32⟩
  | .hbm, ⟨40, _⟩ => ⟨S8192x1024, .f32⟩
  | .hbm, ⟨41, _⟩ => ⟨S1x3072, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1x1024, .f32⟩
  | .hbm, ⟨105, _⟩ => ⟨S1x3072, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S8192x3072, .bf16⟩
  | .hbm, ⟨113, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Proof.Frames.lean ====
/- The frames of the three programs: the two kernels' are the generated ones, the reference's holds because a host
   program declares no semaphore. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof

end
-- ==== Proof.Trip.lean ====
/-
  What the counted loop over the key blocks does, in plain functions.

  One trip takes block `k` of the keys and values (1024 rows), forms the 1024 x 1024 tile of the transposed weights and of
  the transposed score gradients, adds the two products to rows `1024 k ..` of dk and dv, and adds the third product to
  the accumulator of dq. `state` is the triple of contents after `k` trips; `loop_reads` says that the pieces which the
  run of the loop stores, read back, are that triple.
-/
module

public import proofs.«01_k».proof.Proof.Gen.KernelIdeal.Loops
public import Idealize.ShloMosaic.Lib.VecWindow
public import Idealize.ShloMosaic.Lib.Pointwise

@[expose] public section

noncomputable section

namespace Cert.KernelIdeal.Trip

open Idealize.ShloMosaic Idealize.ShloMosaic.TcCoe Cert.KernelIdeal.Gen

variable {F : FTy → Type} [FloatOps F]

/-- Rows `1024 k ..` of an array of 8192 rows. -/
def blk {e : EltTy} {n : ℕ} (x : (⟨2, ![8192, n]⟩ : Shape).Idx → Elt F e) (k : ℕ) : (⟨2, ![1024, n]⟩ : Shape).Idx → Elt F e :=
  fun y => x (ix2 ⟨(1024 * k + (y 0).val) % 8192, Nat.mod_lt _ (by norm_num)⟩ (y 1))

/-- The loop has eight trips. -/
theorem trips_eq : k0_t1_loop.trips = 8 := by decide

theorem off1_eq (k : Fin k0_t1_loop.trips) : k0_off1 k = ![1024 * k.val, 0] := by
  revert k; decide

theorem off2_eq (k : Fin k0_t1_loop.trips) : k0_off2 k = ![1024 * k.val, 0] := by
  revert k; decide

/-- A window of 1024 rows is a block. -/
theorem window_eq_blk {e : EltTy} {n : ℕ} (x : (⟨2, ![8192, n]⟩ : Shape).Idx → Elt F e) (k : ℕ) (hk : k < 8)
    (inb : ∀ a, (![1024 * k, 0] : Fin 2 → ℕ) a + (![1024, n] : Fin 2 → ℕ) a ≤ (⟨2, ![8192, n]⟩ : Shape).size a) :
    VecWindow.window x ![1024 * k, 0] ![1024, n] inb = blk x k := by
  funext y
  refine congrArg x (funext fun a => Fin.ext ?_)
  match a with
  | ⟨0, _⟩ =>
    show 1024 * k + 1 * (y 0).val = (1024 * k + (y 0).val) % 8192
    have : (y 0).val < 1024 := (y 0).isLt
    omega
  | ⟨1, _⟩ =>
    show 0 + 1 * (y 1).val = (y 1).val
    omega

/-- The tile of the score gradients, keys by queries, that trip `k` forms. -/
def dsTile (q : Vec F S1024x256 .bf16) (dO : Vec F S1024x128 .bf16) (K : Vec F S8192x256 .bf16) (V : Vec F S8192x128 .bf16)
    (δ ls : FVec F S1x1024 .f32) (k : ℕ) : FVec F S1024x1024 .bf16 :=
  k0_pay9 δ ls (blk K k) q (blk V k) dO

/-- The contents of dk, dv and the accumulator of dq after one more trip. -/
def next (q : Vec F S1024x256 .bf16) (dO : Vec F S1024x128 .bf16) (K : Vec F S8192x256 .bf16) (V : Vec F S8192x128 .bf16)
    (δ ls : FVec F S1x1024 .f32) (k : ℕ) (s : Vec F S8192x256 .f32 × Vec F S8192x128 .f32 × Vec F S1024x256 .f32) :
    Vec F S8192x256 .f32 × Vec F S8192x128 .f32 × Vec F S1024x256 .f32 :=
  (VecWindow.put (s := S8192x256) s.1 ![1024 * k, 0] ![1024, 256] (k0_pay6 (dsTile q dO K V δ ls k) (k0_pay11 (blk s.1 k)) q),
   VecWindow.put (s := S8192x128) s.2.1 ![1024 * k, 0] ![1024, 128] (k0_pay10 ls (blk K k) q (blk s.2.1 k) dO),
   k0_pay7 (dsTile q dO K V δ ls k) s.2.2 (blk K k))

/-- The contents after `k` trips. -/
def state (q : Vec F S1024x256 .bf16) (dO : Vec F S1024x128 .bf16) (K : Vec F S8192x256 .bf16) (V : Vec F S8192x128 .bf16)
    (δ ls : FVec F S1x1024 .f32) (s : Vec F S8192x256 .f32 × Vec F S8192x128 .f32 × Vec F S1024x256 .f32) :
    ℕ → Vec F S8192x256 .f32 × Vec F S8192x128 .f32 × Vec F S1024x256 .f32
  | 0 => s
  | k + 1 => next q dO K V δ ls k (state q dO K V δ ls s k)

section Loop

variable (𝒱 : Variants) (c : Dev nD) (bd : Option 𝒱.V) (i : grid0.Coords) (arg2 : Memref sig .tc .vmem S1024x256 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1x1x1024 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S1024x256 .f32) (harg11 : arg11.IsWhole)
  (v3 : Vec F S1024x128 .bf16) (v6 : Vec F S1024x128 .f32) (v12 : Vec F S1x1x1024 .f32)
  (X2 : BufTy.Contents (Elt F) arg2.view.ty) (X3 : BufTy.Contents (Elt F) arg3.view.ty) (X6 : BufTy.Contents (Elt F) arg6.view.ty)
  (X7 : BufTy.Contents (Elt F) arg7.view.ty)

/-- One trip's pieces for dk, read back over what the trip found. -/
theorem trip9 (k : Fin k0_t1_loop.trips) (f9 : BufTy.Contents (Elt F) arg9.view.ty) (f10 : BufTy.Contents (Elt F) arg10.view.ty)
    (f11 : BufTy.Contents (Elt F) arg11.view.ty) :
    let T := tripL_k0_t1 (F := F) 𝒱 c bd i arg2 harg2 arg3 harg3 arg4 harg4 arg5 harg5 arg6 harg6 arg7 harg7 arg8 harg8 arg9 harg9 arg10 harg10 arg11 harg11 v3 v6 v12 X2 X3 X6 X7 k f9 f10 f11
    (arg9.view.read (Elt F) (arg9.view.writes (Elt F) f9 T.1), arg10.view.read (Elt F) (arg10.view.writes (Elt F) f10 T.2.1),
        arg11.view.read (Elt F) (arg11.view.writes (Elt F) f11 T.2.2))
      = next (arg2.view.read (Elt F) X2) (arg3.view.read (Elt F) X3) (arg6.view.read (Elt F) X6) (arg7.view.read (Elt F) X7)
          (k0_pay3 v3 v6) (k0_pay4 v12) k.val
          (arg9.view.read (Elt F) f9, arg10.view.read (Elt F) f10, arg11.view.read (Elt F) f11) := by
  have hk : k.val < 8 := Nat.lt_of_lt_of_eq k.isLt trips_eq
  have i1 : ∀ a, (![1024 * k.val, 0] : Fin 2 → ℕ) a + (![1024, 256] : Fin 2 → ℕ) a ≤ S8192x256.size a := off1_eq k ▸ k0_off1_inb k
  have i2 : ∀ a, (![1024 * k.val, 0] : Fin 2 → ℕ) a + (![1024, 128] : Fin 2 → ℕ) a ≤ S8192x128.size a := off2_eq k ▸ k0_off2_inb k
  intro T
  have e2 : View.readAt (Elt F) arg2.view (Rect.unit ![0, 0] ![1024, 256] inb_S1024x256_S1024x256_0_0).toLoadRect X2
      = arg2.view.read (Elt F) X2 := View.readAt_full _ _ _
  have e3 : View.readAt (Elt F) arg3.view (Rect.unit ![0, 0] ![1024, 128] inb_S1024x128_S1024x128_0_0).toLoadRect X3
      = arg3.view.read (Elt F) X3 := View.readAt_full _ _ _
  have e6 : View.readAt (Elt F) arg6.view (Rect.unit (k0_off1 k) ![1024, 256] (k0_off1_inb k)).toLoadRect X6
      = blk (arg6.view.read (Elt F) X6) k.val :=
    by
    rw [View.readAt_unit _ _ (k0_off1_inb k) (off1_eq k) i1]
    exact window_eq_blk _ _ hk i1
  have e7 : View.readAt (Elt F) arg7.view (Rect.unit (k0_off2 k) ![1024, 128] (k0_off2_inb k)).toLoadRect X7
      = blk (arg7.view.read (Elt F) X7) k.val :=
    by
    rw [View.readAt_unit _ _ (k0_off2_inb k) (off2_eq k) i2]
    exact window_eq_blk _ _ hk i2
  have e9 : View.readAt (Elt F) arg9.view (Rect.unit (k0_off1 k) ![1024, 256] (k0_off1_inb k)).toLoadRect f9
      = blk (arg9.view.read (Elt F) f9) k.val :=
    by
    rw [View.readAt_unit _ _ (k0_off1_inb k) (off1_eq k) i1]
    exact window_eq_blk _ _ hk i1
  have e10 : View.readAt (Elt F) arg10.view (Rect.unit (k0_off2 k) ![1024, 128] (k0_off2_inb k)).toLoadRect f10
      = blk (arg10.view.read (Elt F) f10) k.val :=
    by
    rw [View.readAt_unit _ _ (k0_off2_inb k) (off2_eq k) i2]
    exact window_eq_blk _ _ hk i2
  have e11 : View.readAt (Elt F) arg11.view (Rect.unit ![0, 0] ![1024, 256] inb_S1024x256_S1024x256_0_0).toLoadRect f11
      = arg11.view.read (Elt F) f11 := View.readAt_full _ _ _
  have hT : T = ([⟨Rect.unit (k0_off1 k) ![1024, 256] (k0_off1_inb k), k0_pay6 (dsTile (arg2.view.read (Elt F) X2) (arg3.view.read (Elt F) X3)
        (arg6.view.read (Elt F) X6) (arg7.view.read (Elt F) X7) (k0_pay3 v3 v6) (k0_pay4 v12) k.val)
        (k0_pay11 (blk (arg9.view.read (Elt F) f9) k.val)) (arg2.view.read (Elt F) X2)⟩],
      [⟨Rect.unit (k0_off2 k) ![1024, 128] (k0_off2_inb k), k0_pay10 (k0_pay4 v12) (blk (arg6.view.read (Elt F) X6) k.val)
        (arg2.view.read (Elt F) X2) (blk (arg10.view.read (Elt F) f10) k.val) (arg3.view.read (Elt F) X3)⟩],
      [⟨Rect.unit ![0, 0] ![1024, 256] inb_S1024x256_S1024x256_0_0, k0_pay7 (dsTile (arg2.view.read (Elt F) X2)
        (arg3.view.read (Elt F) X3) (arg6.view.read (Elt F) X6) (arg7.view.read (Elt F) X7) (k0_pay3 v3 v6) (k0_pay4 v12) k.val)
        (arg11.view.read (Elt F) f11) (blk (arg6.view.read (Elt F) X6) k.val)⟩]) := by
    show tripL_k0_t1 (F := F) 𝒱 c bd i arg2 harg2 arg3 harg3 arg4 harg4 arg5 harg5 arg6 harg6 arg7 harg7 arg8 harg8 arg9 harg9 arg10 harg10 arg11 harg11 v3 v6 v12 X2 X3 X6 X7 k f9 f10 f11 = _
    unfold tripL_k0_t1 trip_k0_t1
    dsimp only
    unfold trip_k0_t1.sl.r trip_k0_t1.sl.r_1
    unfold dsTile
    rw [← e2, ← e3, ← e6, ← e7, ← e9, ← e10, ← e11]
  rw [hT]
  dsimp only
  unfold next
  refine Prod.ext ?_ (Prod.ext ?_ ?_)
  · exact View.read_writes_cons_put _ _ _ _ [] (off1_eq k)
  · exact View.read_writes_cons_put _ _ _ _ [] (off2_eq k)
  · exact View.read_writes_full _ _ _ _ []

variable (G9 : BufTy.Contents (Elt F) arg9.view.ty) (G10 : BufTy.Contents (Elt F) arg10.view.ty)
  (G11 : BufTy.Contents (Elt F) arg11.view.ty)

/-- The loop's pieces after `k` trips, read back over what the loop found, are the state after `k` trips. -/
theorem loop_reads (k : ℕ) (hk : k ≤ k0_t1_loop.trips) :
    let T := pb_k0_t1 (F := F) 𝒱 c bd i arg2 harg2 arg3 harg3 arg4 harg4 arg5 harg5 arg6 harg6 arg7 harg7 arg8 harg8 arg9 harg9 arg10 harg10 arg11 harg11 v3 v6 v12 X2 X3 X6 X7 G9 G10 G11 k
    (arg9.view.read (Elt F) (arg9.view.writes (Elt F) G9 T.1), arg10.view.read (Elt F) (arg10.view.writes (Elt F) G10 T.2.1),
        arg11.view.read (Elt F) (arg11.view.writes (Elt F) G11 T.2.2))
      = state (arg2.view.read (Elt F) X2) (arg3.view.read (Elt F) X3) (arg6.view.read (Elt F) X6) (arg7.view.read (Elt F) X7)
          (k0_pay3 v3 v6) (k0_pay4 v12)
          (arg9.view.read (Elt F) G9, arg10.view.read (Elt F) G10, arg11.view.read (Elt F) G11) k := by
  induction k with
  | zero => rfl
  | succ k ih =>
    have ih' := ih (Nat.le_of_succ_le hk)
    intro T
    have hT : T = _ := pb_k0_t1_succ (F := F) 𝒱 c bd i arg2 harg2 arg3 harg3 arg4 harg4 arg5 harg5 arg6 harg6 arg7 harg7 arg8 harg8 arg9 harg9 arg10 harg10 arg11 harg11 v3 v6 v12 X2 X3 X6 X7 G9 G10 G11 ⟨k, hk⟩
    rw [hT]
    dsimp only at ih' ⊢
    rw [View.writes_append, View.writes_append, View.writes_append]
    refine (trip9 𝒱 c bd i arg2 harg2 arg3 harg3 arg4 harg4 arg5 harg5 arg6 harg6 arg7 harg7 arg8 harg8 arg9 harg9 arg10 harg10 arg11 harg11 v3 v6 v12 X2 X3 X6 X7 ⟨k, hk⟩ _ _ _).trans ?_
    rw [ih']
    rfl

end Loop

end Cert.KernelIdeal.Trip

end
-- ==== Proof.Cases.lean ====
/-
  What one grid point leaves in its three output blocks, in plain functions of its input blocks (and, from the second
  query tile of a head on, of what the point before left in dk and dv).
-/
module

public import proofs.«01_k».proof.Proof.Trip
public import proofs.«01_k».proof.Proof.Gen.KernelIdeal.Frame

@[expose] public section

set_option maxRecDepth 16384

noncomputable section

namespace Cert.KernelIdeal.Trip

open Idealize.ShloMosaic Idealize.ShloMosaic.TcCoe Cert.KernelIdeal.Gen

variable {F : FTy → Type} [FloatOps F]

/-- dk, dv and dq after a point that found `b9`, `b10` in dk and dv. -/
def point (x0 : Vec F S1024x256 .bf16) (x1 : Vec F S1024x128 .bf16) (x2 : Vec F S1024x128 .f32) (x3 : Vec F S1x1x1024 .f32)
    (x4 : Vec F S8192x256 .bf16) (x5 : Vec F S8192x128 .bf16) (b9 : Vec F S8192x256 .f32) (b10 : Vec F S8192x128 .f32) :
    Vec F S8192x256 .f32 × Vec F S8192x128 .f32 × Vec F S1024x256 .f32 :=
  state x0 x1 x4 x5 (k0_pay3 x1 x2) (k0_pay4 x3) (b9, b10, k0_pay5) 8

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1x1x1024 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S1024x256 .f32) (harg11 : arg11.IsWhole)
  (x0 : Vec F S1024x256 .bf16) (x1 : Vec F S1024x128 .bf16) (x2 : Vec F S1024x128 .f32) (x3 : Vec F S1x1x1024 .f32)
  (x4 : Vec F S8192x256 .bf16) (x5 : Vec F S8192x128 .bf16)

/-- The whole loop, over any contents of dk and dv, from a cleared accumulator. -/
theorem loop_point (G9 : BufTy.Contents (Elt F) arg9.view.ty) (G10 : BufTy.Contents (Elt F) arg10.view.ty) :
    (arg9.view.read (Elt F) (arg9.view.writes (Elt F) G9 (pb_k0_t1 (F := F) Variants.none c none i arg2 harg2 arg3 harg3 arg4 harg4 arg5 harg5 arg6 harg6 arg7 harg7 arg8 harg8 arg9 harg9 arg10 harg10 arg11 harg11 (View.readAt (Elt F) arg3.view (Rect.unit ![0, 0] S1024x128.size inb_S1024x128_S1024x128_0_0).toLoadRect (harg3.unread x1)) (View.readAt (Elt F) arg4.view (Rect.unit ![0, 0] S1024x128.size inb_S1024x128_S1024x128_0_0).toLoadRect (harg4.unread x2)) (View.readAt (Elt F) arg5.view (Rect.unit ![0, 0, 0] S1x1x1024.size inb_S1x1x1024_S1x1x1024_0_0_0).toLoadRect (harg5.unread x3)) (harg2.unread x0) (harg3.unread x1) (harg6.unread x4) (harg7.unread x5) G9 G10 (arg11.view.writes (Elt F) arg11.view.junk [⟨Rect.unit ![0, 0] S1024x256.size inb_S1024x256_S1024x256_0_0, k0_pay5⟩]) k0_t1_loop.trips).1),
     arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 (View.readAt (Elt F) arg3.view (Rect.unit ![0, 0] S1024x128.size inb_S1024x128_S1024x128_0_0).toLoadRect (harg3.unread x1)) (View.readAt (Elt F) arg4.view (Rect.unit ![0, 0] S1024x128.size inb_S1024x128_S1024x128_0_0).toLoadRect (harg4.unread x2)) (View.readAt (Elt F) arg5.view (Rect.unit ![0, 0, 0] S1x1x1024.size inb_S1x1x1024_S1x1x1024_0_0_0).toLoadRect (harg5.unread x3)) (harg2.unread x0) (harg3.unread x1) (harg6.unread x4) (harg7.unread x5) G9 G10 (arg11.view.writes (Elt F) arg11.view.junk [⟨Rect.unit ![0, 0] S1024x256.size inb_S1024x256_S1024x256_0_0, k0_pay5⟩]) k0_t1_loop.trips).2.1),
     arg11.view.read (Elt F) (arg11.view.writes (Elt F) (arg11.view.writes (Elt F) arg11.view.junk [⟨Rect.unit ![0, 0] S1024x256.size inb_S1024x256_S1024x256_0_0, k0_pay5⟩]) (pb_k0_t1 (F := F) Variants.none c none i arg2 harg2 arg3 harg3 arg4 harg4 arg5 harg5 arg6 harg6 arg7 harg7 arg8 harg8 arg9 harg9 arg10 harg10 arg11 harg11 (View.readAt (Elt F) arg3.view (Rect.unit ![0, 0] S1024x128.size inb_S1024x128_S1024x128_0_0).toLoadRect (harg3.unread x1)) (View.readAt (Elt F) arg4.view (Rect.unit ![0, 0] S1024x128.size inb_S1024x128_S1024x128_0_0).toLoadRect (harg4.unread x2)) (View.readAt (Elt F) arg5.view (Rect.unit ![0, 0, 0] S1x1x1024.size inb_S1x1x1024_S1x1x1024_0_0_0).toLoadRect (harg5.unread x3)) (harg2.unread x0) (harg3.unread x1) (harg6.unread x4) (harg7.unread x5) G9 G10 (arg11.view.writes (Elt F) arg11.view.junk [⟨Rect.unit ![0, 0] S1024x256.size inb_S1024x256_S1024x256_0_0, k0_pay5⟩]) k0_t1_loop.trips).2.2))
      = point x0 x1 x2 x3 x4 x5 (arg9.view.read (Elt F) G9) (arg10.view.read (Elt F) G10) := by
  have h3 : (View.readAt (Elt F) arg3.view (Rect.unit ![0, 0] S1024x128.size inb_S1024x128_S1024x128_0_0).toLoadRect (harg3.unread x1)) = x1 := (View.readAt_full _ _ _).trans (harg3.read_unread x1)
  have h4 : (View.readAt (Elt F) arg4.view (Rect.unit ![0, 0] S1024x128.size inb_S1024x128_S1024x128_0_0).toLoadRect (harg4.unread x2)) = x2 := (View.readAt_full _ _ _).trans (harg4.read_unread x2)
  have h5 : (View.readAt (Elt F) arg5.view (Rect.unit ![0, 0, 0] S1x1x1024.size inb_S1x1x1024_S1x1x1024_0_0_0).toLoadRect (harg5.unread x3)) = x3 := (View.readAt_full _ _ _).trans (harg5.read_unread x3)
  have h := loop_reads (F := F) Variants.none c none i arg2 harg2 arg3 harg3 arg4 harg4 arg5 harg5 arg6 harg6 arg7 harg7 arg8 harg8 arg9 harg9 arg10 harg10 arg11 harg11 (View.readAt (Elt F) arg3.view (Rect.unit ![0, 0] S1024x128.size inb_S1024x128_S1024x128_0_0).toLoadRect (harg3.unread x1)) (View.readAt (Elt F) arg4.view (Rect.unit ![0, 0] S1024x128.size inb_S1024x128_S1024x128_0_0).toLoadRect (harg4.unread x2)) (View.readAt (Elt F) arg5.view (Rect.unit ![0, 0, 0] S1x1x1024.size inb_S1x1x1024_S1x1x1024_0_0_0).toLoadRect (harg5.unread x3)) (harg2.unread x0) (harg3.unread x1) (harg6.unread x4)
    (harg7.unread x5) G9 G10 (arg11.view.writes (Elt F) arg11.view.junk [⟨Rect.unit ![0, 0] S1024x256.size inb_S1024x256_S1024x256_0_0, k0_pay5⟩]) k0_t1_loop.trips le_rfl
  rw [harg2.read_unread, harg3.read_unread, harg6.read_unread, harg7.read_unread, h3, h4, h5, View.read_writes_full, trips_eq] at h
  rw [h3, h4, h5, trips_eq]
  exact h

/-- Case A, output 7. -/
theorem out0_A_7_eq (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 = (point x0 x1 x2 x3 x4 x5 k0_pay1 k0_pay2).1 := by
  have e9 : arg9.view.read (Elt F) (arg9.view.writes (Elt F) arg9.view.junk [⟨Rect.unit ![0, 0] S8192x256.size inb_S8192x256_S8192x256_0_0, k0_pay1⟩]) = k0_pay1 := View.read_writes_full _ _ _ _ []
  have e10 : arg10.view.read (Elt F) (arg10.view.writes (Elt F) arg10.view.junk [⟨Rect.unit ![0, 0] S8192x128.size inb_S8192x128_S8192x128_0_0, k0_pay2⟩]) = k0_pay2 := View.read_writes_full _ _ _ _ []
  have h := loop_point c i arg2 harg2 arg3 harg3 arg4 harg4 arg5 harg5 arg6 harg6 arg7 harg7 arg8 harg8 arg9 harg9 arg10 harg10 arg11 harg11 x0 x1 x2 x3 x4 x5 (arg9.view.writes (Elt F) arg9.view.junk [⟨Rect.unit ![0, 0] S8192x256.size inb_S8192x256_S8192x256_0_0, k0_pay1⟩]) (arg10.view.writes (Elt F) arg10.view.junk [⟨Rect.unit ![0, 0] S8192x128.size inb_S8192x128_S8192x128_0_0, k0_pay2⟩])
  rw [e9, e10] at h
  unfold out0_A_7
  rw [View.read_writes_of_cover _ _ arg9.view arg9.view.junk _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  unfold kernelRun0_A.sl.H7_1 kernelRun0_A.sl.H8_1 kernelRun0_A.sl.HS0_1
  rw [View.writes_append]
  exact congrArg (fun s => s.1) h

/-- Case A, output 8. -/
theorem out0_A_8_eq (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 = (point x0 x1 x2 x3 x4 x5 k0_pay1 k0_pay2).2.1 := by
  have e9 : arg9.view.read (Elt F) (arg9.view.writes (Elt F) arg9.view.junk [⟨Rect.unit ![0, 0] S8192x256.size inb_S8192x256_S8192x256_0_0, k0_pay1⟩]) = k0_pay1 := View.read_writes_full _ _ _ _ []
  have e10 : arg10.view.read (Elt F) (arg10.view.writes (Elt F) arg10.view.junk [⟨Rect.unit ![0, 0] S8192x128.size inb_S8192x128_S8192x128_0_0, k0_pay2⟩]) = k0_pay2 := View.read_writes_full _ _ _ _ []
  have h := loop_point c i arg2 harg2 arg3 harg3 arg4 harg4 arg5 harg5 arg6 harg6 arg7 harg7 arg8 harg8 arg9 harg9 arg10 harg10 arg11 harg11 x0 x1 x2 x3 x4 x5 (arg9.view.writes (Elt F) arg9.view.junk [⟨Rect.unit ![0, 0] S8192x256.size inb_S8192x256_S8192x256_0_0, k0_pay1⟩]) (arg10.view.writes (Elt F) arg10.view.junk [⟨Rect.unit ![0, 0] S8192x128.size inb_S8192x128_S8192x128_0_0, k0_pay2⟩])
  rw [e9, e10] at h
  unfold out0_A_8
  rw [View.read_writes_of_cover _ _ arg10.view arg10.view.junk _ (cover0_A_8 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  unfold kernelRun0_A.sl.H7_1 kernelRun0_A.sl.H8_1 kernelRun0_A.sl.HS0_1
  rw [View.writes_append]
  exact congrArg (fun s => s.2.1) h

/-- Case A, output 6. -/
theorem out0_A_6_eq (hc0 : cond0_0 i) :
    out0_A_6 c i arg2 harg2 arg3 harg3 arg4 harg4 arg5 harg5 arg6 harg6 arg7 harg7 arg8 harg8 arg9 harg9 arg10 harg10 arg11 harg11 hc0 x0 x1 x2 x3 x4 x5 = (point x0 x1 x2 x3 x4 x5 k0_pay1 k0_pay2).2.2 := by
  have e9 : arg9.view.read (Elt F) (arg9.view.writes (Elt F) arg9.view.junk [⟨Rect.unit ![0, 0] S8192x256.size inb_S8192x256_S8192x256_0_0, k0_pay1⟩]) = k0_pay1 := View.read_writes_full _ _ _ _ []
  have e10 : arg10.view.read (Elt F) (arg10.view.writes (Elt F) arg10.view.junk [⟨Rect.unit ![0, 0] S8192x128.size inb_S8192x128_S8192x128_0_0, k0_pay2⟩]) = k0_pay2 := View.read_writes_full _ _ _ _ []
  have h := loop_point c i arg2 harg2 arg3 harg3 arg4 harg4 arg5 harg5 arg6 harg6 arg7 harg7 arg8 harg8 arg9 harg9 arg10 harg10 arg11 harg11 x0 x1 x2 x3 x4 x5 (arg9.view.writes (Elt F) arg9.view.junk [⟨Rect.unit ![0, 0] S8192x256.size inb_S8192x256_S8192x256_0_0, k0_pay1⟩]) (arg10.view.writes (Elt F) arg10.view.junk [⟨Rect.unit ![0, 0] S8192x128.size inb_S8192x128_S8192x128_0_0, k0_pay2⟩])
  rw [e9, e10] at h
  unfold out0_A_6
  unfold kernelRun0_A
  dsimp only
  unfold kernelRun0_A.sl.v19 kernelRun0_A.sl.H7_1 kernelRun0_A.sl.H8_1 kernelRun0_A.sl.HS0_1
  rw [View.read_writes_full]
  unfold View.readCov
  rw [View.readAt_full, View.writes_append]
  exact congrArg (fun s => s.2.2) h

/-- Case B, output 7. -/
theorem out0_B_7_eq (hc0 : ¬cond0_0 i) (xo7 : Vec F S8192x256 .f32) (xo8 : Vec F S8192x128 .f32) :
    out0_B_7 c i arg2 harg2 arg3 harg3 arg4 harg4 arg5 harg5 arg6 harg6 arg7 harg7 arg8 harg8 arg9 harg9 arg10 harg10 arg11 harg11 hc0 x0 x1 x2 x3 x4 x5 xo7 xo8 = (point x0 x1 x2 x3 x4 x5 xo7 xo8).1 := by
  have e9 : arg9.view.read (Elt F) (harg9.unread xo7) = xo7 := harg9.read_unread xo7
  have e10 : arg10.view.read (Elt F) (harg10.unread xo8) = xo8 := harg10.read_unread xo8
  have h := loop_point c i arg2 harg2 arg3 harg3 arg4 harg4 arg5 harg5 arg6 harg6 arg7 harg7 arg8 harg8 arg9 harg9 arg10 harg10 arg11 harg11 x0 x1 x2 x3 x4 x5 (harg9.unread xo7) (harg10.unread xo8)
  rw [e9, e10] at h
  unfold out0_B_7
  rw [View.read_writes_of_cover _ _ arg9.view (harg9.unread xo7) _ (cover0_B_7 c i arg2 harg2 arg3 harg3 arg4 harg4 arg5 harg5 arg6 harg6 arg7 harg7 arg8 harg8 arg9 harg9 arg10 harg10 arg11 harg11 hc0 x0 x1 x2 x3 x4 x5 xo7 xo8)]
  unfold kernelRun0_B
  dsimp only
  unfold kernelRun0_B.sl.HS0_1
  exact congrArg (fun s => s.1) h

/-- Case B, output 8. -/
theorem out0_B_8_eq (hc0 : ¬cond0_0 i) (xo7 : Vec F S8192x256 .f32) (xo8 : Vec F S8192x128 .f32) :
    out0_B_8 c i arg2 harg2 arg3 harg3 arg4 harg4 arg5 harg5 arg6 harg6 arg7 harg7 arg8 harg8 arg9 harg9 arg10 harg10 arg11 harg11 hc0 x0 x1 x2 x3 x4 x5 xo7 xo8 = (point x0 x1 x2 x3 x4 x5 xo7 xo8).2.1 := by
  have e9 : arg9.view.read (Elt F) (harg9.unread xo7) = xo7 := harg9.read_unread xo7
  have e10 : arg10.view.read (Elt F) (harg10.unread xo8) = xo8 := harg10.read_unread xo8
  have h := loop_point c i arg2 harg2 arg3 harg3 arg4 harg4 arg5 harg5 arg6 harg6 arg7 harg7 arg8 harg8 arg9 harg9 arg10 harg10 arg11 harg11 x0 x1 x2 x3 x4 x5 (harg9.unread xo7) (harg10.unread xo8)
  rw [e9, e10] at h
  unfold out0_B_8
  rw [View.read_writes_of_cover _ _ arg10.view (harg10.unread xo8) _ (cover0_B_8 c i arg2 harg2 arg3 harg3 arg4 harg4 arg5 harg5 arg6 harg6 arg7 harg7 arg8 harg8 arg9 harg9 arg10 harg10 arg11 harg11 hc0 x0 x1 x2 x3 x4 x5 xo7 xo8)]
  unfold kernelRun0_B
  dsimp only
  unfold kernelRun0_B.sl.HS0_1
  exact congrArg (fun s => s.2.1) h

/-- Case B, output 6. -/
theorem out0_B_6_eq (hc0 : ¬cond0_0 i) (xo7 : Vec F S8192x256 .f32) (xo8 : Vec F S8192x128 .f32) :
    out0_B_6 c i arg2 harg2 arg3 harg3 arg4 harg4 arg5 harg5 arg6 harg6 arg7 harg7 arg8 harg8 arg9 harg9 arg10 harg10 arg11 harg11 hc0 x0 x1 x2 x3 x4 x5 xo7 xo8 = (point x0 x1 x2 x3 x4 x5 xo7 xo8).2.2 := by
  have e9 : arg9.view.read (Elt F) (harg9.unread xo7) = xo7 := harg9.read_unread xo7
  have e10 : arg10.view.read (Elt F) (harg10.unread xo8) = xo8 := harg10.read_unread xo8
  have h := loop_point c i arg2 harg2 arg3 harg3 arg4 harg4 arg5 harg5 arg6 harg6 arg7 harg7 arg8 harg8 arg9 harg9 arg10 harg10 arg11 harg11 x0 x1 x2 x3 x4 x5 (harg9.unread xo7) (harg10.unread xo8)
  rw [e9, e10] at h
  unfold out0_B_6
  unfold kernelRun0_B
  dsimp only
  unfold kernelRun0_B.sl.v19 kernelRun0_B.sl.HS0_1
  rw [View.read_writes_full]
  unfold View.readCov
  rw [View.readAt_full, View.writes_append]
  exact congrArg (fun s => s.2.2) h

end Cert.KernelIdeal.Trip

end
-- ==== Proof.Tile.lean ====
/-
  The contents a grid point leaves, read at an index over the extended reals: each product is a sum over the contracted
  axis, and the eight trips over the key blocks are together one pass over the 8192 keys.
-/
module

public import proofs.«01_k».proof.Proof.Cases
public import Idealize.ShloMosaic.Lib.Pointwise

@[expose] public section

noncomputable section

namespace Cert.KernelIdeal.Trip

open Idealize.ShloMosaic Idealize.ShloMosaic.TcCoe Cert.KernelIdeal.Gen

/-! ## Rows -/

/-- Row `r` of key block `j`. -/
def row (j : ℕ) (r : Fin 1024) : Fin 8192 := ⟨(1024 * j + r.val) % 8192, Nat.mod_lt _ (by norm_num)⟩

theorem blk_apply {F : FTy → Type} {e : EltTy} {n : ℕ} (x : (⟨2, ![8192, n]⟩ : Shape).Idx → Elt F e) (k : ℕ) (r : Fin 1024) (c : Fin n) :
    blk x k (ix2 r c) = x (ix2 (row k r) c) := rfl

/-- The eight blocks of 1024 rows are the 8192 rows. -/
theorem sum_rows {M : Type*} [AddCommMonoid M] (f : Fin 8192 → M) :
    ∑ j ∈ Finset.range 8, ∑ r : Fin 1024, f (row j r) = ∑ r : Fin 8192, f r := by
  rw [Finset.sum_range, ← Fintype.sum_prod_type' (fun (j : Fin 8) (r : Fin 1024) => f (row j.val r))]
  refine Fintype.sum_equiv (finProdFinEquiv (m := 8) (n := 1024)) _ _ fun p => ?_
  refine congrArg f (Fin.ext ?_)
  show (1024 * p.1.val + p.2.val) % 8192 = p.2.val + 1024 * p.1.val
  have h1 := p.1.isLt
  have h2 := p.2.isLt
  omega

/-- What a store of block `k` of the rows leaves, at an index. -/
theorem put_rows {α : Type} {n : ℕ} (x : (⟨2, ![8192, n]⟩ : Shape).Idx → α) (k : ℕ)
    (w : (⟨2, ![1024, n]⟩ : Shape).Idx → α) (r : Fin 8192) (c : Fin n) :
    VecWindow.put (s := ⟨2, ![8192, n]⟩) x ![1024 * k, 0] ![1024, n] w (ix2 r c)
      = if h : 1024 * k ≤ r.val ∧ r.val < 1024 * k + 1024 then w (ix2 ⟨r.val - 1024 * k, by omega⟩ c) else x (ix2 r c) := by
  by_cases h : 1024 * k ≤ r.val ∧ r.val < 1024 * k + 1024
  · rw [dif_pos h]
    have hm : ∀ a, (![1024 * k, 0] : Fin 2 → ℕ) a ≤ ((ix2 r c : (⟨2, ![8192, n]⟩ : Shape).Idx) a).val
        ∧ ((ix2 r c : (⟨2, ![8192, n]⟩ : Shape).Idx) a).val < (![1024 * k, 0] : Fin 2 → ℕ) a + (![1024, n] : Fin 2 → ℕ) a := by
      intro a
      match a with
      | ⟨0, _⟩ => exact h
      | ⟨1, _⟩ => exact ⟨Nat.zero_le _, by show c.val < 0 + n; have := c.isLt; omega⟩
    unfold VecWindow.put
    refine (dif_pos hm).trans (congrArg w (funext fun a => Fin.ext ?_))
    match a with
    | ⟨0, _⟩ => rfl
    | ⟨1, _⟩ => rfl
  · rw [dif_neg h]
    unfold VecWindow.put
    refine dif_neg fun hm => h ?_
    exact hm 0

/-! ## The payloads at an index -/

/-- The weight of key `r` for query `q`. -/
def wt (K : Vec Ideal S8192x256 .bf16) (Q : Vec Ideal S1024x256 .bf16) (ls : FVec Ideal S1x1024 .f32) (r : Fin 8192) (q : Fin 1024) : EReal :=
  Ideal.exp2 ((∑ d : Fin 256, K (ix2 r d) * Q (ix2 q d)) - ls (ix2 0 q))

/-- The gradient of the score of key `r` for query `q`. -/
def ds (K : Vec Ideal S8192x256 .bf16) (V : Vec Ideal S8192x128 .bf16) (Q : Vec Ideal S1024x256 .bf16) (dO : Vec Ideal S1024x128 .bf16)
    (δ ls : FVec Ideal S1x1024 .f32) (r : Fin 8192) (q : Fin 1024) : EReal :=
  wt K Q ls r q * ((∑ d : Fin 128, V (ix2 r d) * dO (ix2 q d)) - δ (ix2 0 q))

theorem pay1_apply (r : Fin 8192) (c : Fin 256) : k0_pay1 (F := Ideal) (ix2 r c) = 0 := by
  unfold k0_pay1
  pointwise

theorem pay2_apply (r : Fin 8192) (c : Fin 128) : k0_pay2 (F := Ideal) (ix2 r c) = 0 := by
  unfold k0_pay2
  pointwise

theorem pay5_apply (q : Fin 1024) (c : Fin 256) : k0_pay5 (F := Ideal) (ix2 q c) = 0 := by
  unfold k0_pay5
  pointwise

theorem pay3_apply (x1 : Vec Ideal S1024x128 .bf16) (x2 : Vec Ideal S1024x128 .f32) (q : Fin 1024) :
    k0_pay3 (F := Ideal) x1 x2 (ix2 0 q) = ∑ d : Fin 128, x1 (ix2 q d) * x2 (ix2 q d) := by
  unfold k0_pay3
  pointwise

theorem pay4_apply (x3 : Vec Ideal S1x1x1024 .f32) (q : Fin 1024) :
    k0_pay4 (F := Ideal) x3 (ix2 0 q) = x3 (ix3 0 0 q) := by
  unfold k0_pay4
  pointwise

theorem pay8_apply (ls : FVec Ideal S1x1024 .f32) (K Q : Vec Ideal S1024x256 .bf16) (r q : Fin 1024) :
    k0_pay8 (F := Ideal) ls K Q (ix2 r q) = Ideal.exp2 ((∑ d : Fin 256, K (ix2 r d) * Q (ix2 q d)) - ls (ix2 0 q)) := by
  unfold k0_pay8
  pointwise
  rfl

theorem dsTile_apply (q : Vec Ideal S1024x256 .bf16) (dO : Vec Ideal S1024x128 .bf16) (K : Vec Ideal S8192x256 .bf16)
    (V : Vec Ideal S8192x128 .bf16) (δ ls : FVec Ideal S1x1024 .f32) (k : ℕ) (r i : Fin 1024) :
    dsTile (F := Ideal) q dO K V δ ls k (ix2 r i) = ds K V q dO δ ls (row k r) i := by
  have h : ∀ (K' : Vec Ideal S1024x256 .bf16) (V' : Vec Ideal S1024x128 .bf16), k0_pay9 (F := Ideal) δ ls K' q V' dO (ix2 r i)
      = k0_pay8 (F := Ideal) ls K' q (ix2 r i) * ((∑ d : Fin 128, V' (ix2 r d) * dO (ix2 i d)) - δ (ix2 0 i)) := by
    intro K' V'
    unfold k0_pay9
    pointwise
  unfold dsTile ds wt
  rw [h, pay8_apply]
  rfl

theorem pay6_apply (D : FVec Ideal S1024x1024 .bf16) (a : Vec Ideal S1024x256 .f32) (Q : Vec Ideal S1024x256 .bf16) (r : Fin 1024) (c : Fin 256) :
    k0_pay6 (F := Ideal) D (k0_pay11 a) Q (ix2 r c) = a (ix2 r c) + ∑ i : Fin 1024, D (ix2 r i) * Q (ix2 i c) := by
  unfold k0_pay6 k0_pay11
  pointwise

theorem pay10_apply (ls : FVec Ideal S1x1024 .f32) (K Q : Vec Ideal S1024x256 .bf16) (a : Vec Ideal S1024x128 .f32)
    (dO : Vec Ideal S1024x128 .bf16) (r : Fin 1024) (c : Fin 128) :
    k0_pay10 (F := Ideal) ls K Q a dO (ix2 r c)
      = a (ix2 r c) + ∑ i : Fin 1024, k0_pay8 (F := Ideal) ls K Q (ix2 r i) * dO (ix2 i c) := by
  unfold k0_pay10
  pointwise

theorem pay7_apply (D : FVec Ideal S1024x1024 .bf16) (a : Vec Ideal S1024x256 .f32) (K : Vec Ideal S1024x256 .bf16) (q : Fin 1024) (c : Fin 256) :
    k0_pay7 (F := Ideal) D a K (ix2 q c) = a (ix2 q c) + ∑ r : Fin 1024, D (ix2 r q) * K (ix2 r c) := by
  unfold k0_pay7
  pointwise

/-! ## The loop at an index -/

section Loop

variable (q : Vec Ideal S1024x256 .bf16) (dO : Vec Ideal S1024x128 .bf16) (K : Vec Ideal S8192x256 .bf16) (V : Vec Ideal S8192x128 .bf16)
  (δ ls : FVec Ideal S1x1024 .f32) (s : Vec Ideal S8192x256 .f32 × Vec Ideal S8192x128 .f32 × Vec Ideal S1024x256 .f32)

/-- The block of `k` that holds row `r`. -/
theorem row_sub (k : ℕ) (r : Fin 8192) (h : 1024 * k ≤ r.val ∧ r.val < 1024 * k + 1024) : row k ⟨r.val - 1024 * k, by omega⟩ = r :=
  Fin.ext (by
    show (1024 * k + (r.val - 1024 * k)) % 8192 = r.val
    have := r.isLt
    omega)

theorem state_dk (k : ℕ) (r : Fin 8192) (c : Fin 256) :
    (state (F := Ideal) q dO K V δ ls s k).1 (ix2 r c)
      = s.1 (ix2 r c) + if r.val < 1024 * k then ∑ i : Fin 1024, ds K V q dO δ ls r i * q (ix2 i c) else 0 := by
  induction k with
  | zero => rw [if_neg (by omega), add_zero]; rfl
  | succ k ih =>
    show VecWindow.put (s := S8192x256) _ ![1024 * k, 0] ![1024, 256] _ (ix2 r c) = _
    refine (put_rows _ k _ r c).trans ?_
    by_cases h : 1024 * k ≤ r.val ∧ r.val < 1024 * k + 1024
    · rw [dif_pos h, pay6_apply, blk_apply, row_sub k r h, ih, if_neg (by omega), if_pos (by omega), add_zero]
      refine congrArg _ (Finset.sum_congr rfl fun i _ => ?_)
      rw [dsTile_apply, row_sub k r h]
    · rw [dif_neg h, ih]
      by_cases h' : r.val < 1024 * k
      · rw [if_pos h', if_pos (by omega)]
      · rw [if_neg h', if_neg (by omega)]

theorem state_dv (k : ℕ) (r : Fin 8192) (c : Fin 128) :
    (state (F := Ideal) q dO K V δ ls s k).2.1 (ix2 r c)
      = s.2.1 (ix2 r c) + if r.val < 1024 * k then ∑ i : Fin 1024, wt K q ls r i * dO (ix2 i c) else 0 := by
  induction k with
  | zero => rw [if_neg (by omega), add_zero]; rfl
  | succ k ih =>
    show VecWindow.put (s := S8192x128) _ ![1024 * k, 0] ![1024, 128] _ (ix2 r c) = _
    refine (put_rows _ k _ r c).trans ?_
    by_cases h : 1024 * k ≤ r.val ∧ r.val < 1024 * k + 1024
    · rw [dif_pos h, pay10_apply, blk_apply, row_sub k r h, ih, if_neg (by omega), if_pos (by omega), add_zero]
      refine congrArg _ (Finset.sum_congr rfl fun i _ => ?_)
      rw [pay8_apply]
      simp only [blk_apply]
      rw [row_sub k r h]
      rfl
    · rw [dif_neg h, ih]
      by_cases h' : r.val < 1024 * k
      · rw [if_pos h', if_pos (by omega)]
      · rw [if_neg h', if_neg (by omega)]

theorem state_dq (k : ℕ) (i : Fin 1024) (c : Fin 256) :
    (state (F := Ideal) q dO K V δ ls s k).2.2 (ix2 i c)
      = s.2.2 (ix2 i c) + ∑ j ∈ Finset.range k, ∑ r : Fin 1024, ds K V q dO δ ls (row j r) i * K (ix2 (row j r) c) := by
  induction k with
  | zero => rw [Finset.sum_range_zero, add_zero]; rfl
  | succ k ih =>
    rw [Finset.sum_range_succ, ← add_assoc, ← ih]
    show k0_pay7 (F := Ideal) _ _ _ (ix2 i c) = _
    rw [pay7_apply]
    refine congrArg _ (Finset.sum_congr rfl fun r _ => ?_)
    rw [dsTile_apply, blk_apply]

end Loop

/-! ## A grid point at an index -/

section Point

variable (x0 : Vec Ideal S1024x256 .bf16) (x1 : Vec Ideal S1024x128 .bf16) (x2 : Vec Ideal S1024x128 .f32) (x3 : Vec Ideal S1x1x1024 .f32)
  (x4 : Vec Ideal S8192x256 .bf16) (x5 : Vec Ideal S8192x128 .bf16) (b9 : Vec Ideal S8192x256 .f32) (b10 : Vec Ideal S8192x128 .f32)

/-- The weight of key `r` for query `i` of the point's tile. -/
def pw (r : Fin 8192) (i : Fin 1024) : EReal :=
  Ideal.exp2 ((∑ d : Fin 256, x4 (ix2 r d) * x0 (ix2 i d)) - x3 (ix3 0 0 i))

/-- The gradient of the score of key `r` for query `i` of the point's tile. -/
def pds (r : Fin 8192) (i : Fin 1024) : EReal :=
  pw x0 x3 x4 r i * ((∑ d : Fin 128, x5 (ix2 r d) * x1 (ix2 i d)) - ∑ d : Fin 128, x1 (ix2 i d) * x2 (ix2 i d))

theorem wt_eq (r : Fin 8192) (i : Fin 1024) : wt x4 x0 (k0_pay4 (F := Ideal) x3) r i = pw x0 x3 x4 r i := by
  unfold wt pw
  rw [pay4_apply]

theorem ds_eq (r : Fin 8192) (i : Fin 1024) :
    ds x4 x5 x0 x1 (k0_pay3 (F := Ideal) x1 x2) (k0_pay4 (F := Ideal) x3) r i = pds x0 x1 x2 x3 x4 x5 r i := by
  unfold ds pds
  rw [pay3_apply, wt_eq]

theorem point_dk (r : Fin 8192) (c : Fin 256) :
    (point (F := Ideal) x0 x1 x2 x3 x4 x5 b9 b10).1 (ix2 r c)
      = b9 (ix2 r c) + ∑ i : Fin 1024, pds x0 x1 x2 x3 x4 x5 r i * x0 (ix2 i c) := by
  unfold point
  rw [state_dk, if_pos (by have := r.isLt; omega)]
  simp only [ds_eq]

theorem point_dv (r : Fin 8192) (c : Fin 128) :
    (point (F := Ideal) x0 x1 x2 x3 x4 x5 b9 b10).2.1 (ix2 r c)
      = b10 (ix2 r c) + ∑ i : Fin 1024, pw x0 x3 x4 r i * x1 (ix2 i c) := by
  unfold point
  rw [state_dv, if_pos (by have := r.isLt; omega)]
  simp only [wt_eq]

theorem point_dq (i : Fin 1024) (c : Fin 256) :
    (point (F := Ideal) x0 x1 x2 x3 x4 x5 b9 b10).2.2 (ix2 i c)
      = ∑ r : Fin 8192, pds x0 x1 x2 x3 x4 x5 r i * x4 (ix2 r c) := by
  unfold point
  rw [state_dq, sum_rows (fun r => ds x4 x5 x0 x1 (k0_pay3 (F := Ideal) x1 x2) (k0_pay4 (F := Ideal) x3) r i * x4 (ix2 r c))]
  simp only [ds_eq, pay5_apply, zero_add]

end Point

end Cert.KernelIdeal.Trip

end
-- ==== Proof.Whole.lean ====
/-
  The three result arrays of the launch as functions of the six arrays it reads: the points of a head accumulate dk and
  dv over the eight query tiles and write them back at the last one, and every point writes its tile of dq back.
-/
module

public import proofs.«01_k».proof.Proof.Tile
public import proofs.«01_k».proof.Proof.Gen.KernelIdeal.Value

@[expose] public section

noncomputable section

namespace Cert.KernelIdeal.Whole

open Idealize.ShloMosaic Idealize.ShloMosaic.TcCoe Cert.KernelIdeal.Gen Cert.KernelIdeal.Trip

/-- Column `d` of head `h` in an array of 256 columns a head. -/
def col (h : ℕ) (d : Fin 256) : Fin 1024 := ⟨(256 * h + d.val) % 1024, Nat.mod_lt _ (by norm_num)⟩

/-- Column `d` of head `h` in an array of 128 columns a head. -/
def col' (h : ℕ) (d : Fin 128) : Fin 512 := ⟨(128 * h + d.val) % 512, Nat.mod_lt _ (by norm_num)⟩

/-- Head `h` as an index. -/
def hd (h : ℕ) : Fin 4 := ⟨h % 4, Nat.mod_lt _ (by norm_num)⟩

section Global

variable (Q : Vec Ideal S8192x1024 .bf16) (dO : Vec Ideal S8192x512 .bf16) (O : Vec Ideal S8192x512 .f32) (L : Vec Ideal S4x1x8192 .f32)
  (K : Vec Ideal S8192x1024 .bf16) (V : Vec Ideal S8192x512 .bf16)

/-- The weight of key `r` for query `i` in head `h`. -/
def gw (h : ℕ) (r i : Fin 8192) : EReal :=
  Ideal.exp2 ((∑ d : Fin 256, K (ix2 r (col h d)) * Q (ix2 i (col h d))) - L (ix3 (hd h) 0 i))

/-- The gradient of the score of key `r` for query `i` in head `h`. -/
def gds (h : ℕ) (r i : Fin 8192) : EReal :=
  gw Q L K h r i * ((∑ d : Fin 128, V (ix2 r (col' h d)) * dO (ix2 i (col' h d))) - ∑ d : Fin 128, dO (ix2 i (col' h d)) * O (ix2 i (col' h d)))

/-- The launch's dq. -/
def resQ : Vec Ideal S8192x1024 .f32 :=
  fun y => ∑ r : Fin 8192, gds Q dO O L K V ((y 1).val / 256) r (y 0) * K (ix2 r (y 1))

/-- The launch's dk. -/
def resK : Vec Ideal S8192x1024 .f32 :=
  fun y => ∑ i : Fin 8192, gds Q dO O L K V ((y 1).val / 256) (y 0) i * Q (ix2 i (y 1))

/-- The launch's dv. -/
def resV : Vec Ideal S8192x512 .f32 :=
  fun y => ∑ i : Fin 8192, gw Q L K ((y 1).val / 128) (y 0) i * dO (ix2 i (y 1))

/-! The results at a head's columns. -/

theorem col_div (h : ℕ) (hh : h < 4) (d : Fin 256) : (col h d).val / 256 = h := by
  show (256 * h + d.val) % 1024 / 256 = h
  omega

theorem col'_div (h : ℕ) (hh : h < 4) (d : Fin 128) : (col' h d).val / 128 = h := by
  show (128 * h + d.val) % 512 / 128 = h
  omega

theorem resQ_at (h : ℕ) (hh : h < 4) (i : Fin 8192) (d : Fin 256) :
    resQ Q dO O L K V (ix2 i (col h d)) = ∑ r : Fin 8192, gds Q dO O L K V h r i * K (ix2 r (col h d)) := by
  show ∑ r : Fin 8192, gds Q dO O L K V ((col h d).val / 256) r i * K (ix2 r (col h d)) = _
  rw [col_div h hh]

theorem resK_at (h : ℕ) (hh : h < 4) (r : Fin 8192) (d : Fin 256) :
    resK Q dO O L K V (ix2 r (col h d)) = ∑ i : Fin 8192, gds Q dO O L K V h r i * Q (ix2 i (col h d)) := by
  show ∑ i : Fin 8192, gds Q dO O L K V ((col h d).val / 256) r i * Q (ix2 i (col h d)) = _
  rw [col_div h hh]

theorem resV_at (h : ℕ) (hh : h < 4) (r : Fin 8192) (d : Fin 128) :
    resV Q dO L K (ix2 r (col' h d)) = ∑ i : Fin 8192, gw Q L K h r i * dO (ix2 i (col' h d)) := by
  show ∑ i : Fin 8192, gw Q L K ((col' h d).val / 128) r i * dO (ix2 i (col' h d)) = _
  rw [col'_div h hh]

end Global

variable (m : (ℓ : Loc nD τ sig) → Buf (Elt Ideal) ℓ) (c : Dev nD)

/-- The array of window 0: q, scaled. -/
abbrev aQ : Vec Ideal S8192x1024 .bf16 := V m c main_v7
/-- The array of window 1: the gradient of the attention's result. -/
abbrev aDO : Vec Ideal S8192x512 .bf16 := V m c main_v14
/-- The array of window 2: the attention's result. -/
abbrev aO : Vec Ideal S8192x512 .f32 := V m c main_v33
/-- The array of window 3: the rows' log-sums. -/
abbrev aL : Vec Ideal S4x1x8192 .f32 := V m c main_v34
/-- The array of window 4: k. -/
abbrev aK : Vec Ideal S8192x1024 .bf16 := V m c main_v10
/-- The array of window 5: v. -/
abbrev aV : Vec Ideal S8192x512 .bf16 := V m c main_v12

/-! ## The windows' blocks -/

theorem index_eq : ∀ t : Fin grid0.N,
    (win0_0.index t 0 = t.val % 8 ∧ win0_0.index t 1 = t.val / 8) ∧ (win0_1.index t 0 = t.val % 8 ∧ win0_1.index t 1 = t.val / 8)
    ∧ (win0_2.index t 0 = t.val % 8 ∧ win0_2.index t 1 = t.val / 8)
    ∧ (win0_3.index t 0 = t.val / 8 ∧ win0_3.index t 1 = 0 ∧ win0_3.index t 2 = t.val % 8)
    ∧ (win0_4.index t 0 = 0 ∧ win0_4.index t 1 = t.val / 8) ∧ (win0_5.index t 0 = 0 ∧ win0_5.index t 1 = t.val / 8)
    ∧ (win0_6.index t 0 = t.val % 8 ∧ win0_6.index t 1 = t.val / 8) ∧ (win0_7.index t 0 = 0 ∧ win0_7.index t 1 = t.val / 8)
    ∧ (win0_8.index t 0 = 0 ∧ win0_8.index t 1 = t.val / 8) := by
  decide +kernel

theorem lt_N (t : Fin cfg0.N) : t.val < 32 := t.isLt

theorem iblk0 (t : Fin cfg0.N) (q : Fin 1024) (d : Fin 256) :
    (iblk m c 0 t : Vec Ideal S1024x256 .bf16) (ix2 q d) = aQ m c (ix2 (row (t.val % 8) q) (col (t.val / 8) d)) := by
  have hi := (index_eq t).1
  have ht := lt_N t
  unfold iblk
  rw [View.read_apply]
  show V m c main_v7 _ = V m c main_v7 _
  congr 1
  funext a
  apply Fin.ext
  match a with
  | ⟨0, _⟩ => show win0_0.index t 0 * 1024 + 1 * q.val = (1024 * (t.val % 8) + q.val) % 8192; rw [hi.1]; omega
  | ⟨1, _⟩ => show win0_0.index t 1 * 256 + 1 * d.val = (256 * (t.val / 8) + d.val) % 1024; rw [hi.2]; omega

theorem iblk1 (t : Fin cfg0.N) (q : Fin 1024) (d : Fin 128) :
    (iblk m c 1 t : Vec Ideal S1024x128 .bf16) (ix2 q d) = aDO m c (ix2 (row (t.val % 8) q) (col' (t.val / 8) d)) := by
  have hi := (index_eq t).2.1
  have ht := lt_N t
  unfold iblk
  rw [View.read_apply]
  show V m c main_v14 _ = V m c main_v14 _
  congr 1
  funext a
  apply Fin.ext
  match a with
  | ⟨0, _⟩ => show win0_1.index t 0 * 1024 + 1 * q.val = (1024 * (t.val % 8) + q.val) % 8192; rw [hi.1]; omega
  | ⟨1, _⟩ => show win0_1.index t 1 * 128 + 1 * d.val = (128 * (t.val / 8) + d.val) % 512; rw [hi.2]; omega

theorem iblk2 (t : Fin cfg0.N) (q : Fin 1024) (d : Fin 128) :
    (iblk m c 2 t : Vec Ideal S1024x128 .f32) (ix2 q d) = aO m c (ix2 (row (t.val % 8) q) (col' (t.val / 8) d)) := by
  have hi := (index_eq t).2.2.1
  have ht := lt_N t
  unfold iblk
  rw [View.read_apply]
  show V m c main_v33 _ = V m c main_v33 _
  congr 1
  funext a
  apply Fin.ext
  match a with
  | ⟨0, _⟩ => show win0_2.index t 0 * 1024 + 1 * q.val = (1024 * (t.val % 8) + q.val) % 8192; rw [hi.1]; omega
  | ⟨1, _⟩ => show win0_2.index t 1 * 128 + 1 * d.val = (128 * (t.val / 8) + d.val) % 512; rw [hi.2]; omega

theorem iblk3 (t : Fin cfg0.N) (q : Fin 1024) :
    (iblk m c 3 t : Vec Ideal S1x1x1024 .f32) (ix3 0 0 q) = aL m c (ix3 (hd (t.val / 8)) 0 (row (t.val % 8) q)) := by
  have hi := (index_eq t).2.2.2.1
  have ht := lt_N t
  unfold iblk
  rw [View.read_apply]
  show V m c main_v34 _ = V m c main_v34 _
  congr 1
  funext a
  apply Fin.ext
  match a with
  | ⟨0, _⟩ => show win0_3.index t 0 * 1 + 1 * 0 = (t.val / 8) % 4; rw [hi.1]; omega
  | ⟨1, _⟩ => show win0_3.index t 1 * 1 + 1 * 0 = 0; rw [hi.2.1]
  | ⟨2, _⟩ => show win0_3.index t 2 * 1024 + 1 * q.val = (1024 * (t.val % 8) + q.val) % 8192; rw [hi.2.2]; omega

theorem iblk4 (t : Fin cfg0.N) (r : Fin 8192) (d : Fin 256) :
    (iblk m c 4 t : Vec Ideal S8192x256 .bf16) (ix2 r d) = aK m c (ix2 r (col (t.val / 8) d)) := by
  have hi := (index_eq t).2.2.2.2.1
  have ht := lt_N t
  unfold iblk
  rw [View.read_apply]
  show V m c main_v10 _ = V m c main_v10 _
  congr 1
  funext a
  apply Fin.ext
  match a with
  | ⟨0, _⟩ => show win0_4.index t 0 * 8192 + 1 * r.val = r.val; rw [hi.1]; omega
  | ⟨1, _⟩ => show win0_4.index t 1 * 256 + 1 * d.val = (256 * (t.val / 8) + d.val) % 1024; rw [hi.2]; omega

theorem iblk5 (t : Fin cfg0.N) (r : Fin 8192) (d : Fin 128) :
    (iblk m c 5 t : Vec Ideal S8192x128 .bf16) (ix2 r d) = aV m c (ix2 r (col' (t.val / 8) d)) := by
  have hi := (index_eq t).2.2.2.2.2.1
  have ht := lt_N t
  unfold iblk
  rw [View.read_apply]
  show V m c main_v12 _ = V m c main_v12 _
  congr 1
  funext a
  apply Fin.ext
  match a with
  | ⟨0, _⟩ => show win0_5.index t 0 * 8192 + 1 * r.val = r.val; rw [hi.1]; omega
  | ⟨1, _⟩ => show win0_5.index t 1 * 128 + 1 * d.val = (128 * (t.val / 8) + d.val) % 512; rw [hi.2]; omega

/-! ## The points -/

/-- The weights over a point's blocks are the whole arrays'. -/
theorem pw_eq (t : Fin cfg0.N) (r : Fin 8192) (q : Fin 1024) :
    pw (iblk m c 0 t) (iblk m c 3 t) (iblk m c 4 t) r q = gw (aQ m c) (aL m c) (aK m c) (t.val / 8) r (row (t.val % 8) q) := by
  unfold pw gw
  rw [iblk3]
  simp only [iblk0, iblk4]

/-- The score gradients over a point's blocks are the whole arrays'. -/
theorem pds_eq (t : Fin cfg0.N) (r : Fin 8192) (q : Fin 1024) :
    pds (iblk m c 0 t) (iblk m c 1 t) (iblk m c 2 t) (iblk m c 3 t) (iblk m c 4 t) (iblk m c 5 t) r q
      = gds (aQ m c) (aDO m c) (aO m c) (aL m c) (aK m c) (aV m c) (t.val / 8) r (row (t.val % 8) q) := by
  unfold pds gds
  rw [pw_eq]
  simp only [iblk1, iblk2, iblk5]

/-- dq after a point. -/
theorem outs_dq (t : Fin cfg0.N) (q : Fin 1024) (d : Fin 256) :
    (outsAt0 m c t.val t.isLt).1 (ix2 q d)
      = ∑ r : Fin 8192, gds (aQ m c) (aDO m c) (aO m c) (aL m c) (aK m c) (aV m c) (t.val / 8) r (row (t.val % 8) q)
          * aK m c (ix2 r (col (t.val / 8) d)) := by
  have h : ∀ b9 b10, (point (F := Ideal) (iblk m c 0 t) (iblk m c 1 t) (iblk m c 2 t) (iblk m c 3 t) (iblk m c 4 t) (iblk m c 5 t) b9 b10).2.2 (ix2 q d)
      = ∑ r : Fin 8192, gds (aQ m c) (aDO m c) (aO m c) (aL m c) (aK m c) (aV m c) (t.val / 8) r (row (t.val % 8) q)
          * aK m c (ix2 r (col (t.val / 8) d)) := fun b9 b10 => by
    rw [point_dq]
    simp only [pds_eq, iblk4]
  by_cases h0 : t.val % 8 = 0
  · rw [outsAt0_A m c t h0]
    dsimp only
    rw [out0_A_6_eq]
    exact h _ _
  · rw [outsAt0_B m c t h0]
    dsimp only
    rw [out0_B_6_eq]
    exact h _ _

/-- dk and dv after a point: the sums over the head's query tiles so far. -/
theorem outs_dk_dv (n : ℕ) (hn : n < cfg0.N) :
    (∀ (r : Fin 8192) (d : Fin 256), (outsAt0 m c n hn).2.1 (ix2 r d)
      = ∑ j ∈ Finset.range (n % 8 + 1), ∑ q : Fin 1024,
          gds (aQ m c) (aDO m c) (aO m c) (aL m c) (aK m c) (aV m c) (n / 8) r (row j q) * aQ m c (ix2 (row j q) (col (n / 8) d)))
    ∧ ∀ (r : Fin 8192) (d : Fin 128), (outsAt0 m c n hn).2.2 (ix2 r d)
      = ∑ j ∈ Finset.range (n % 8 + 1), ∑ q : Fin 1024,
          gw (aQ m c) (aL m c) (aK m c) (n / 8) r (row j q) * aDO m c (ix2 (row j q) (col' (n / 8) d)) := by
  induction n using Nat.strong_induction_on with
  | _ n ih =>
  by_cases h0 : n % 8 = 0
  · have e := outsAt0_A m c ⟨n, hn⟩ h0
    dsimp only at e
    refine ⟨fun r d => ?_, fun r d => ?_⟩
    · rw [e]
      dsimp only
      rw [out0_A_7_eq, point_dk, pay1_apply, zero_add, h0, Finset.sum_range_one]
      simp only [pds_eq, iblk0, h0]
    · rw [e]
      dsimp only
      rw [out0_A_8_eq, point_dv, pay2_apply, zero_add, h0, Finset.sum_range_one]
      simp only [pw_eq, iblk1, h0]
  · have e := outsAt0_B m c ⟨n, hn⟩ h0
    dsimp only at e
    obtain ⟨i1, i2⟩ := ih (n - 1) (by omega) (Nat.lt_of_le_of_lt (Nat.sub_le _ _) hn)
    rw [show (n - 1) % 8 + 1 = n % 8 by omega, show (n - 1) / 8 = n / 8 by omega] at i1 i2
    refine ⟨fun r d => ?_, fun r d => ?_⟩
    · rw [e]
      dsimp only
      rw [out0_B_7_eq, point_dk, i1, Finset.sum_range_succ]
      simp only [pds_eq, iblk0]
    · rw [e]
      dsimp only
      rw [out0_B_8_eq, point_dv, i2, Finset.sum_range_succ]
      simp only [pw_eq, iblk1]

theorem outs_dk (t : Fin cfg0.N) (h7 : t.val % 8 = 7) (r : Fin 8192) (d : Fin 256) :
    (outsAt0 m c t.val t.isLt).2.1 (ix2 r d)
      = ∑ i : Fin 8192, gds (aQ m c) (aDO m c) (aO m c) (aL m c) (aK m c) (aV m c) (t.val / 8) r i * aQ m c (ix2 i (col (t.val / 8) d)) := by
  rw [(outs_dk_dv m c t.val t.isLt).1, h7]
  exact sum_rows fun i => gds (aQ m c) (aDO m c) (aO m c) (aL m c) (aK m c) (aV m c) (t.val / 8) r i * aQ m c (ix2 i (col (t.val / 8) d))

theorem outs_dv (t : Fin cfg0.N) (h7 : t.val % 8 = 7) (r : Fin 8192) (d : Fin 128) :
    (outsAt0 m c t.val t.isLt).2.2 (ix2 r d)
      = ∑ i : Fin 8192, gw (aQ m c) (aL m c) (aK m c) (t.val / 8) r i * aDO m c (ix2 i (col' (t.val / 8) d)) := by
  rw [(outs_dk_dv m c t.val t.isLt).2, h7]
  exact sum_rows fun i => gw (aQ m c) (aL m c) (aK m c) (t.val / 8) r i * aDO m c (ix2 i (col' (t.val / 8) d))

/-! ## The arrays after the run -/

theorem emb6 (t : Fin cfg0.N) (q : Fin 1024) (d : Fin 256) :
    ((cfg0.win 6).blk t).view.emb (ix2 q d : S1024x256.Idx) = (ix2 (row (t.val % 8) q) (col (t.val / 8) d) : S8192x1024.Idx) := by
  have hi := (index_eq t).2.2.2.2.2.2.1
  have ht := lt_N t
  funext a
  apply Fin.ext
  match a with
  | ⟨0, _⟩ => show win0_6.index t 0 * 1024 + 1 * q.val = (1024 * (t.val % 8) + q.val) % 8192; rw [hi.1]; omega
  | ⟨1, _⟩ => show win0_6.index t 1 * 256 + 1 * d.val = (256 * (t.val / 8) + d.val) % 1024; rw [hi.2]; omega

theorem emb7 (t : Fin cfg0.N) (r : Fin 8192) (d : Fin 256) :
    ((cfg0.win 7).blk t).view.emb (ix2 r d : S8192x256.Idx) = (ix2 r (col (t.val / 8) d) : S8192x1024.Idx) := by
  have hi := (index_eq t).2.2.2.2.2.2.2.1
  have ht := lt_N t
  funext a
  apply Fin.ext
  match a with
  | ⟨0, _⟩ => show win0_7.index t 0 * 8192 + 1 * r.val = r.val; rw [hi.1]; omega
  | ⟨1, _⟩ => show win0_7.index t 1 * 256 + 1 * d.val = (256 * (t.val / 8) + d.val) % 1024; rw [hi.2]; omega

theorem emb8 (t : Fin cfg0.N) (r : Fin 8192) (d : Fin 128) :
    ((cfg0.win 8).blk t).view.emb (ix2 r d : S8192x128.Idx) = (ix2 r (col' (t.val / 8) d) : S8192x512.Idx) := by
  have hi := (index_eq t).2.2.2.2.2.2.2.2
  have ht := lt_N t
  funext a
  apply Fin.ext
  match a with
  | ⟨0, _⟩ => show win0_8.index t 0 * 8192 + 1 * r.val = r.val; rw [hi.1]; omega
  | ⟨1, _⟩ => show win0_8.index t 1 * 128 + 1 * d.val = (128 * (t.val / 8) + d.val) % 512; rw [hi.2]; omega

/-- dq after the run. -/
theorem arr6 : (dats m 0 c).arrAt 6 cfg0.N = resQ (aQ m c) (aDO m c) (aO m c) (aL m c) (aK m c) (aV m c) := by
  refine (dats m 0 c).arrAt_eq_of_cover 6 (resQ (aQ m c) (aDO m c) (aO m c) (aL m c) (aK m c) (aV m c)) (fun t _ => ?_) (fun y => ?_)
  · rw [Value.flushed6]
    funext y
    obtain ⟨p, d, rfl⟩ : ∃ (p : Fin 1024) (d : Fin 256), y = (ix2 p d : S1024x256.Idx) := ⟨_, _, eq_ix2 (n0 := 1024) (n1 := 256) y⟩
    rw [View.read_apply]
    change (outsAt0 m c t.val t.isLt).1 (ix2 p d) = _
    rw [outs_dq m c t]
    rw [emb6 t p d]
    rw [resQ_at _ _ _ _ _ _ (t.val / 8) (by have := lt_N t; omega)]
    exact (cast_eq _ _).symm
  · have h0 : (y 0).val < 8192 := (y 0).isLt
    have h1 : (y 1).val < 1024 := (y 1).isLt
    let t : Fin cfg0.N := ⟨8 * ((y 1).val / 256) + (y 0).val / 1024, by show _ < 32; omega⟩
    refine ⟨t, flush0_6 t, ?_⟩
    have e : ((cfg0.win 6).blk t).view.emb (ix2 ⟨(y 0).val % 1024, by omega⟩ ⟨(y 1).val % 256, by omega⟩ : S1024x256.Idx) = y := by
      rw [emb6]
      refine Shape.idx_ext₂ ?_ ?_
      · show (1024 * ((8 * ((y 1).val / 256) + (y 0).val / 1024) % 8) + (y 0).val % 1024) % 8192 = (y 0).val
        omega
      · show (256 * ((8 * ((y 1).val / 256) + (y 0).val / 1024) / 8) + (y 1).val % 256) % 1024 = (y 1).val
        omega
    rw [← e]
    exact View.emb_mem_set _ _

/-- dk after the run. -/
theorem arr7 : (dats m 0 c).arrAt 7 cfg0.N = resK (aQ m c) (aDO m c) (aO m c) (aL m c) (aK m c) (aV m c) := by
  refine (dats m 0 c).arrAt_eq_of_cover 7 (resK (aQ m c) (aDO m c) (aO m c) (aL m c) (aK m c) (aV m c)) (fun t hf => ?_) (fun y => ?_)
  · have h7 : t.val % 8 = 7 := (flush0_7 t).mp hf
    rw [Value.flushed7]
    funext y
    obtain ⟨p, d, rfl⟩ : ∃ (p : Fin 8192) (d : Fin 256), y = (ix2 p d : S8192x256.Idx) := ⟨_, _, eq_ix2 (n0 := 8192) (n1 := 256) y⟩
    rw [View.read_apply]
    change (outsAt0 m c t.val t.isLt).2.1 (ix2 p d) = _
    rw [outs_dk m c t h7]
    rw [emb7 t p d]
    rw [resK_at _ _ _ _ _ _ (t.val / 8) (by have := lt_N t; omega)]
    exact (cast_eq _ _).symm
  · have h1 : (y 1).val < 1024 := (y 1).isLt
    let t : Fin cfg0.N := ⟨8 * ((y 1).val / 256) + 7, by show _ < 32; omega⟩
    refine ⟨t, (flush0_7 t).mpr (by show (8 * ((y 1).val / 256) + 7) % 8 = 7; omega), ?_⟩
    have e : ((cfg0.win 7).blk t).view.emb (ix2 (⟨(y 0).val, (y 0).isLt⟩ : Fin 8192) (⟨(y 1).val % 256, by omega⟩ : Fin 256) : S8192x256.Idx) = y := by
      rw [emb7]
      refine Shape.idx_ext₂ rfl ?_
      show (256 * ((8 * ((y 1).val / 256) + 7) / 8) + (y 1).val % 256) % 1024 = (y 1).val
      omega
    rw [← e]
    exact View.emb_mem_set _ _

/-- dv after the run. -/
theorem arr8 : (dats m 0 c).arrAt 8 cfg0.N = resV (aQ m c) (aDO m c) (aL m c) (aK m c) := by
  refine (dats m 0 c).arrAt_eq_of_cover 8 (resV (aQ m c) (aDO m c) (aL m c) (aK m c)) (fun t hf => ?_) (fun y => ?_)
  · have h7 : t.val % 8 = 7 := (flush0_8 t).mp hf
    rw [Value.flushed8]
    funext y
    obtain ⟨p, d, rfl⟩ : ∃ (p : Fin 8192) (d : Fin 128), y = (ix2 p d : S8192x128.Idx) := ⟨_, _, eq_ix2 (n0 := 8192) (n1 := 128) y⟩
    rw [View.read_apply]
    change (outsAt0 m c t.val t.isLt).2.2 (ix2 p d) = _
    rw [outs_dv m c t h7]
    rw [emb8 t p d]
    rw [resV_at _ _ _ _ (t.val / 8) (by have := lt_N t; omega)]
    exact (cast_eq _ _).symm
  · have h1 : (y 1).val < 512 := (y 1).isLt
    let t : Fin cfg0.N := ⟨8 * ((y 1).val / 128) + 7, by show _ < 32; omega⟩
    refine ⟨t, (flush0_8 t).mpr (by show (8 * ((y 1).val / 128) + 7) % 8 = 7; omega), ?_⟩
    have e : ((cfg0.win 8).blk t).view.emb (ix2 (⟨(y 0).val, (y 0).isLt⟩ : Fin 8192) (⟨(y 1).val % 128, by omega⟩ : Fin 128) : S8192x128.Idx) = y := by
      rw [emb8]
      refine Shape.idx_ext₂ rfl ?_
      show (128 * ((8 * ((y 1).val / 128) + 7) / 8) + (y 1).val % 128) % 512 = (y 1).val
      omega
    rw [← e]
    exact View.emb_mem_set _ _

end Cert.KernelIdeal.Whole

end
-- ==== Proof.Host.lean ====
/-
  What the host hands to the launch, read at an index: q, k, v and the result's gradient as they lie in memory, and the
  attention's result and the rows' log-sums through the chain of arrays the host computes on the way.
-/
module

public import proofs.«01_k».proof.Proof.Whole
public import Idealize.ShloMosaic.Lib.StableHlo.ReadAt

@[expose] public section

set_option maxRecDepth 16384

noncomputable section

namespace Cert.KernelIdeal.Host

open Idealize.ShloMosaic Idealize.ShloMosaic.TcCoe Cert.KernelIdeal Cert.KernelIdeal.Facts Cert.KernelIdeal.Gen Cert.KernelIdeal.Whole

section Chain

variable (q k : FVec Ideal S8192x4x192 .f32) (v : FVec Ideal S8192x4x128 .f32)

/-- The scores. -/
def hSc : FVec Ideal S4x8192x8192 .f32 :=
  mulf (Host.dotGeneral dot_S8192x4x192_S8192x4x192_S4x8192x8192_2_2_0_0_1_1 none q k)
    (broadcastInDim S4x8192x8192 ![] bcast_S_S4x8192x8192 (constant S_ .f32 0x3D93CD3A#32))

/-- The rows' greatest scores. -/
def hMx : FVec Ideal S4x8192x1 .f32 :=
  broadcastInDim S4x8192x1 ![0, 1] bcast_S4x8192_S4x8192x1_0_1
    (Host.reduce FloatOps.maximumf (hSc q k) (constant S_ .f32 0xFF800000#32) reducesTo_S4x8192x8192_S4x8192_d2 h_S_)

/-- The exponentials of the scores less the row's greatest. -/
def hEx : FVec Ideal S4x8192x8192 .f32 :=
  Host.exp (subf (hSc q k) (broadcastInDim S4x8192x8192 ![0, 1, 2] bcast_S4x8192x1_S4x8192x8192_0_1_2 (hMx q k)))

/-- The rows' sums. -/
def hLs : FVec Ideal S4x8192x1 .f32 :=
  broadcastInDim S4x8192x1 ![0, 1] bcast_S4x8192_S4x8192x1_0_1
    (Host.reduceAdd (hEx q k) (constant S_ .f32 0x00000000#32) reducesTo_S4x8192x8192_S4x8192_d2 h_S_)

/-- The weights. -/
def hPr : FVec Ideal S4x8192x8192 .f32 :=
  Host.divf (hEx q k) (broadcastInDim S4x8192x8192 ![0, 1, 2] bcast_S4x8192x1_S4x8192x8192_0_1_2 (hLs q k))

/-- The attention's result. -/
def hOut : FVec Ideal S8192x512 .f32 :=
  shapeCast _ (transpose S8192x4x128 [2, 0, 1]
    (Host.dotGeneral dot_S8192x4x128_S4x8192x8192_S4x128x8192_0_2_2_1_1_0 none v (hPr q k))
    transposes_S4x128x8192_S8192x4x128_2_0_1) shapeCasts_S8192x4x128_S8192x512

/-- The rows' log-sums, to base two, as a column. -/
def hLc : FVec Ideal S4x8192x1 .f32 :=
  Host.divf (addf (hMx q k) (Host.log (hLs q k)))
    (broadcastInDim S4x8192x1 ![] bcast_S_S4x8192x1 (Host.log (constant S_ .f32 0x40000000#32)))

/-- The rows' log-sums, to base two. -/
def hLse : FVec Ideal S4x1x8192 .f32 := shapeCast _ (hLc q k) shapeCasts_S4x8192x1_S4x1x8192

theorem hSc_apply (h : Fin 4) (i r : Fin 8192) :
    hSc q k (ix3 h i r) = (∑ d : Fin 192, q (ix3 i h d) * k (ix3 r h d)) * Ideal.ofBits .f32 0x3D93CD3A#32 := by
  unfold hSc
  pointwise

theorem hMx_apply (h : Fin 4) (i : Fin 8192) :
    hMx q k (ix3 h i 0) = (Finset.univ : Finset (Fin 8192)).fold max (Ideal.ofBits .f32 0xFF800000#32) fun r => hSc q k (ix3 h i r) := by
  unfold hMx
  pointwise

theorem hEx_apply (h : Fin 4) (i r : Fin 8192) : hEx q k (ix3 h i r) = Ideal.exp (hSc q k (ix3 h i r) - hMx q k (ix3 h i 0)) := by
  unfold hEx
  pointwise

theorem hLs_apply (h : Fin 4) (i : Fin 8192) : hLs q k (ix3 h i 0) = ∑ r : Fin 8192, hEx q k (ix3 h i r) := by
  unfold hLs
  pointwise

theorem hPr_apply (h : Fin 4) (i r : Fin 8192) : hPr q k (ix3 h i r) = Ideal.div (hEx q k (ix3 h i r)) (hLs q k (ix3 h i 0)) := by
  unfold hPr
  pointwise

theorem hOut_apply (i : Fin 8192) (h : Fin 4) (d : Fin 128) :
    hOut q k v (ix2 i (col' h d)) = ∑ r : Fin 8192, v (ix3 r h d) * hPr q k (ix3 h i r) := by
  unfold hOut
  pointwise
  have e0 : (col' h.val d).val / 128 = h.val := col'_div h.val h.isLt d
  have e1 : (col' h.val d).val % 128 = d.val := by
    show (128 * h.val + d.val) % 512 % 128 = d.val
    omega
  have f0 : ∀ p, (⟨(col' h.val d).val / 128, p⟩ : Fin 4) = h := fun p => Fin.ext e0
  have f1 : ∀ p, (⟨(col' h.val d).val % 128, p⟩ : Fin 128) = d := fun p => Fin.ext e1
  simp only [f0, f1]

theorem log_at {s : Shape} (x : FVec Ideal s .f32) (i : s.Idx) : Host.log x i = Ideal.log (x i) := rfl

theorem word_at {s : Shape} (w : BitVec 32) (i : s.Idx) : constant (F := Ideal) s .f32 w i = Ideal.ofBits .f32 w := rfl

theorem div_at {s : Shape} (x y : FVec Ideal s .f32) (i : s.Idx) : Host.divf x y i = Ideal.div (x i) (y i) := rfl

theorem add_at {s : Shape} (x y : FVec Ideal s .f32) (i : s.Idx) : addf x y i = x i + y i := rfl

theorem hLc_apply (h : Fin 4) (i : Fin 8192) :
    hLc q k (ix3 h i 0) = Ideal.div (hMx q k (ix3 h i 0) + Ideal.log (hLs q k (ix3 h i 0))) (Ideal.log (Ideal.ofBits .f32 0x40000000#32)) := by
  unfold hLc
  rw [div_at, add_at, log_at, ValueIdx.broadcastInDim_scalar_apply, log_at, word_at]

theorem hLse_apply (h : Fin 4) (i : Fin 8192) : hLse q k (ix3 h 0 i) = hLc q k (ix3 h i 0) := by
  unfold hLse
  generalize hLc q k = y
  refine shapeCast_apply y shapeCasts_S4x8192x1_S4x1x8192 (ix3 h 0 i) (ix3 h i 0) ?_
  rw [Shape.rowMajor_val_three, Shape.rowMajor_val_three]
  show (h.val * 8192 + i.val) * 1 + 0 = (h.val * 1 + 0) * 8192 + i.val
  omega

end Chain

variable (m : (ℓ : Loc nD τ sig) → Buf (Elt Ideal) ℓ) (c : Dev nD)

/-- q in memory. -/
abbrev inQ : FVec Ideal S8192x4x192 .f32 := m (c, Proc.tc.devRef main_arg0)
/-- k in memory. -/
abbrev inK : FVec Ideal S8192x4x192 .f32 := m (c, Proc.tc.devRef main_arg1)
/-- v in memory. -/
abbrev inV : FVec Ideal S8192x4x128 .f32 := m (c, Proc.tc.devRef main_arg2)
/-- The result's gradient in memory. -/
abbrev inG : FVec Ideal S8192x4x128 .f32 := m (c, Proc.tc.devRef main_arg3)

theorem aO_eq : aO m c = hOut (inQ m c) (inK m c) (inV m c) := by
  show V m c main_v33 = _
  unfold V
  after_reads_simp
  rfl

theorem aL_eq : aL m c = hLse (inQ m c) (inK m c) := by
  show V m c main_v34 = _
  unfold V
  after_reads_simp
  rfl

theorem aV_apply (j : S8192x512.Idx) :
    aV m c j = inV m c (ix3 (j 0) ⟨(j 1).val / 128, by have : (j 1).val < 512 := (j 1).isLt; omega⟩ ⟨(j 1).val % 128, by omega⟩) := by
  show V m c main_v12 j = _
  unfold V
  after_reads_at

theorem aDO_apply (j : S8192x512.Idx) :
    aDO m c j = inG m c (ix3 (j 0) ⟨(j 1).val / 128, by have : (j 1).val < 512 := (j 1).isLt; omega⟩ ⟨(j 1).val % 128, by omega⟩) := by
  show V m c main_v14 j = _
  unfold V
  after_reads_at

theorem aQ_apply (j : S8192x1024.Idx) :
    aQ m c j = Ideal.div ((if h : (j 1).val / 256 < 4 ∧ (j 1).val % 256 < 192 then
        inQ m c (ix3 (j 0) ⟨(j 1).val / 256, h.1⟩ ⟨(j 1).val % 256, h.2⟩) else FloatOps.sitofp (F := Ideal) .f32 (0#32 : BitVec 32))
        * Ideal.ofBits .f32 0x3D93CD3A#32) (Ideal.log (Ideal.ofBits .f32 0x40000000#32)) := by
  show V m c main_v7 j = _
  unfold V
  after_reads_at

theorem aK_apply (j : S8192x1024.Idx) :
    aK m c j = (if h : (j 1).val / 256 < 4 ∧ (j 1).val % 256 < 192 then
        inK m c (ix3 (j 0) ⟨(j 1).val / 256, h.1⟩ ⟨(j 1).val % 256, h.2⟩) else FloatOps.sitofp (F := Ideal) .f32 (0#32 : BitVec 32)) := by
  show V m c main_v10 j = _
  unfold V
  after_reads_at

end Cert.KernelIdeal.Host

end
-- ==== Proof.Attn.lean ====
/-
  The attention's gradient over the reals, and the two forms in which the programs spell it: the reference through the
  quotient by the row's sum, the kernel through a power of two of the score less the row's log-sum.
-/
module

public import Idealize.ShloMosaic.PureOps.Ideal.Laws
public import Mathlib.Analysis.SpecialFunctions.Pow.Real

@[expose] public section

noncomputable section

namespace Cert.Attn

/-- A sum of reals is the sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of some reals, from below all, is a real when there is one at all. -/
theorem fold_max {ι : Type} (s : Finset ι) (f : ι → ℝ) :
    (s = ∅ ∧ s.fold max (⊥ : EReal) (fun i => (f i : EReal)) = ⊥) ∨ ∃ x : ℝ, s.fold max (⊥ : EReal) (fun i => (f i : EReal)) = x := by
  classical
  induction s using Finset.induction_on with
  | empty => exact Or.inl ⟨rfl, rfl⟩
  | insert a s ha ih =>
    refine Or.inr ?_
    rw [Finset.fold_insert ha]
    rcases ih with ⟨_, h⟩ | ⟨x, h⟩
    · exact ⟨f a, by rw [h]; exact max_eq_left bot_le⟩
    · refine ⟨max (f a) x, ?_⟩
      rw [h]
      rcases le_total (f a) x with hx | hx
      · rw [max_eq_right hx, max_eq_right (EReal.coe_le_coe_iff.mpr hx)]
      · rw [max_eq_left hx, max_eq_left (EReal.coe_le_coe_iff.mpr hx)]

/-- A sum over 256 columns of which the last 64 are zero. -/
theorem sum_pad (f : Fin 192 → ℝ) : (∑ d : Fin 256, if h : d.val < 192 then f ⟨d.val, h⟩ else 0) = ∑ d : Fin 192, f d := by
  rw [Fin.sum_univ_add (a := 192) (b := 64) (fun d : Fin 256 => if h : d.val < 192 then f ⟨d.val, h⟩ else 0)]
  have h1 : ∀ d : Fin 192, (if h : (Fin.castAdd 64 d).val < 192 then f ⟨(Fin.castAdd 64 d).val, h⟩ else 0) = f d := fun d =>
    dif_pos d.isLt
  have h2 : ∀ d : Fin 64, (if h : (Fin.natAdd 192 d).val < 192 then f ⟨(Fin.natAdd 192 d).val, h⟩ else 0) = 0 := fun d =>
    dif_neg (by show ¬ (192 + d.val) < 192; omega)
  rw [Finset.sum_congr rfl fun d _ => h1 d, Finset.sum_congr rfl fun d _ => h2 d, Finset.sum_const_zero, add_zero]

/-- The scores' scale. -/
def scale : ℝ := 9686330 / 134217728

theorem scale_ne : scale ≠ 0 := by unfold scale; norm_num

/-- The logarithm of two. -/
def ln2 : ℝ := Real.log 2

theorem ln2_ne : ln2 ≠ 0 := (Real.log_pos one_lt_two).ne'

variable (q k : Fin 8192 → Fin 4 → Fin 192 → ℝ) (v g : Fin 8192 → Fin 4 → Fin 128 → ℝ)

/-- Query `i`'s score of key `r`. -/
def sc (h : Fin 4) (i r : Fin 8192) : ℝ := (∑ d : Fin 192, q i h d * k r h d) * scale

/-- Query `i`'s greatest score. -/
def mx (h : Fin 4) (i : Fin 8192) : ℝ := ((Finset.univ : Finset (Fin 8192)).fold max (⊥ : EReal) fun r => (sc q k h i r : EReal)).toReal

theorem mx_eq (h : Fin 4) (i : Fin 8192) :
    ((Finset.univ : Finset (Fin 8192)).fold max (⊥ : EReal) fun r => (sc q k h i r : EReal)) = (mx q k h i : EReal) := by
  unfold mx
  rcases fold_max (Finset.univ : Finset (Fin 8192)) (sc q k h i) with ⟨h0, _⟩ | ⟨x, hx⟩
  · exact absurd h0 (Finset.univ_nonempty).ne_empty
  · rw [hx, EReal.toReal_coe]

/-- The exponential of a score less the row's greatest. -/
def ex (h : Fin 4) (i r : Fin 8192) : ℝ := Real.exp (sc q k h i r - mx q k h i)

/-- The row's sum. -/
def ls (h : Fin 4) (i : Fin 8192) : ℝ := ∑ r : Fin 8192, ex q k h i r

theorem ls_pos (h : Fin 4) (i : Fin 8192) : 0 < ls q k h i :=
  Finset.sum_pos (fun _ _ => Real.exp_pos _) Finset.univ_nonempty

/-- Query `i`'s weight of key `r`. -/
def pr (h : Fin 4) (i r : Fin 8192) : ℝ := ex q k h i r / ls q k h i

/-- The attention's result. -/
def out (i : Fin 8192) (h : Fin 4) (d : Fin 128) : ℝ := ∑ r : Fin 8192, v r h d * pr q k h i r

/-- The gradient of a weight. -/
def dp (h : Fin 4) (i r : Fin 8192) : ℝ := ∑ d : Fin 128, g i h d * v r h d

/-- The row's mean of the weights' gradients. -/
def dl (h : Fin 4) (i : Fin 8192) : ℝ := ∑ r : Fin 8192, pr q k h i r * dp v g h i r

/-- The gradient of a score. -/
def ds (h : Fin 4) (i r : Fin 8192) : ℝ := pr q k h i r * (dp v g h i r - dl q k v g h i)

/-- dq, less the scale. -/
def gq (i : Fin 8192) (h : Fin 4) (d : Fin 192) : ℝ := ∑ r : Fin 8192, ds q k v g h i r * k r h d

/-- dk, over the logarithm of two. -/
def gk (r : Fin 8192) (h : Fin 4) (d : Fin 192) : ℝ := ∑ i : Fin 8192, ds q k v g h i r * (q i h d * scale / ln2)

/-- dv. -/
def gv (r : Fin 8192) (h : Fin 4) (d : Fin 128) : ℝ := ∑ i : Fin 8192, pr q k h i r * g i h d

/-- The gradient of the result against the result is the row's mean of the weights' gradients. -/
theorem delta (h : Fin 4) (i : Fin 8192) : ∑ d : Fin 128, g i h d * out q k v i h d = dl q k v g h i := by
  unfold out dl dp
  simp only [Finset.mul_sum]
  rw [Finset.sum_comm]
  exact Finset.sum_congr rfl fun r _ => Finset.sum_congr rfl fun d _ => by ring

/-- The kernel's weight: the power of two of the scaled score less the row's log-sum. -/
theorem weight (h : Fin 4) (i r : Fin 8192) :
    Real.rpow 2 ((∑ d : Fin 192, k r h d * (q i h d * scale / ln2)) - (mx q k h i + Real.log (ls q k h i)) / ln2) = pr q k h i r := by
  have e : (∑ d : Fin 192, k r h d * (q i h d * scale / ln2)) = sc q k h i r / ln2 := by
    unfold sc
    rw [Finset.sum_mul, Finset.sum_div]
    exact Finset.sum_congr rfl fun d _ => by ring
  have hl := ls_pos q k h i
  rw [e]
  refine Eq.trans (Real.rpow_def_of_pos two_pos _) ?_
  have e2 : Real.log 2 * (sc q k h i r / ln2 - (mx q k h i + Real.log (ls q k h i)) / ln2)
      = (sc q k h i r - mx q k h i) - Real.log (ls q k h i) := by
    have := ln2_ne
    unfold ln2 at *
    field_simp
    ring
  rw [e2, Real.exp_sub, Real.exp_log hl]
  rfl

/-- The reference's gradient of a score: through the quotient by the row's sum. -/
theorem ref_ds (h : Fin 4) (i r : Fin 8192) :
    (dp v g h i r / ls q k h i + -(∑ r' : Fin 8192, dp v g h i r' * (1 / (ls q k h i * ls q k h i)) * ex q k h i r')) * ex q k h i r * scale
      = ds q k v g h i r * scale := by
  have hl := (ls_pos q k h i).ne'
  have e : (∑ r' : Fin 8192, dp v g h i r' * (1 / (ls q k h i * ls q k h i)) * ex q k h i r') = dl q k v g h i / ls q k h i := by
    unfold dl pr
    rw [Finset.sum_div]
    exact Finset.sum_congr rfl fun r' _ => by field_simp
  rw [e]
  unfold ds pr
  field_simp
  ring

/-- The reference's dq: the scale comes in with the score's gradient and is divided out. -/
theorem ref_gq (i : Fin 8192) (h : Fin 4) (d : Fin 192) :
    (∑ r : Fin 8192, ds q k v g h i r * scale * k r h d) / scale = gq q k v g i h d := by
  unfold gq
  rw [Finset.sum_div]
  have := scale_ne
  exact Finset.sum_congr rfl fun r _ => by field_simp

/-- The reference's dk. -/
theorem ref_gk (r : Fin 8192) (h : Fin 4) (d : Fin 192) :
    (∑ i : Fin 8192, ds q k v g h i r * scale * q i h d) / ln2 = gk q k v g r h d := by
  unfold gk
  rw [Finset.sum_div]
  exact Finset.sum_congr rfl fun i _ => by ring

end Cert.Attn

end
-- ==== Proof.Real.lean ====
/-
  The launch's three results over real arguments: the arrays the host hands over are real, so the weights are the
  attention's and the results are its gradients, with zeros in the columns that pad a head.
-/
module

public import proofs.«01_k».proof.Proof.Host
public import proofs.«01_k».proof.Proof.Attn

@[expose] public section

noncomputable section

namespace Cert.Words

open Idealize.ShloMosaic

/-- The scale's word. -/
theorem scale_word : Ideal.ofBits .f32 0x3D93CD3A#32 = (Attn.scale : EReal) := by
  unfold Attn.scale
  simp [Ideal.ofBits, Ideal.ieee, -EReal.coe_mul]; norm_num

/-- The word of two. -/
theorem two_word : Ideal.ofBits .f32 0x40000000#32 = ((2 : ℝ) : EReal) := by
  simp [Ideal.ofBits, Ideal.ieee, -EReal.coe_mul]; norm_num

/-- The word below every number. -/
theorem bot_word : Ideal.ofBits .f32 0xFF800000#32 = ⊥ := by
  simp [Ideal.ofBits, Ideal.ieee]

/-- The word above every number. -/
theorem top_word : Ideal.ofBits .f32 0x7F800000#32 = ⊤ := by
  simp [Ideal.ofBits, Ideal.ieee]

/-- The logarithm of two. -/
theorem log_two : Ideal.log (Ideal.ofBits .f32 0x40000000#32) = (Attn.ln2 : EReal) := by
  rw [two_word, Ideal.log_coe, if_neg (by norm_num)]
  rfl

/-- The whole number zero as a float. -/
theorem int_zero : FloatOps.sitofp (F := Ideal) .f32 (0#32 : BitVec 32) = (0 : EReal) := by
  show (((0#32 : BitVec 32).toInt : ℝ) : EReal) = 0
  simp

/-- A quotient of reals. -/
theorem div_real (x y : ℝ) (h : y ≠ 0) : Ideal.div (x : EReal) (y : EReal) = ((x / y : ℝ) : EReal) := by
  rw [Ideal.div_coe h, ← EReal.coe_mul, mul_one_div]

end Cert.Words

namespace Cert.KernelIdeal.Host

open Idealize.ShloMosaic Idealize.ShloMosaic.TcCoe Cert.KernelIdeal.Gen Cert.KernelIdeal.Whole Cert.Words Cert.Attn

/-- A head's 192 columns with 64 columns of zeros behind them. -/
def padded (f : Fin 192 → ℝ) (d : Fin 256) : ℝ := if h : d.val < 192 then f ⟨d.val, h⟩ else 0

variable (m : (ℓ : Loc nD τ sig) → Buf (Elt Ideal) ℓ) (c : Dev nD)
variable (q k : Fin 8192 → Fin 4 → Fin 192 → ℝ) (v g : Fin 8192 → Fin 4 → Fin 128 → ℝ)

/-- The four arguments hold real numbers. -/
structure Holds : Prop where
  q : ∀ i h d, inQ m c (ix3 i h d) = (q i h d : EReal)
  k : ∀ i h d, inK m c (ix3 i h d) = (k i h d : EReal)
  v : ∀ i h d, inV m c (ix3 i h d) = (v i h d : EReal)
  g : ∀ i h d, inG m c (ix3 i h d) = (g i h d : EReal)

variable {m c q k v g} (H : Holds m c q k v g)
include H

theorem sc_real (h : Fin 4) (i r : Fin 8192) : hSc (inQ m c) (inK m c) (ix3 h i r) = (sc q k h i r : EReal) := by
  rw [hSc_apply, scale_word]
  simp only [H.q, H.k, ← EReal.coe_mul, ← coe_sum]
  rfl

theorem mx_real (h : Fin 4) (i : Fin 8192) : hMx (inQ m c) (inK m c) (ix3 h i 0) = (mx q k h i : EReal) := by
  rw [hMx_apply, bot_word]
  simp only [sc_real H]
  exact mx_eq q k h i

theorem ex_real (h : Fin 4) (i r : Fin 8192) : hEx (inQ m c) (inK m c) (ix3 h i r) = (ex q k h i r : EReal) := by
  rw [hEx_apply, sc_real H, mx_real H, ← EReal.coe_sub, Ideal.exp_coe]
  rfl

theorem ls_real (h : Fin 4) (i : Fin 8192) : hLs (inQ m c) (inK m c) (ix3 h i 0) = (ls q k h i : EReal) := by
  rw [hLs_apply]
  simp only [ex_real H, ← coe_sum]
  rfl

theorem pr_real (h : Fin 4) (i r : Fin 8192) : hPr (inQ m c) (inK m c) (ix3 h i r) = (pr q k h i r : EReal) := by
  rw [hPr_apply, ex_real H, ls_real H, div_real _ _ (ls_pos q k h i).ne']
  rfl

theorem aO_real (i : Fin 8192) (h : Fin 4) (d : Fin 128) : aO m c (ix2 i (col' h.val d)) = (out q k v i h d : EReal) := by
  rw [aO_eq, hOut_apply]
  simp only [pr_real H, H.v, ← EReal.coe_mul, ← coe_sum]
  rfl

theorem aL_real (h : Fin 4) (i : Fin 8192) : aL m c (ix3 h 0 i) = (((mx q k h i + Real.log (ls q k h i)) / ln2 : ℝ) : EReal) := by
  rw [aL_eq, hLse_apply, hLc_apply, mx_real H, ls_real H, log_two, Ideal.log_coe, if_neg (not_le.mpr (ls_pos q k h i)), ← EReal.coe_add,
    div_real _ _ ln2_ne]

theorem aV_real (r : Fin 8192) (h : Fin 4) (d : Fin 128) : aV m c (ix2 r (col' h.val d)) = (v r h d : EReal) := by
  rw [aV_apply]
  refine Eq.trans (congrArg (inV m c) (congrArg₂ (ix3 r) (Fin.ext (col'_div h.val h.isLt d)) (Fin.ext ?_))) (H.v r h d)
  show (128 * h.val + d.val) % 512 % 128 = d.val
  omega

theorem aDO_real (i : Fin 8192) (h : Fin 4) (d : Fin 128) : aDO m c (ix2 i (col' h.val d)) = (g i h d : EReal) := by
  rw [aDO_apply]
  refine Eq.trans (congrArg (inG m c) (congrArg₂ (ix3 i) (Fin.ext (col'_div h.val h.isLt d)) (Fin.ext ?_))) (H.g i h d)
  show (128 * h.val + d.val) % 512 % 128 = d.val
  omega

theorem aK_real (r : Fin 8192) (h : Fin 4) (d : Fin 256) : aK m c (ix2 r (col h.val d)) = (padded (k r h) d : EReal) := by
  have e0 : (col h.val d).val / 256 = h.val := col_div h.val h.isLt d
  have e1 : (col h.val d).val % 256 = d.val := by
    show (256 * h.val + d.val) % 1024 % 256 = d.val
    omega
  rw [aK_apply]
  unfold padded
  by_cases hd : d.val < 192
  · rw [dif_pos hd]
    refine (dif_pos ⟨by show (col h.val d).val / 256 < 4; rw [e0]; exact h.isLt, by show (col h.val d).val % 256 < 192; rw [e1]; exact hd⟩).trans ?_
    exact Eq.trans (congrArg (inK m c) (congrArg₂ (ix3 r) (Fin.ext e0) (show _ = (⟨d.val, hd⟩ : Fin 192) from Fin.ext e1))) (H.k r h ⟨d.val, hd⟩)
  · rw [dif_neg hd]
    refine (dif_neg fun hh => hd (by have := hh.2; change (col h.val d).val % 256 < 192 at this; rwa [e1] at this)).trans ?_
    rw [int_zero, EReal.coe_zero]

theorem aQ_real (i : Fin 8192) (h : Fin 4) (d : Fin 256) :
    aQ m c (ix2 i (col h.val d)) = (padded (fun d => q i h d * scale / ln2) d : EReal) := by
  have e0 : (col h.val d).val / 256 = h.val := col_div h.val h.isLt d
  have e1 : (col h.val d).val % 256 = d.val := by
    show (256 * h.val + d.val) % 1024 % 256 = d.val
    omega
  rw [aQ_apply, scale_word, log_two]
  unfold padded
  by_cases hd : d.val < 192
  · rw [dif_pos hd, ← div_real _ _ ln2_ne, EReal.coe_mul]
    refine congrArg (fun x => Ideal.div (x * (scale : EReal)) (ln2 : EReal)) ?_
    refine (dif_pos ⟨by show (col h.val d).val / 256 < 4; rw [e0]; exact h.isLt, by show (col h.val d).val % 256 < 192; rw [e1]; exact hd⟩).trans ?_
    exact Eq.trans (congrArg (inQ m c) (congrArg₂ (ix3 i) (Fin.ext e0) (show _ = (⟨d.val, hd⟩ : Fin 192) from Fin.ext e1))) (H.q i h ⟨d.val, hd⟩)
  · rw [dif_neg hd]
    have e : (if h' : ((ix2 i (col h.val d) : S8192x1024.Idx) 1).val / 256 < 4 ∧ ((ix2 i (col h.val d) : S8192x1024.Idx) 1).val % 256 < 192 then
        inQ m c (ix3 ((ix2 i (col h.val d) : S8192x1024.Idx) 0) ⟨((ix2 i (col h.val d) : S8192x1024.Idx) 1).val / 256, h'.1⟩
          ⟨((ix2 i (col h.val d) : S8192x1024.Idx) 1).val % 256, h'.2⟩) else FloatOps.sitofp (F := Ideal) .f32 (0#32 : BitVec 32)) = ((0 : ℝ) : EReal) := by
      refine (dif_neg fun hh => hd (by have := hh.2; change (col h.val d).val % 256 < 192 at this; rwa [e1] at this)).trans ?_
      rw [int_zero, EReal.coe_zero]
    rw [e, ← EReal.coe_mul, div_real _ _ ln2_ne, zero_mul, zero_div]

omit H in
theorem padded_mul (a b : Fin 192 → ℝ) (d : Fin 256) :
    padded a d * padded b d = if h : d.val < 192 then a ⟨d.val, h⟩ * b ⟨d.val, h⟩ else 0 := by
  unfold padded
  by_cases h : d.val < 192
  · rw [dif_pos h, dif_pos h, dif_pos h]
  · rw [dif_neg h, dif_neg h, dif_neg h, zero_mul]

omit H in
theorem hd_eq (h : Fin 4) : hd h.val = h := Fin.ext (Nat.mod_eq_of_lt h.isLt)

/-- The launch's weights are the attention's. -/
theorem gw_real (h : Fin 4) (r i : Fin 8192) : gw (aQ m c) (aL m c) (aK m c) h.val r i = (pr q k h i r : EReal) := by
  unfold gw
  rw [hd_eq, aL_real H]
  simp only [aQ_real H, aK_real H, ← EReal.coe_mul, padded_mul]
  rw [← coe_sum, sum_pad (fun d => k r h d * (q i h d * scale / ln2)), ← EReal.coe_sub, Ideal.exp2_coe, weight]

/-- The launch's score gradients are the attention's. -/
theorem gds_real (h : Fin 4) (r i : Fin 8192) :
    gds (aQ m c) (aDO m c) (aO m c) (aL m c) (aK m c) (aV m c) h.val r i = (ds q k v g h i r : EReal) := by
  unfold gds
  rw [gw_real H]
  simp only [aV_real H, aDO_real H, aO_real H, ← EReal.coe_mul, ← coe_sum]
  rw [delta, ← EReal.coe_sub, ← EReal.coe_mul]
  unfold ds dp
  simp only [mul_comm]

omit H in
theorem sum_padded (a : Fin 8192 → ℝ) (b : Fin 8192 → Fin 192 → ℝ) (d : Fin 256) :
    ∑ i : Fin 8192, a i * padded (b i) d = padded (fun d => ∑ i : Fin 8192, a i * b i d) d := by
  unfold padded
  by_cases h : d.val < 192
  · simp only [dif_pos h]
  · simp only [dif_neg h, mul_zero, Finset.sum_const_zero]

theorem resQ_real (i : Fin 8192) (h : Fin 4) (d : Fin 256) :
    resQ (aQ m c) (aDO m c) (aO m c) (aL m c) (aK m c) (aV m c) (ix2 i (col h.val d)) = (padded (gq q k v g i h) d : EReal) := by
  rw [resQ_at _ _ _ _ _ _ h.val h.isLt]
  simp only [gds_real H, aK_real H, ← EReal.coe_mul, ← coe_sum]
  rw [sum_padded]
  rfl

theorem resK_real (r : Fin 8192) (h : Fin 4) (d : Fin 256) :
    resK (aQ m c) (aDO m c) (aO m c) (aL m c) (aK m c) (aV m c) (ix2 r (col h.val d)) = (padded (gk q k v g r h) d : EReal) := by
  rw [resK_at _ _ _ _ _ _ h.val h.isLt]
  simp only [gds_real H, aQ_real H, ← EReal.coe_mul, ← coe_sum]
  rw [sum_padded]
  rfl

theorem resV_real (r : Fin 8192) (h : Fin 4) (d : Fin 128) :
    resV (aQ m c) (aDO m c) (aL m c) (aK m c) (ix2 r (col' h.val d)) = (gv q k g r h d : EReal) := by
  rw [resV_at _ _ _ _ h.val h.isLt]
  simp only [gw_real H, aDO_real H, ← EReal.coe_mul, ← coe_sum]
  rfl

end Cert.KernelIdeal.Host

end
-- ==== Proof.Ref.lean ====
/-
  The reference's three results over real arguments, stage by stage: each stage at an index, then its value as a real.
-/
module

public import proofs.«01_k».proof.Proof.Real
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Stage

open Idealize.ShloMosaic Idealize.ShloMosaic.TcCoe Cert.ReferenceIdeal Cert.ReferenceIdeal.Gen Cert.ReferenceIdeal.Read
open Cert.Words Cert.Attn Cert.KernelIdeal.Whole
open Cert.KernelIdeal.Host (padded log_at)

theorem fold_at (x : FVec Ideal S4x8192x8192 .f32) (z : FVec Ideal S_ .f32) (h : Fin 4) (i : Fin 8192) :
    Host.reduce FloatOps.maximumf x z reducesTo_S4x8192x8192_S4x8192_d2 h_S_ (ix2 h i)
      = (Finset.univ : Finset (Fin 8192)).fold max (z ix0) fun r => x (ix3 h i r) := by
  pointwise
  rw [show Shape.Idx.first h_S_ = ix0 from Subsingleton.elim _ _]

theorem bcol (y : FVec Ideal S4x8192 .f32) (h : Fin 4) (i : Fin 8192) :
    broadcastInDim S4x8192x1 ![0, 1] bcast_S4x8192_S4x8192x1_0_1 y (ix3 h i 0) = y (ix2 h i) := by
  pointwise

theorem bone (z : FVec Ideal S_ .f32) (h : Fin 4) (i : Fin 8192) :
    broadcastInDim S4x8192 ![] bcast_S_S4x8192 z (ix2 h i) = z ix0 := by
  pointwise

theorem max_at (y z : FVec Ideal S4x8192 .f32) (j : S4x8192.Idx) : maximumf y z j = max (y j) (z j) := rfl

section At

variable (q k : FVec Ideal S8192x4x192 .f32) (v g : FVec Ideal S8192x4x128 .f32)

theorem at2 (h : Fin 4) (i r : Fin 8192) :
    val_main_v2 (F := Ideal) q k (ix3 h i r) = (∑ d : Fin 192, q (ix3 i h d) * k (ix3 r h d)) * Ideal.ofBits .f32 0x3D93CD3A#32 := by
  unfold val_main_v2 val_main_v0 val_main_v1 val_main_cst
  pointwise

theorem at3 (h : Fin 4) (i : Fin 8192) :
    val_main_v3 (F := Ideal) q k (ix2 h i)
      = (Finset.univ : Finset (Fin 8192)).fold max (val_main_cst_0 (F := Ideal) ix0) fun r => val_main_v2 (F := Ideal) q k (ix3 h i r) := by
  unfold val_main_v3
  exact fold_at _ _ h i

theorem at20 (h : Fin 4) (i : Fin 8192) :
    val_main_v20 (F := Ideal) q k (ix3 h i 0) = max (val_main_cst_2 (F := Ideal) ix0) (val_main_v3 (F := Ideal) q k (ix2 h i)) := by
  unfold val_main_v20
  rw [bcol]
  unfold val_main_v10
  rw [max_at]
  unfold val_main_v9
  rw [bone]

theorem at23 (h : Fin 4) (i r : Fin 8192) :
    val_main_v23 (F := Ideal) q k (ix3 h i r) = Ideal.exp (val_main_v2 (F := Ideal) q k (ix3 h i r) - val_main_v20 (F := Ideal) q k (ix3 h i 0)) := by
  unfold val_main_v23 val_main_v22 val_main_v21
  pointwise

theorem at25 (h : Fin 4) (i : Fin 8192) :
    val_main_v25 (F := Ideal) q k (ix3 h i 0) = ∑ r : Fin 8192, val_main_v23 (F := Ideal) q k (ix3 h i r) := by
  unfold val_main_v25 val_main_v24 val_main_cst_8
  pointwise

theorem at27 (h : Fin 4) (i r : Fin 8192) :
    val_main_v27 (F := Ideal) q k (ix3 h i r) = Ideal.div (val_main_v23 (F := Ideal) q k (ix3 h i r)) (val_main_v25 (F := Ideal) q k (ix3 h i 0)) := by
  unfold val_main_v27 val_main_v26
  pointwise

theorem at34 (h : Fin 4) (i r : Fin 8192) :
    val_main_v34 (F := Ideal) v g (ix3 h i r) = ∑ d : Fin 128, g (ix3 i h d) * v (ix3 r h d) := by
  unfold val_main_v34 val_main_v33
  pointwise

theorem at39 (h : Fin 4) (i r : Fin 8192) :
    val_main_v39 (F := Ideal) q k v g (ix3 h i r)
      = val_main_v34 (F := Ideal) v g (ix3 h i r)
        * Ideal.div 1 (val_main_v25 (F := Ideal) q k (ix3 h i 0) * val_main_v25 (F := Ideal) q k (ix3 h i 0)) * val_main_v23 (F := Ideal) q k (ix3 h i r) := by
  unfold val_main_v39 val_main_v38 val_main_v37 val_main_v30 val_main_v29 val_main_v28 val_main_cst_9
  pointwise

theorem at46 (h : Fin 4) (i r : Fin 8192) :
    val_main_v46 (F := Ideal) q k v g (ix3 h i r) = -∑ r' : Fin 8192, val_main_v39 (F := Ideal) q k v g (ix3 h i r') := by
  unfold val_main_v46 val_main_v45 val_main_v42 val_main_v41 val_main_v40 val_main_cst_10 val_main_cst_11
  pointwise
  all_goals simp only [Fin.sum_univ_one, Finset.univ_unique, Finset.sum_singleton]

theorem at50 (h : Fin 4) (i r : Fin 8192) :
    val_main_v50 (F := Ideal) q k v g (ix3 h i r)
      = (Ideal.div (val_main_v34 (F := Ideal) v g (ix3 h i r)) (val_main_v25 (F := Ideal) q k (ix3 h i 0)) + val_main_v46 (F := Ideal) q k v g (ix3 h i r))
        * val_main_v23 (F := Ideal) q k (ix3 h i r) * Ideal.ofBits .f32 0x3D93CD3A#32 := by
  unfold val_main_v50 val_main_v48 val_main_v47 val_main_v44 val_main_v43 val_main_v49 val_main_cst_12
  pointwise

theorem at56 (i : Fin 8192) (h : Fin 4) (d : Fin 192) :
    val_main_v56 (F := Ideal) q k v g (ix3 i h d)
      = Ideal.div (∑ r : Fin 8192, val_main_v50 (F := Ideal) q k v g (ix3 h i r) * k (ix3 r h d)) (Ideal.ofBits .f32 0x3D93CD3A#32) := by
  unfold val_main_v56 val_main_v54 val_main_v53 val_main_v55 val_main_cst_13
  pointwise

theorem at61 (r : Fin 8192) (h : Fin 4) (d : Fin 192) :
    val_main_v61 (F := Ideal) q k v g (ix3 r h d)
      = Ideal.div (∑ i : Fin 8192, val_main_v50 (F := Ideal) q k v g (ix3 h i r) * q (ix3 i h d)) (val_main_v59 (F := Ideal) ix0) := by
  unfold val_main_v61 val_main_v52 val_main_v51 val_main_v60
  pointwise

theorem at58 (j : S8192x1024.Idx) :
    val_main_v58 (F := Ideal) q k v g j = (if h : (j 1).val / 256 < 4 ∧ (j 1).val % 256 < 192 then
        val_main_v56 (F := Ideal) q k v g (ix3 (j 0) ⟨(j 1).val / 256, h.1⟩ ⟨(j 1).val % 256, h.2⟩)
      else FloatOps.sitofp (F := Ideal) .f32 (0#32 : BitVec 32)) := by
  unfold val_main_v58 val_main_v57 val_main_call0_v0 val_main_c
  pointwise

theorem at63 (j : S8192x1024.Idx) :
    val_main_v63 (F := Ideal) q k v g j = (if h : (j 1).val / 256 < 4 ∧ (j 1).val % 256 < 192 then
        val_main_v61 (F := Ideal) q k v g (ix3 (j 0) ⟨(j 1).val / 256, h.1⟩ ⟨(j 1).val % 256, h.2⟩)
      else FloatOps.sitofp (F := Ideal) .f32 (0#32 : BitVec 32)) := by
  unfold val_main_v63 val_main_v62 val_main_call1_v0 val_main_c_15
  pointwise

theorem at36 (r : Fin 8192) (h : Fin 4) (d : Fin 128) :
    val_main_v36 (F := Ideal) q k g (ix3 r h d) = ∑ i : Fin 8192, g (ix3 i h d) * val_main_v27 (F := Ideal) q k (ix3 h i r) := by
  unfold val_main_v36 val_main_v35 val_main_v33
  pointwise

theorem at64 (j : S8192x512.Idx) :
    val_main_v64 (F := Ideal) q k g j
      = val_main_v36 (F := Ideal) q k g (ix3 (j 0) ⟨(j 1).val / 128, by have : (j 1).val < 512 := (j 1).isLt; omega⟩ ⟨(j 1).val % 128, by omega⟩) := by
  unfold val_main_v64
  pointwise

end At

section Real

variable {q k : FVec Ideal S8192x4x192 .f32} {v g : FVec Ideal S8192x4x128 .f32}
variable {rq rk : Fin 8192 → Fin 4 → Fin 192 → ℝ} {rv rg : Fin 8192 → Fin 4 → Fin 128 → ℝ}
variable (hq : ∀ i h d, q (ix3 i h d) = (rq i h d : EReal)) (hk : ∀ i h d, k (ix3 i h d) = (rk i h d : EReal))
variable (hv : ∀ i h d, v (ix3 i h d) = (rv i h d : EReal)) (hg : ∀ i h d, g (ix3 i h d) = (rg i h d : EReal))

theorem bot_at : val_main_cst_0 (F := Ideal) ix0 = ⊥ := by
  rw [val_main_cst_0_apply, Ideal.ofBits_def, bot_word]

theorem bot_at' : val_main_cst_2 (F := Ideal) ix0 = ⊥ := by
  rw [val_main_cst_2_apply, Ideal.ofBits_def, bot_word]

theorem two_at : val_main_v59 (F := Ideal) ix0 = (ln2 : EReal) := by
  unfold val_main_v59
  rw [log_at, val_main_cst_14_apply, Ideal.ofBits_def, log_two]

include hq hk

theorem r2 (h : Fin 4) (i r : Fin 8192) : val_main_v2 (F := Ideal) q k (ix3 h i r) = (sc rq rk h i r : EReal) := by
  rw [at2, scale_word]
  simp only [hq, hk, ← EReal.coe_mul, ← coe_sum]
  rfl

theorem r20 (h : Fin 4) (i : Fin 8192) : val_main_v20 (F := Ideal) q k (ix3 h i 0) = (mx rq rk h i : EReal) := by
  rw [at20, at3, bot_at, bot_at', max_eq_right bot_le]
  simp only [r2 hq hk]
  exact mx_eq rq rk h i

theorem r23 (h : Fin 4) (i r : Fin 8192) : val_main_v23 (F := Ideal) q k (ix3 h i r) = (ex rq rk h i r : EReal) := by
  rw [at23, r2 hq hk, r20 hq hk, ← EReal.coe_sub, Ideal.exp_coe]
  rfl

theorem r25 (h : Fin 4) (i : Fin 8192) : val_main_v25 (F := Ideal) q k (ix3 h i 0) = (ls rq rk h i : EReal) := by
  rw [at25]
  simp only [r23 hq hk, ← coe_sum]
  rfl

theorem r27 (h : Fin 4) (i r : Fin 8192) : val_main_v27 (F := Ideal) q k (ix3 h i r) = (pr rq rk h i r : EReal) := by
  rw [at27, r23 hq hk, r25 hq hk, div_real _ _ (ls_pos rq rk h i).ne']
  rfl

include hg

/-- The value's gradient. -/
theorem r36 (r : Fin 8192) (h : Fin 4) (d : Fin 128) : val_main_v36 (F := Ideal) q k g (ix3 r h d) = (gv rq rk rg r h d : EReal) := by
  rw [at36]
  simp only [r27 hq hk, hg, ← EReal.coe_mul, ← coe_sum]
  unfold gv
  simp only [mul_comm]

theorem r64 (r : Fin 8192) (h : Fin 4) (d : Fin 128) :
    val_main_v64 (F := Ideal) q k g (ix2 r (col' h.val d)) = (gv rq rk rg r h d : EReal) := by
  rw [at64]
  refine Eq.trans (congrArg (val_main_v36 (F := Ideal) q k g) (congrArg₂ (ix3 r) (Fin.ext (col'_div h.val h.isLt d)) (Fin.ext ?_)))
    (r36 hq hk hg r h d)
  show (128 * h.val + d.val) % 512 % 128 = d.val
  omega

include hv

omit hq hk in
theorem r34 (h : Fin 4) (i r : Fin 8192) : val_main_v34 (F := Ideal) v g (ix3 h i r) = (dp rv rg h i r : EReal) := by
  rw [at34]
  simp only [hv, hg, ← EReal.coe_mul, ← coe_sum]
  rfl

theorem r39 (h : Fin 4) (i r : Fin 8192) : val_main_v39 (F := Ideal) q k v g (ix3 h i r)
    = ((dp rv rg h i r * (1 / (ls rq rk h i * ls rq rk h i)) * ex rq rk h i r : ℝ) : EReal) := by
  rw [at39, r34 hv hg, r25 hq hk, r23 hq hk, ← EReal.coe_mul, ← EReal.coe_one,
    div_real _ _ (mul_pos (ls_pos rq rk h i) (ls_pos rq rk h i)).ne', ← EReal.coe_mul, ← EReal.coe_mul]

theorem r46 (h : Fin 4) (i r : Fin 8192) : val_main_v46 (F := Ideal) q k v g (ix3 h i r)
    = ((-∑ r' : Fin 8192, dp rv rg h i r' * (1 / (ls rq rk h i * ls rq rk h i)) * ex rq rk h i r' : ℝ) : EReal) := by
  rw [at46, EReal.coe_neg, coe_sum]
  simp only [r39 hq hk hv hg]

theorem r50 (h : Fin 4) (i r : Fin 8192) : val_main_v50 (F := Ideal) q k v g (ix3 h i r) = ((ds rq rk rv rg h i r * scale : ℝ) : EReal) := by
  rw [at50, r34 hv hg, r25 hq hk, r46 hq hk hv hg, r23 hq hk, scale_word, div_real _ _ (ls_pos rq rk h i).ne', ← EReal.coe_add,
    ← EReal.coe_mul, ← EReal.coe_mul, ref_ds]

/-- The query's gradient, less the scale. -/
theorem r56 (i : Fin 8192) (h : Fin 4) (d : Fin 192) : val_main_v56 (F := Ideal) q k v g (ix3 i h d) = (gq rq rk rv rg i h d : EReal) := by
  rw [at56, scale_word]
  simp only [r50 hq hk hv hg, hk, ← EReal.coe_mul, ← coe_sum]
  rw [div_real _ _ scale_ne, ref_gq]

/-- The key's gradient, over the logarithm of two. -/
theorem r61 (r : Fin 8192) (h : Fin 4) (d : Fin 192) : val_main_v61 (F := Ideal) q k v g (ix3 r h d) = (gk rq rk rv rg r h d : EReal) := by
  rw [at61, two_at]
  simp only [r50 hq hk hv hg, hq, ← EReal.coe_mul, ← coe_sum]
  rw [div_real _ _ ln2_ne, ref_gk]

theorem r58 (i : Fin 8192) (h : Fin 4) (d : Fin 256) :
    val_main_v58 (F := Ideal) q k v g (ix2 i (col h.val d)) = (padded (gq rq rk rv rg i h) d : EReal) := by
  have e0 : (col h.val d).val / 256 = h.val := col_div h.val h.isLt d
  have e1 : (col h.val d).val % 256 = d.val := by
    show (256 * h.val + d.val) % 1024 % 256 = d.val
    omega
  rw [at58]
  unfold padded
  by_cases hd : d.val < 192
  · rw [dif_pos hd]
    refine (dif_pos ⟨by show (col h.val d).val / 256 < 4; rw [e0]; exact h.isLt, by show (col h.val d).val % 256 < 192; rw [e1]; exact hd⟩).trans ?_
    exact Eq.trans (congrArg (val_main_v56 (F := Ideal) q k v g) (congrArg₂ (ix3 i) (Fin.ext e0) (show _ = (⟨d.val, hd⟩ : Fin 192) from Fin.ext e1)))
      (r56 hq hk hv hg i h ⟨d.val, hd⟩)
  · rw [dif_neg hd]
    refine (dif_neg fun hh => hd (by have := hh.2; change (col h.val d).val % 256 < 192 at this; rwa [e1] at this)).trans ?_
    rw [int_zero, EReal.coe_zero]

theorem r63 (r : Fin 8192) (h : Fin 4) (d : Fin 256) :
    val_main_v63 (F := Ideal) q k v g (ix2 r (col h.val d)) = (padded (gk rq rk rv rg r h) d : EReal) := by
  have e0 : (col h.val d).val / 256 = h.val := col_div h.val h.isLt d
  have e1 : (col h.val d).val % 256 = d.val := by
    show (256 * h.val + d.val) % 1024 % 256 = d.val
    omega
  rw [at63]
  unfold padded
  by_cases hd : d.val < 192
  · rw [dif_pos hd]
    refine (dif_pos ⟨by show (col h.val d).val / 256 < 4; rw [e0]; exact h.isLt, by show (col h.val d).val % 256 < 192; rw [e1]; exact hd⟩).trans ?_
    exact Eq.trans (congrArg (val_main_v61 (F := Ideal) q k v g) (congrArg₂ (ix3 r) (Fin.ext e0) (show _ = (⟨d.val, hd⟩ : Fin 192) from Fin.ext e1)))
      (r61 hq hk hv hg r h ⟨d.val, hd⟩)
  · rw [dif_neg hd]
    refine (dif_neg fun hh => hd (by have := hh.2; change (col h.val d).val % 256 < 192 at this; rwa [e1] at this)).trans ?_
    rw [int_zero, EReal.coe_zero]

end Real

end Cert.ReferenceIdeal.Stage

end
-- ==== Proof.Value.lean ====
/-
  The value claim: the launch's three results are the reference's where the arguments are finite.
-/
module

public import proofs.«01_k».proof.Defs
public import proofs.«01_k».proof.Proof.Ref
public import proofs.«01_k».proof.Proof.Gen.Pre_finite
public import proofs.«01_k».proof.Proof.Gen.KernelIdeal.Value
public import Idealize.ShloMosaic.Lib.ReduceAll

@[expose] public section

set_option maxRecDepth 16384

noncomputable section

namespace Cert.Proof

open Idealize.ShloMosaic Idealize.ShloMosaic.TcCoe Idealize.SL.Sem
open Cert.Attn Cert.Words

/-- A value whose size is below the top is a real number. -/
theorem real_of_lt (x : EReal) (h : Ideal.cmp .olt (max x (-x)) ⊤ = 1#1) : x = ((x.toReal : ℝ) : EReal) := by
  have hlt : max x (-x) < ⊤ := by
    by_contra hn
    simp [Ideal.cmp, hn] at h
  have h1 : x ≠ ⊤ := (lt_of_le_of_lt (le_max_left _ _) hlt).ne
  have h2 : x ≠ ⊥ := by
    rintro rfl
    simp at hlt
  exact (EReal.coe_toReal h1 h2).symm

/-- Where every size is below the top, every element is a real number. -/
theorem real_of_all {s : Shape} (x : FVec Ideal s .f32) (hb : Cert.Pre_finite.S_.BroadcastsInDim s (![] : Fin 0 → Fin s.rank))
    {axes : List (Fin s.rank)} (hr : s.ReducesTo axes Cert.Pre_finite.S_) (hu : 0 < Cert.Pre_finite.S_.numel)
    (e : Host.reduce IntOp.andi (cmpf .olt (Host.absf x) (broadcastInDim s ![] hb (constant Cert.Pre_finite.S_ .f32 0x7F800000#32)))
      (constantI Cert.Pre_finite.S_ 1 1#1) hr hu ix0 = 1#1) (i : s.Idx) : x i = (((x i).toReal : ℝ) : EReal) := by
  have h := Host.reduce_andi_all _ _ _ _ ix0 e i
  have h' : Ideal.cmp .olt (max (x i) (-(x i))) ((broadcastInDim s ![] hb (constant (F := Ideal) Cert.Pre_finite.S_ .f32 0x7F800000#32)) i) = 1#1 := h
  rw [ValueIdx.broadcastInDim_scalar_apply, Cert.KernelIdeal.Host.word_at, top_word] at h'
  exact real_of_lt _ h'

/-- The precondition says of the four arguments that they hold real numbers. -/
theorem finite_real (x0 x1 : FVec Ideal Cert.Pre_finite.S8192x4x192 .f32) (x2 x3 : FVec Ideal Cert.Pre_finite.S8192x4x128 .f32)
    (h : Cert.Pre_finite.fn (F := Ideal) x0 x1 x2 x3 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal)) := by
  unfold Cert.Pre_finite.fn Cert.Pre_finite.fn_part1 at h
  have e := congrFun h ix0
  obtain ⟨e, e3⟩ := (IntOp.andi_eq_one).mp e
  obtain ⟨e, e2⟩ := (IntOp.andi_eq_one).mp e
  obtain ⟨e0, e1⟩ := (IntOp.andi_eq_one).mp e
  exact ⟨real_of_all x0 Cert.Pre_finite.Gen.bcast_S_S8192x4x192 Cert.Pre_finite.Gen.reducesTo_S8192x4x192_S_d0_1_2 Cert.Pre_finite.Gen.h_S_ e0,
    real_of_all x1 Cert.Pre_finite.Gen.bcast_S_S8192x4x192 Cert.Pre_finite.Gen.reducesTo_S8192x4x192_S_d0_1_2 Cert.Pre_finite.Gen.h_S_ e1,
    real_of_all x2 Cert.Pre_finite.Gen.bcast_S_S8192x4x128 Cert.Pre_finite.Gen.reducesTo_S8192x4x128_S_d0_1_2 Cert.Pre_finite.Gen.h_S_ e2,
    real_of_all x3 Cert.Pre_finite.Gen.bcast_S_S8192x4x128 Cert.Pre_finite.Gen.reducesTo_S8192x4x128_S_d0_1_2 Cert.Pre_finite.Gen.h_S_ e3⟩

open Cert.KernelIdeal Cert.KernelIdeal.Whole Cert.KernelIdeal.Host

/-- An array of three axes as a function of three indices, its elements as reals. -/
def reals {a b n : ℕ} (x : FVec Ideal ⟨3, ![a, b, n]⟩ .f32) (i : Fin a) (h : Fin b) (d : Fin n) : ℝ := EReal.toReal (x (ix3 i h d))

theorem holds (m : (ℓ : Loc nD τ sig) → Buf (Elt Ideal) ℓ) (h : Cert.Pre_KernelIdeal_finite m) (c : Dev nD) :
    Holds m c (reals (inQ m c)) (reals (inK m c)) (reals (inV m c)) (reals (inG m c)) := by
  obtain ⟨h0, h1, h2, h3⟩ := finite_real (inQ m c) (inK m c) (inV m c) (inG m c) (h c)
  exact ⟨fun i h d => h0 (ix3 i h d), fun i h d => h1 (ix3 i h d), fun i h d => h2 (ix3 i h d), fun i h d => h3 (ix3 i h d)⟩

/-- Every column of 1024 is a head's column. -/
theorem ex_col (y : Fin 1024) : ∃ (h : Fin 4) (d : Fin 256), y = col h.val d := by
  refine ⟨⟨y.val / 256, by omega⟩, ⟨y.val % 256, by omega⟩, Fin.ext ?_⟩
  show y.val = (256 * (y.val / 256) + y.val % 256) % 1024
  omega

/-- Every column of 512 is a head's column. -/
theorem ex_col' (y : Fin 512) : ∃ (h : Fin 4) (d : Fin 128), y = col' h.val d := by
  refine ⟨⟨y.val / 128, by omega⟩, ⟨y.val % 128, by omega⟩, Fin.ext ?_⟩
  show y.val = (128 * (y.val / 128) + y.val % 128) % 512
  omega

section Same

variable (m : (ℓ : Loc nD τ sig) → Buf (Elt Ideal) ℓ) (c : Dev nD) (q k : Fin 8192 → Fin 4 → Fin 192 → ℝ) (v g : Fin 8192 → Fin 4 → Fin 128 → ℝ)
variable (H : Holds m c q k v g)
include H

theorem same0 : Cert.ReferenceIdeal.Read.val_main_v58 (F := Ideal) (inQ m c) (inK m c) (inV m c) (inG m c)
    = resQ (aQ m c) (aDO m c) (aO m c) (aL m c) (aK m c) (aV m c) := by
  funext y
  obtain ⟨i, j, rfl⟩ : ∃ (i : Fin 8192) (j : Fin 1024), y = (ix2 i j : S8192x1024.Idx) := ⟨_, _, eq_ix2 (n0 := 8192) (n1 := 1024) y⟩
  obtain ⟨h, d, rfl⟩ := ex_col j
  rw [resQ_real H]
  exact Cert.ReferenceIdeal.Stage.r58 H.q H.k H.v H.g i h d

theorem same1 : Cert.ReferenceIdeal.Read.val_main_v63 (F := Ideal) (inQ m c) (inK m c) (inV m c) (inG m c)
    = resK (aQ m c) (aDO m c) (aO m c) (aL m c) (aK m c) (aV m c) := by
  funext y
  obtain ⟨i, j, rfl⟩ : ∃ (i : Fin 8192) (j : Fin 1024), y = (ix2 i j : S8192x1024.Idx) := ⟨_, _, eq_ix2 (n0 := 8192) (n1 := 1024) y⟩
  obtain ⟨h, d, rfl⟩ := ex_col j
  rw [resK_real H]
  exact Cert.ReferenceIdeal.Stage.r63 H.q H.k H.v H.g i h d

theorem same2 : Cert.ReferenceIdeal.Read.val_main_v64 (F := Ideal) (inQ m c) (inK m c) (inG m c)
    = resV (aQ m c) (aDO m c) (aL m c) (aK m c) := by
  funext y
  obtain ⟨i, j, rfl⟩ : ∃ (i : Fin 8192) (j : Fin 512), y = (ix2 i j : S8192x512.Idx) := ⟨_, _, eq_ix2 (n0 := 8192) (n1 := 512) y⟩
  obtain ⟨h, d, rfl⟩ := ex_col' j
  rw [resV_real H]
  exact Cert.ReferenceIdeal.Stage.r64 H.q H.k H.g i h d

end Same

theorem value : Cert.algebraic_KernelIdeal_ReferenceIdeal_pre_finite := by
  intro m g m' g' hpre hargs
  refine ⟨fun c => resQ (aQ m c) (aDO m c) (aO m c) (aL m c) (aK m c) (aV m c),
    fun c => resK (aQ m c) (aDO m c) (aO m c) (aL m c) (aK m c) (aV m c),
    fun c => resV (aQ m c) (aDO m c) (aL m c) (aK m c), ?_, ?_⟩
  · refine (θ_run _ _ _).mono (fun r h c => ?_) (Cert.KernelIdeal.Value.run_blocks (F := Ideal) m g)
    obtain ⟨h0, h1, h2, h3⟩ := h c
    exact ⟨h0.trans (arr6 m c), h1.trans (arr7 m c), h2.trans (arr8 m c), h3⟩
  · refine (θ_run _ _ _).mono (fun r h c => ?_) (Cert.ReferenceIdeal.Value.run (F := Ideal) m' g')
    obtain ⟨h0, h1, h2, h3⟩ := h c
    obtain ⟨a0, a1, a2, a3⟩ := hargs c
    have H := holds m hpre c
    refine ⟨?_, ?_, ?_, h3⟩
    · rw [h0, Cert.ReferenceIdeal.Read.val_main_v58_eq, a0, a1, a2, a3]
      exact same0 m c _ _ _ _ H
    · rw [h1, Cert.ReferenceIdeal.Read.val_main_v63_eq, a0, a1, a2, a3]
      exact same1 m c _ _ _ _ H
    · rw [h2, Cert.ReferenceIdeal.Read.val_main_v64_eq, a0, a1, a3]
      exact same2 m c _ _ _ _ H

end Cert.Proof

end
-- ==== Proof.DwOut.lean ====
/-
  The launch of Out: a grid point adds the product of its tiles to an accumulator that the first of eight row tiles
  clears, and the last of them writes the block back; so the array is the product over all the rows, which is the
  gradient of a product's right factor.
-/
module

public import proofs.«01_k».proof.Defs
public import proofs.«01_k».proof.Proof.Tile
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Quiescent

@[expose] public section

set_option maxRecDepth 16384

noncomputable section

namespace Cert.OutIdeal.Dw

open Idealize.ShloMosaic Idealize.ShloMosaic.TcCoe Idealize.SL.Sem Cert.OutIdeal.Gen
open Cert.KernelIdeal.Trip (row sum_rows)

/-- Column `d` of column tile `j`. -/
def col (j : ℕ) (d : Fin 1024) : Fin 1024 := ⟨(1024 * j + d.val) % 1024, Nat.mod_lt _ (by norm_num)⟩

/-! ## What a point leaves -/

section Cases

variable {F : FTy → Type} [FloatOps F]
variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec F S1024x1024 .bf16) (x1 : Vec F S1024x1024 .bf16) (xs : Vec F S1024x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_A_0 kernelRun0_A
  dsimp only
  unfold kernelRun0_A.sl.v3 kernelRun0_A.sl.HS0_1
  refine (View.read_writes_full _ _ _ _ _).trans ?_
  unfold View.readCov
  have h6 := (View.readAt_full arg6.view (arg6.view.writes (Elt F) arg6.view.junk [⟨Rect.unit ![0, 0] S1024x1024.size inb_S1024x1024_S1024x1024_0_0, k0_pay1 (F := F)⟩]) inb_S1024x1024_S1024x1024_0_0).trans (View.read_writes_full _ _ _ _ [])
  exact congr (congr (congrArg k0_pay2 h6) h3) h4

theorem sout_B (hc0 : ¬cond0_0 i) (hc1 : ¬cond0_1 i) :
    sout0_B_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_B_0 kernelRun0_B
  dsimp only
  have h6 := (View.readAt_full arg6.view (harg6.unread xs) inb_S1024x1024_S1024x1024_0_0).trans (harg6.read_unread xs)
  refine (View.read_writes_full _ _ _ _ _).trans ?_
  exact congr (congr (congrArg k0_pay2 h6) h3) h4

theorem sout_C (hc0 : ¬cond0_0 i) (hc1 : cond0_1 i) :
    sout0_C_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_C_0 kernelRun0_C
  dsimp only
  unfold kernelRun0_C.sl.HS0_1
  have h6 := (View.readAt_full arg6.view (harg6.unread xs) inb_S1024x1024_S1024x1024_0_0).trans (harg6.read_unread xs)
  refine (View.read_writes_full _ _ _ _ _).trans ?_
  exact congr (congr (congrArg k0_pay2 h6) h3) h4

theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold out0_C_2 kernelRun0_C
  dsimp only
  unfold kernelRun0_C.sl.v14 kernelRun0_C.sl.HS0_1
  have h6 := (View.readAt_full arg6.view (harg6.unread xs) inb_S1024x1024_S1024x1024_0_0).trans (harg6.read_unread xs)
  refine (View.read_writes_full _ _ _ _ _).trans ?_
  unfold View.readCov
  refine congrArg k0_pay3 ?_
  refine (View.readAt_full arg6.view _ inb_S1024x1024_S1024x1024_0_0).trans ?_
  refine (View.read_writes_full _ _ _ _ _).trans ?_
  exact congr (congr (congrArg k0_pay2 h6) h3) h4

end Cases

/-! ## The payloads at an index -/

theorem pay1_apply (p : Fin 1024) (d : Fin 1024) : k0_pay1 (F := Ideal) (ix2 p d) = 0 := by
  unfold k0_pay1
  pointwise

theorem pay2_apply (a : Vec Ideal S1024x1024 .f32) (x0 : Vec Ideal S1024x1024 .bf16) (x1 : Vec Ideal S1024x1024 .bf16) (p : Fin 1024) (d : Fin 1024) :
    k0_pay2 (F := Ideal) a x0 x1 (ix2 p d) = a (ix2 p d) + ∑ r : Fin 1024, x0 (ix2 r p) * x1 (ix2 r d) := by
  unfold k0_pay2
  pointwise

theorem pay3_apply (a : Vec Ideal S1024x1024 .f32) (p : Fin 1024) (d : Fin 1024) :
    k0_pay3 (F := Ideal) a (ix2 p d) = a (ix2 p d) := rfl

/-! ## The array after the run -/

variable (m : (ℓ : Loc nD τ sig) → Buf (Elt Ideal) ℓ) (c : Dev nD)

/-- The left factor. -/
abbrev aH : Vec Ideal S8192x1024 .bf16 := V m c main_arg0
/-- The gradient of the product. -/
abbrev aG : Vec Ideal S8192x1024 .bf16 := V m c main_arg1

/-- The product over the rows. -/
def prod (H : Vec Ideal S8192x1024 .bf16) (G : Vec Ideal S8192x1024 .bf16) : Vec Ideal S1024x1024 .bf16 :=
  fun y => ∑ i : Fin 8192, H (ix2 i (y 0)) * G (ix2 i (y 1))

theorem index_eq : ∀ t : Fin grid0.N,
    (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by
  decide +kernel

theorem lt_N (t : Fin cfg0.N) : t.val < 8 := t.isLt

theorem iblk0 (t : Fin cfg0.N) (r p : Fin 1024) :
    (iblk m c 0 t : Vec Ideal S1024x1024 .bf16) (ix2 r p) = aH m c (ix2 (row (t.val % 8) r) p) := by
  have hi := (index_eq t).1
  have ht := lt_N t
  unfold iblk
  rw [View.read_apply]
  show V m c main_arg0 _ = V m c main_arg0 _
  congr 1
  funext a
  apply Fin.ext
  match a with
  | ⟨0, _⟩ => show win0_0.index t 0 * 1024 + 1 * r.val = (1024 * (t.val % 8) + r.val) % 8192; rw [hi.1]; omega
  | ⟨1, _⟩ => show win0_0.index t 1 * 1024 + 1 * p.val = p.val; rw [hi.2]; omega

theorem iblk1 (t : Fin cfg0.N) (r : Fin 1024) (d : Fin 1024) :
    (iblk m c 1 t : Vec Ideal S1024x1024 .bf16) (ix2 r d) = aG m c (ix2 (row (t.val % 8) r) (col (t.val / 8) d)) := by
  have hi := (index_eq t).2.1
  have ht := lt_N t
  unfold iblk
  rw [View.read_apply]
  show V m c main_arg1 _ = V m c main_arg1 _
  congr 1
  funext a
  apply Fin.ext
  match a with
  | ⟨0, _⟩ => show win0_1.index t 0 * 1024 + 1 * r.val = (1024 * (t.val % 8) + r.val) % 8192; rw [hi.1]; omega
  | ⟨1, _⟩ => show win0_1.index t 1 * 1024 + 1 * d.val = (1024 * (t.val / 8) + d.val) % 1024; rw [hi.2]; omega

/-- The accumulator after a point: the product over the row tiles so far. -/
theorem acc_eq (n : ℕ) (hn : n < cfg0.N) (p : Fin 1024) (d : Fin 1024) :
    (outsAt0 m c n hn).2 (ix2 p d)
      = ∑ j ∈ Finset.range (n % 8 + 1), ∑ r : Fin 1024, aH m c (ix2 (row j r) p) * aG m c (ix2 (row j r) (col (n / 8) d)) := by
  induction n using Nat.strong_induction_on with
  | _ n ih =>
  by_cases h0 : n % 8 = 0
  · have h7 : ¬n % 8 = 7 := by omega
    have e := outsAt0_A m c ⟨n, hn⟩ h0 h7
    dsimp only at e
    rw [e]
    dsimp only
    rw [sout_A, pay2_apply, pay1_apply, zero_add, h0, Finset.sum_range_one]
    simp only [iblk0, iblk1, h0]
  · have i1 := ih (n - 1) (by omega) (Nat.lt_of_le_of_lt (Nat.sub_le _ _) hn)
    rw [show (n - 1) % 8 + 1 = n % 8 by omega, show (n - 1) / 8 = n / 8 by omega] at i1
    by_cases h7 : n % 8 = 7
    · have e := outsAt0_C m c ⟨n, hn⟩ h0 h7
      dsimp only at e
      rw [e]
      dsimp only
      rw [sout_C, pay2_apply, i1, Finset.sum_range_succ]
      simp only [iblk0, iblk1]
    · have e := outsAt0_B m c ⟨n, hn⟩ h0 h7
      dsimp only at e
      rw [e]
      dsimp only
      rw [sout_B, pay2_apply, i1, Finset.sum_range_succ]
      simp only [iblk0, iblk1]

/-- The block after the last row tile. -/
theorem block_eq (t : Fin cfg0.N) (h7 : t.val % 8 = 7) (p : Fin 1024) (d : Fin 1024) :
    (outsAt0 m c t.val t.isLt).1 (ix2 p d) = ∑ i : Fin 8192, aH m c (ix2 i p) * aG m c (ix2 i (col (t.val / 8) d)) := by
  have h0 : ¬t.val % 8 = 0 := by omega
  have e : (outsAt0 m c t.val t.isLt).1 (ix2 p d) = (outsAt0 m c t.val t.isLt).2 (ix2 p d) := by
    rw [outsAt0_C m c t h0 h7]
    dsimp only
    rw [out_C, sout_C, pay3_apply]
  rw [e, acc_eq, h7]
  exact sum_rows fun i => aH m c (ix2 i p) * aG m c (ix2 i (col (t.val / 8) d))

theorem emb2 (t : Fin cfg0.N) (p : Fin 1024) (d : Fin 1024) :
    ((cfg0.win 2).blk t).view.emb (ix2 p d : S1024x1024.Idx) = (ix2 p (col (t.val / 8) d) : S1024x1024.Idx) := by
  have hi := (index_eq t).2.2
  have ht := lt_N t
  funext a
  apply Fin.ext
  match a with
  | ⟨0, _⟩ => show win0_2.index t 0 * 1024 + 1 * p.val = p.val; rw [hi.1]; omega
  | ⟨1, _⟩ => show win0_2.index t 1 * 1024 + 1 * d.val = (1024 * (t.val / 8) + d.val) % 1024; rw [hi.2]; omega

theorem arr2 : (dats m 0 c).arrAt 2 cfg0.N = prod (aH m c) (aG m c) := by
  refine (dats m 0 c).arrAt_eq_of_cover 2 (prod (aH m c) (aG m c)) (fun t hf => ?_) (fun y => ?_)
  · have h7 : t.val % 8 = 7 := (flush0_2 t).mp hf
    rw [Value.flushed2]
    funext y
    obtain ⟨p, d, rfl⟩ : ∃ (p : Fin 1024) (d : Fin 1024), y = (ix2 p d : S1024x1024.Idx) := ⟨_, _, eq_ix2 (n0 := 1024) (n1 := 1024) y⟩
    rw [View.read_apply]
    change (outsAt0 m c t.val t.isLt).1 (ix2 p d) = _
    rw [block_eq m c t h7]
    rw [emb2 t p d]
    exact (cast_eq _ _).symm
  · have h1 : (y 1).val < 1024 := (y 1).isLt
    let t : Fin cfg0.N := ⟨8 * ((y 1).val / 1024) + 7, by show _ < 8; omega⟩
    refine ⟨t, (flush0_2 t).mpr (by show (8 * ((y 1).val / 1024) + 7) % 8 = 7; omega), ?_⟩
    have e : ((cfg0.win 2).blk t).view.emb (ix2 (⟨(y 0).val, (y 0).isLt⟩ : Fin 1024) (⟨(y 1).val % 1024, by omega⟩ : Fin 1024) : S1024x1024.Idx) = y := by
      rw [emb2]
      refine Shape.idx_ext₂ rfl ?_
      show (1024 * ((8 * ((y 1).val / 1024) + 7) / 8) + (y 1).val % 1024) % 1024 = (y 1).val
      omega
    rw [← e]
    exact View.emb_mem_set _ _

/-! ## The reference -/

theorem ref_eq (H : Vec Ideal S8192x1024 .bf16) (G : Vec Ideal S8192x1024 .bf16) :
    Cert.OutRefIdeal.Read.val_main_v6 (F := Ideal) H G = prod H G := by
  funext y
  obtain ⟨p, d, rfl⟩ : ∃ (p : Fin 1024) (d : Fin 1024), y = (ix2 p d : S1024x1024.Idx) := ⟨_, _, eq_ix2 (n0 := 1024) (n1 := 1024) y⟩
  have e : Cert.OutRefIdeal.Read.val_main_v6 (F := Ideal) H G (ix2 p d) = ∑ i : Fin 8192, G (ix2 i d) * H (ix2 i p) := by
    rw [Cert.OutRefIdeal.Read.val_main_v6_apply, Cert.OutRefIdeal.Read.val_main_v5_apply]
    unfold Cert.OutRefIdeal.Read.val_main_v4
    pointwise
    rfl
  rw [e]
  exact Finset.sum_congr rfl fun i _ => mul_comm _ _

theorem value : Cert.algebraic_OutIdeal_OutRefIdeal := by
  intro m g m' g' _ hargs
  refine ⟨fun c => prod (aH m c) (aG m c), ?_, ?_⟩
  · refine (θ_run _ _ _).mono (fun r h c => ?_) (Cert.OutIdeal.Value.run_blocks (F := Ideal) m g)
    obtain ⟨h0, h3⟩ := h c
    exact ⟨h0.trans (arr2 m c), h3⟩
  · refine (θ_run _ _ _).mono (fun r h c => ?_) (Cert.OutRefIdeal.Value.run (F := Ideal) m' g')
    obtain ⟨h0, h3⟩ := h c
    obtain ⟨a0, a1⟩ := hargs c
    refine ⟨?_, h3⟩
    rw [h0, Cert.OutRefIdeal.Read.val_main_v6_eq, a0, a1]
    exact ref_eq _ _

/-! ## The frames -/

theorem frame_p : Cert.quiescent_Out := fun m ρ _ => Cert.Out.Gen.frame m ρ

theorem frame_pi : Cert.quiescent_OutIdeal := fun m ρ _ => Cert.OutIdeal.Gen.frame m ρ

theorem frame_ri : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

end Cert.OutIdeal.Dw

end
-- ==== Proof.DwEvIn.lean ====
/-
  The launch of EvIn: a grid point adds the product of its tiles to an accumulator that the first of eight row tiles
  clears, and the last of them writes the block back; so the array is the product over all the rows, which is the
  gradient of a product's right factor.
-/
module

public import proofs.«01_k».proof.Defs
public import proofs.«01_k».proof.Proof.Tile
public import proofs.«01_k».proof.Proof.Gen.EvIn.Frame
public import proofs.«01_k».proof.Proof.Gen.EvInIdeal.Frame
public import proofs.«01_k».proof.Proof.Gen.EvInIdeal.Value
public import proofs.«01_k».proof.Proof.Gen.EvInRefIdeal.Run
public import proofs.«01_k».proof.Proof.Gen.EvInRefIdeal.Read
public import Idealize.ShloMosaic.Lib.Quiescent

@[expose] public section

set_option maxRecDepth 16384

noncomputable section

namespace Cert.EvInIdeal.Dw

open Idealize.ShloMosaic Idealize.ShloMosaic.TcCoe Idealize.SL.Sem Cert.EvInIdeal.Gen
open Cert.KernelIdeal.Trip (row sum_rows)

/-- Column `d` of column tile `j`. -/
def col (j : ℕ) (d : Fin 1664) : Fin 3328 := ⟨(1664 * j + d.val) % 3328, Nat.mod_lt _ (by norm_num)⟩

/-! ## What a point leaves -/

section Cases

variable {F : FTy → Type} [FloatOps F]
variable (c : Dev nD) (i : grid0.Coords) (arg3 : Memref sig .tc .vmem S1024x1024 .bf16) (harg3 : arg3.IsWhole)
  (arg4 : Memref sig .tc .vmem S1024x1664 .bf16) (harg4 : arg4.IsWhole) (arg5 : Memref sig .tc .vmem S1024x1664 .bf16) (harg5 : arg5.IsWhole)
  (arg6 : Memref sig .tc .vmem S1024x1664 .f32) (harg6 : arg6.IsWhole)
  (x0 : Vec F S1024x1024 .bf16) (x1 : Vec F S1024x1664 .bf16) (xs : Vec F S1024x1664 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1664.size inb_S1024x1664_S1024x1664_0_0).toLoadRect (harg4.unread x1)) = x1 :=
    (View.readAt_full _ _ _).trans (harg4.read_unread x1)
  unfold sout0_A_0 kernelRun0_A
  dsimp only
  unfold kernelRun0_A.sl.v3 kernelRun0_A.sl.HS0_1
  refine (View.read_writes_full _ _ _ _ _).trans ?_
  unfold View.readCov
  have h6 := (View.readAt_full arg6.view (arg6.view.writes (Elt F) arg6.view.junk [⟨Rect.unit ![0, 0] S1024x1664.size inb_S1024x1664_S1024x1664_0_0, k0_pay1 (F := F)⟩]) inb_S1024x1664_S1024x1664_0_0).trans (View.read_writes_full _ _ _ _ [])
  exact congr (congr (congrArg k0_pay2 h6) h3) h4

theorem sout_B (hc0 : ¬cond0_0 i) (hc1 : ¬cond0_1 i) :
    sout0_B_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1664.size inb_S1024x1664_S1024x1664_0_0).toLoadRect (harg4.unread x1)) = x1 :=
    (View.readAt_full _ _ _).trans (harg4.read_unread x1)
  unfold sout0_B_0 kernelRun0_B
  dsimp only
  have h6 := (View.readAt_full arg6.view (harg6.unread xs) inb_S1024x1664_S1024x1664_0_0).trans (harg6.read_unread xs)
  refine (View.read_writes_full _ _ _ _ _).trans ?_
  exact congr (congr (congrArg k0_pay2 h6) h3) h4

theorem sout_C (hc0 : ¬cond0_0 i) (hc1 : cond0_1 i) :
    sout0_C_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1664.size inb_S1024x1664_S1024x1664_0_0).toLoadRect (harg4.unread x1)) = x1 :=
    (View.readAt_full _ _ _).trans (harg4.read_unread x1)
  unfold sout0_C_0 kernelRun0_C
  dsimp only
  unfold kernelRun0_C.sl.HS0_1
  have h6 := (View.readAt_full arg6.view (harg6.unread xs) inb_S1024x1664_S1024x1664_0_0).trans (harg6.read_unread xs)
  refine (View.read_writes_full _ _ _ _ _).trans ?_
  exact congr (congr (congrArg k0_pay2 h6) h3) h4

theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1664.size inb_S1024x1664_S1024x1664_0_0).toLoadRect (harg4.unread x1)) = x1 :=
    (View.readAt_full _ _ _).trans (harg4.read_unread x1)
  unfold out0_C_2 kernelRun0_C
  dsimp only
  unfold kernelRun0_C.sl.v14 kernelRun0_C.sl.HS0_1
  have h6 := (View.readAt_full arg6.view (harg6.unread xs) inb_S1024x1664_S1024x1664_0_0).trans (harg6.read_unread xs)
  refine (View.read_writes_full _ _ _ _ _).trans ?_
  unfold View.readCov
  refine congrArg k0_pay3 ?_
  refine (View.readAt_full arg6.view _ inb_S1024x1664_S1024x1664_0_0).trans ?_
  refine (View.read_writes_full _ _ _ _ _).trans ?_
  exact congr (congr (congrArg k0_pay2 h6) h3) h4

end Cases

/-! ## The payloads at an index -/

theorem pay1_apply (p : Fin 1024) (d : Fin 1664) : k0_pay1 (F := Ideal) (ix2 p d) = 0 := by
  unfold k0_pay1
  pointwise

theorem pay2_apply (a : Vec Ideal S1024x1664 .f32) (x0 : Vec Ideal S1024x1024 .bf16) (x1 : Vec Ideal S1024x1664 .bf16) (p : Fin 1024) (d : Fin 1664) :
    k0_pay2 (F := Ideal) a x0 x1 (ix2 p d) = a (ix2 p d) + ∑ r : Fin 1024, x0 (ix2 r p) * x1 (ix2 r d) := by
  unfold k0_pay2
  pointwise

theorem pay3_apply (a : Vec Ideal S1024x1664 .f32) (p : Fin 1024) (d : Fin 1664) :
    k0_pay3 (F := Ideal) a (ix2 p d) = a (ix2 p d) := rfl

/-! ## The array after the run -/

variable (m : (ℓ : Loc nD τ sig) → Buf (Elt Ideal) ℓ) (c : Dev nD)

/-- The left factor. -/
abbrev aH : Vec Ideal S8192x1024 .bf16 := V m c main_arg0
/-- The gradient of the product. -/
abbrev aG : Vec Ideal S8192x3328 .bf16 := V m c main_arg1

/-- The product over the rows. -/
def prod (H : Vec Ideal S8192x1024 .bf16) (G : Vec Ideal S8192x3328 .bf16) : Vec Ideal S1024x3328 .bf16 :=
  fun y => ∑ i : Fin 8192, H (ix2 i (y 0)) * G (ix2 i (y 1))

theorem index_eq : ∀ t : Fin grid0.N,
    (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by
  decide +kernel

theorem lt_N (t : Fin cfg0.N) : t.val < 16 := t.isLt

theorem iblk0 (t : Fin cfg0.N) (r p : Fin 1024) :
    (iblk m c 0 t : Vec Ideal S1024x1024 .bf16) (ix2 r p) = aH m c (ix2 (row (t.val % 8) r) p) := by
  have hi := (index_eq t).1
  have ht := lt_N t
  unfold iblk
  rw [View.read_apply]
  show V m c main_arg0 _ = V m c main_arg0 _
  congr 1
  funext a
  apply Fin.ext
  match a with
  | ⟨0, _⟩ => show win0_0.index t 0 * 1024 + 1 * r.val = (1024 * (t.val % 8) + r.val) % 8192; rw [hi.1]; omega
  | ⟨1, _⟩ => show win0_0.index t 1 * 1024 + 1 * p.val = p.val; rw [hi.2]; omega

theorem iblk1 (t : Fin cfg0.N) (r : Fin 1024) (d : Fin 1664) :
    (iblk m c 1 t : Vec Ideal S1024x1664 .bf16) (ix2 r d) = aG m c (ix2 (row (t.val % 8) r) (col (t.val / 8) d)) := by
  have hi := (index_eq t).2.1
  have ht := lt_N t
  unfold iblk
  rw [View.read_apply]
  show V m c main_arg1 _ = V m c main_arg1 _
  congr 1
  funext a
  apply Fin.ext
  match a with
  | ⟨0, _⟩ => show win0_1.index t 0 * 1024 + 1 * r.val = (1024 * (t.val % 8) + r.val) % 8192; rw [hi.1]; omega
  | ⟨1, _⟩ => show win0_1.index t 1 * 1664 + 1 * d.val = (1664 * (t.val / 8) + d.val) % 3328; rw [hi.2]; omega

/-- The accumulator after a point: the product over the row tiles so far. -/
theorem acc_eq (n : ℕ) (hn : n < cfg0.N) (p : Fin 1024) (d : Fin 1664) :
    (outsAt0 m c n hn).2 (ix2 p d)
      = ∑ j ∈ Finset.range (n % 8 + 1), ∑ r : Fin 1024, aH m c (ix2 (row j r) p) * aG m c (ix2 (row j r) (col (n / 8) d)) := by
  induction n using Nat.strong_induction_on with
  | _ n ih =>
  by_cases h0 : n % 8 = 0
  · have h7 : ¬n % 8 = 7 := by omega
    have e := outsAt0_A m c ⟨n, hn⟩ h0 h7
    dsimp only at e
    rw [e]
    dsimp only
    rw [sout_A, pay2_apply, pay1_apply, zero_add, h0, Finset.sum_range_one]
    simp only [iblk0, iblk1, h0]
  · have i1 := ih (n - 1) (by omega) (Nat.lt_of_le_of_lt (Nat.sub_le _ _) hn)
    rw [show (n - 1) % 8 + 1 = n % 8 by omega, show (n - 1) / 8 = n / 8 by omega] at i1
    by_cases h7 : n % 8 = 7
    · have e := outsAt0_C m c ⟨n, hn⟩ h0 h7
      dsimp only at e
      rw [e]
      dsimp only
      rw [sout_C, pay2_apply, i1, Finset.sum_range_succ]
      simp only [iblk0, iblk1]
    · have e := outsAt0_B m c ⟨n, hn⟩ h0 h7
      dsimp only at e
      rw [e]
      dsimp only
      rw [sout_B, pay2_apply, i1, Finset.sum_range_succ]
      simp only [iblk0, iblk1]

/-- The block after the last row tile. -/
theorem block_eq (t : Fin cfg0.N) (h7 : t.val % 8 = 7) (p : Fin 1024) (d : Fin 1664) :
    (outsAt0 m c t.val t.isLt).1 (ix2 p d) = ∑ i : Fin 8192, aH m c (ix2 i p) * aG m c (ix2 i (col (t.val / 8) d)) := by
  have h0 : ¬t.val % 8 = 0 := by omega
  have e : (outsAt0 m c t.val t.isLt).1 (ix2 p d) = (outsAt0 m c t.val t.isLt).2 (ix2 p d) := by
    rw [outsAt0_C m c t h0 h7]
    dsimp only
    rw [out_C, sout_C, pay3_apply]
  rw [e, acc_eq, h7]
  exact sum_rows fun i => aH m c (ix2 i p) * aG m c (ix2 i (col (t.val / 8) d))

theorem emb2 (t : Fin cfg0.N) (p : Fin 1024) (d : Fin 1664) :
    ((cfg0.win 2).blk t).view.emb (ix2 p d : S1024x1664.Idx) = (ix2 p (col (t.val / 8) d) : S1024x3328.Idx) := by
  have hi := (index_eq t).2.2
  have ht := lt_N t
  funext a
  apply Fin.ext
  match a with
  | ⟨0, _⟩ => show win0_2.index t 0 * 1024 + 1 * p.val = p.val; rw [hi.1]; omega
  | ⟨1, _⟩ => show win0_2.index t 1 * 1664 + 1 * d.val = (1664 * (t.val / 8) + d.val) % 3328; rw [hi.2]; omega

theorem arr2 : (dats m 0 c).arrAt 2 cfg0.N = prod (aH m c) (aG m c) := by
  refine (dats m 0 c).arrAt_eq_of_cover 2 (prod (aH m c) (aG m c)) (fun t hf => ?_) (fun y => ?_)
  · have h7 : t.val % 8 = 7 := (flush0_2 t).mp hf
    rw [Value.flushed2]
    funext y
    obtain ⟨p, d, rfl⟩ : ∃ (p : Fin 1024) (d : Fin 1664), y = (ix2 p d : S1024x1664.Idx) := ⟨_, _, eq_ix2 (n0 := 1024) (n1 := 1664) y⟩
    rw [View.read_apply]
    change (outsAt0 m c t.val t.isLt).1 (ix2 p d) = _
    rw [block_eq m c t h7]
    rw [emb2 t p d]
    exact (cast_eq _ _).symm
  · have h1 : (y 1).val < 3328 := (y 1).isLt
    let t : Fin cfg0.N := ⟨8 * ((y 1).val / 1664) + 7, by show _ < 16; omega⟩
    refine ⟨t, (flush0_2 t).mpr (by show (8 * ((y 1).val / 1664) + 7) % 8 = 7; omega), ?_⟩
    have e : ((cfg0.win 2).blk t).view.emb (ix2 (⟨(y 0).val, (y 0).isLt⟩ : Fin 1024) (⟨(y 1).val % 1664, by omega⟩ : Fin 1664) : S1024x1664.Idx) = y := by
      rw [emb2]
      refine Shape.idx_ext₂ rfl ?_
      show (1664 * ((8 * ((y 1).val / 1664) + 7) / 8) + (y 1).val % 1664) % 3328 = (y 1).val
      omega
    rw [← e]
    exact View.emb_mem_set _ _

/-! ## The reference -/

theorem ref_eq (H : Vec Ideal S8192x1024 .bf16) (G : Vec Ideal S8192x3328 .bf16) :
    Cert.EvInRefIdeal.Read.val_main_v6 (F := Ideal) H G = prod H G := by
  funext y
  obtain ⟨p, d, rfl⟩ : ∃ (p : Fin 1024) (d : Fin 3328), y = (ix2 p d : S1024x3328.Idx) := ⟨_, _, eq_ix2 (n0 := 1024) (n1 := 3328) y⟩
  have e : Cert.EvInRefIdeal.Read.val_main_v6 (F := Ideal) H G (ix2 p d) = ∑ i : Fin 8192, G (ix2 i d) * H (ix2 i p) := by
    rw [Cert.EvInRefIdeal.Read.val_main_v6_apply, Cert.EvInRefIdeal.Read.val_main_v5_apply]
    unfold Cert.EvInRefIdeal.Read.val_main_v4
    pointwise
    rfl
  rw [e]
  exact Finset.sum_congr rfl fun i _ => mul_comm _ _

theorem value : Cert.algebraic_EvInIdeal_EvInRefIdeal := by
  intro m g m' g' _ hargs
  refine ⟨fun c => prod (aH m c) (aG m c), ?_, ?_⟩
  · refine (θ_run _ _ _).mono (fun r h c => ?_) (Cert.EvInIdeal.Value.run_blocks (F := Ideal) m g)
    obtain ⟨h0, h3⟩ := h c
    exact ⟨h0.trans (arr2 m c), h3⟩
  · refine (θ_run _ _ _).mono (fun r h c => ?_) (Cert.EvInRefIdeal.Value.run (F := Ideal) m' g')
    obtain ⟨h0, h3⟩ := h c
    obtain ⟨a0, a1⟩ := hargs c
    refine ⟨?_, h3⟩
    rw [h0, Cert.EvInRefIdeal.Read.val_main_v6_eq, a0, a1]
    exact ref_eq _ _

/-! ## The frames -/

theorem frame_p : Cert.quiescent_EvIn := fun m ρ _ => Cert.EvIn.Gen.frame m ρ

theorem frame_pi : Cert.quiescent_EvInIdeal := fun m ρ _ => Cert.EvInIdeal.Gen.frame m ρ

theorem frame_ri : Cert.quiescent_EvInRefIdeal := fun m ρ _ =>
  (θ_run Cert.EvInRefIdeal.defs _ _).mono (fun r h => ⟨fun c => (h c).2,
      Idealize.ShloMosaic.sem_eq_zero_of_no_sems (by decide) r.2⟩)
    (Cert.EvInRefIdeal.Value.run (F := Ideal) m ρ)

end Cert.EvInIdeal.Dw

end
-- ==== Proof.DwOdIn.lean ====
/-
  The launch of OdIn: a grid point adds the product of its tiles to an accumulator that the first of eight row tiles
  clears, and the last of them writes the block back; so the array is the product over all the rows, which is the
  gradient of a product's right factor.
-/
module

public import proofs.«01_k».proof.Defs
public import proofs.«01_k».proof.Proof.Tile
public import proofs.«01_k».proof.Proof.Gen.OdIn.Frame
public import proofs.«01_k».proof.Proof.Gen.OdInIdeal.Frame
public import proofs.«01_k».proof.Proof.Gen.OdInIdeal.Value
public import proofs.«01_k».proof.Proof.Gen.OdInRefIdeal.Run
public import proofs.«01_k».proof.Proof.Gen.OdInRefIdeal.Read
public import Idealize.ShloMosaic.Lib.Quiescent

@[expose] public section

set_option maxRecDepth 16384

noncomputable section

namespace Cert.OdInIdeal.Dw

open Idealize.ShloMosaic Idealize.ShloMosaic.TcCoe Idealize.SL.Sem Cert.OdInIdeal.Gen
open Cert.KernelIdeal.Trip (row sum_rows)

/-- Column `d` of column tile `j`. -/
def col (j : ℕ) (d : Fin 1536) : Fin 3072 := ⟨(1536 * j + d.val) % 3072, Nat.mod_lt _ (by norm_num)⟩

/-! ## What a point leaves -/

section Cases

variable {F : FTy → Type} [FloatOps F]
variable (c : Dev nD) (i : grid0.Coords) (arg3 : Memref sig .tc .vmem S1024x1024 .bf16) (harg3 : arg3.IsWhole)
  (arg4 : Memref sig .tc .vmem S1024x1536 .bf16) (harg4 : arg4.IsWhole) (arg5 : Memref sig .tc .vmem S1024x1536 .bf16) (harg5 : arg5.IsWhole)
  (arg6 : Memref sig .tc .vmem S1024x1536 .f32) (harg6 : arg6.IsWhole)
  (x0 : Vec F S1024x1024 .bf16) (x1 : Vec F S1024x1536 .bf16) (xs : Vec F S1024x1536 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1536.size inb_S1024x1536_S1024x1536_0_0).toLoadRect (harg4.unread x1)) = x1 :=
    (View.readAt_full _ _ _).trans (harg4.read_unread x1)
  unfold sout0_A_0 kernelRun0_A
  dsimp only
  unfold kernelRun0_A.sl.v3 kernelRun0_A.sl.HS0_1
  refine (View.read_writes_full _ _ _ _ _).trans ?_
  unfold View.readCov
  have h6 := (View.readAt_full arg6.view (arg6.view.writes (Elt F) arg6.view.junk [⟨Rect.unit ![0, 0] S1024x1536.size inb_S1024x1536_S1024x1536_0_0, k0_pay1 (F := F)⟩]) inb_S1024x1536_S1024x1536_0_0).trans (View.read_writes_full _ _ _ _ [])
  exact congr (congr (congrArg k0_pay2 h6) h3) h4

theorem sout_B (hc0 : ¬cond0_0 i) (hc1 : ¬cond0_1 i) :
    sout0_B_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1536.size inb_S1024x1536_S1024x1536_0_0).toLoadRect (harg4.unread x1)) = x1 :=
    (View.readAt_full _ _ _).trans (harg4.read_unread x1)
  unfold sout0_B_0 kernelRun0_B
  dsimp only
  have h6 := (View.readAt_full arg6.view (harg6.unread xs) inb_S1024x1536_S1024x1536_0_0).trans (harg6.read_unread xs)
  refine (View.read_writes_full _ _ _ _ _).trans ?_
  exact congr (congr (congrArg k0_pay2 h6) h3) h4

theorem sout_C (hc0 : ¬cond0_0 i) (hc1 : cond0_1 i) :
    sout0_C_0 c i arg3 harg3 arg4 harg4 arg5 harg5 arg6 harg6 hc0 hc1 x0 x1 xs = k0_pay2 xs x0 x1 := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1536.size inb_S1024x1536_S1024x1536_0_0).toLoadRect (harg4.unread x1)) = x1 :=
    (View.readAt_full _ _ _).trans (harg4.read_unread x1)
  unfold sout0_C_0 kernelRun0_C
  dsimp only
  unfold kernelRun0_C.sl.HS0_1
  have h6 := (View.readAt_full arg6.view (harg6.unread xs) inb_S1024x1536_S1024x1536_0_0).trans (harg6.read_unread xs)
  refine (View.read_writes_full _ _ _ _ _).trans ?_
  exact congr (congr (congrArg k0_pay2 h6) h3) h4

theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  have h3 : (View.readAt (Elt F) arg3.view (Rect.unit ![0, 0] S1024x1024.size inb_S1024x1024_S1024x1024_0_0).toLoadRect (harg3.unread x0)) = x0 :=
    (View.readAt_full _ _ _).trans (harg3.read_unread x0)
  have h4 : (View.readAt (Elt F) arg4.view (Rect.unit ![0, 0] S1024x1536.size inb_S1024x1536_S1024x1536_0_0).toLoadRect (harg4.unread x1)) = x1 :=
    (View.readAt_full _ _ _).trans (harg4.read_unread x1)
  unfold out0_C_2 kernelRun0_C
  dsimp only
  unfold kernelRun0_C.sl.v14 kernelRun0_C.sl.HS0_1
  have h6 := (View.readAt_full arg6.view (harg6.unread xs) inb_S1024x1536_S1024x1536_0_0).trans (harg6.read_unread xs)
  refine (View.read_writes_full _ _ _ _ _).trans ?_
  unfold View.readCov
  refine congrArg k0_pay3 ?_
  refine (View.readAt_full arg6.view _ inb_S1024x1536_S1024x1536_0_0).trans ?_
  refine (View.read_writes_full _ _ _ _ _).trans ?_
  exact congr (congr (congrArg k0_pay2 h6) h3) h4

end Cases

/-! ## The payloads at an index -/

theorem pay1_apply (p : Fin 1024) (d : Fin 1536) : k0_pay1 (F := Ideal) (ix2 p d) = 0 := by
  unfold k0_pay1
  pointwise

theorem pay2_apply (a : Vec Ideal S1024x1536 .f32) (x0 : Vec Ideal S1024x1024 .bf16) (x1 : Vec Ideal S1024x1536 .bf16) (p : Fin 1024) (d : Fin 1536) :
    k0_pay2 (F := Ideal) a x0 x1 (ix2 p d) = a (ix2 p d) + ∑ r : Fin 1024, x0 (ix2 r p) * x1 (ix2 r d) := by
  unfold k0_pay2
  pointwise

theorem pay3_apply (a : Vec Ideal S1024x1536 .f32) (p : Fin 1024) (d : Fin 1536) :
    k0_pay3 (F := Ideal) a (ix2 p d) = a (ix2 p d) := rfl

/-! ## The array after the run -/

variable (m : (ℓ : Loc nD τ sig) → Buf (Elt Ideal) ℓ) (c : Dev nD)

/-- The left factor. -/
abbrev aH : Vec Ideal S8192x1024 .bf16 := V m c main_arg0
/-- The gradient of the product. -/
abbrev aG : Vec Ideal S8192x3072 .bf16 := V m c main_arg1

/-- The product over the rows. -/
def prod (H : Vec Ideal S8192x1024 .bf16) (G : Vec Ideal S8192x3072 .bf16) : Vec Ideal S1024x3072 .bf16 :=
  fun y => ∑ i : Fin 8192, H (ix2 i (y 0)) * G (ix2 i (y 1))

theorem index_eq : ∀ t : Fin grid0.N,
    (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by
  decide +kernel

theorem lt_N (t : Fin cfg0.N) : t.val < 16 := t.isLt

theorem iblk0 (t : Fin cfg0.N) (r p : Fin 1024) :
    (iblk m c 0 t : Vec Ideal S1024x1024 .bf16) (ix2 r p) = aH m c (ix2 (row (t.val % 8) r) p) := by
  have hi := (index_eq t).1
  have ht := lt_N t
  unfold iblk
  rw [View.read_apply]
  show V m c main_arg0 _ = V m c main_arg0 _
  congr 1
  funext a
  apply Fin.ext
  match a with
  | ⟨0, _⟩ => show win0_0.index t 0 * 1024 + 1 * r.val = (1024 * (t.val % 8) + r.val) % 8192; rw [hi.1]; omega
  | ⟨1, _⟩ => show win0_0.index t 1 * 1024 + 1 * p.val = p.val; rw [hi.2]; omega

theorem iblk1 (t : Fin cfg0.N) (r : Fin 1024) (d : Fin 1536) :
    (iblk m c 1 t : Vec Ideal S1024x1536 .bf16) (ix2 r d) = aG m c (ix2 (row (t.val % 8) r) (col (t.val / 8) d)) := by
  have hi := (index_eq t).2.1
  have ht := lt_N t
  unfold iblk
  rw [View.read_apply]
  show V m c main_arg1 _ = V m c main_arg1 _
  congr 1
  funext a
  apply Fin.ext
  match a with
  | ⟨0, _⟩ => show win0_1.index t 0 * 1024 + 1 * r.val = (1024 * (t.val % 8) + r.val) % 8192; rw [hi.1]; omega
  | ⟨1, _⟩ => show win0_1.index t 1 * 1536 + 1 * d.val = (1536 * (t.val / 8) + d.val) % 3072; rw [hi.2]; omega

/-- The accumulator after a point: the product over the row tiles so far. -/
theorem acc_eq (n : ℕ) (hn : n < cfg0.N) (p : Fin 1024) (d : Fin 1536) :
    (outsAt0 m c n hn).2 (ix2 p d)
      = ∑ j ∈ Finset.range (n % 8 + 1), ∑ r : Fin 1024, aH m c (ix2 (row j r) p) * aG m c (ix2 (row j r) (col (n / 8) d)) := by
  induction n using Nat.strong_induction_on with
  | _ n ih =>
  by_cases h0 : n % 8 = 0
  · have h7 : ¬n % 8 = 7 := by omega
    have e := outsAt0_A m c ⟨n, hn⟩ h0 h7
    dsimp only at e
    rw [e]
    dsimp only
    rw [sout_A, pay2_apply, pay1_apply, zero_add, h0, Finset.sum_range_one]
    simp only [iblk0, iblk1, h0]
  · have i1 := ih (n - 1) (by omega) (Nat.lt_of_le_of_lt (Nat.sub_le _ _) hn)
    rw [show (n - 1) % 8 + 1 = n % 8 by omega, show (n - 1) / 8 = n / 8 by omega] at i1
    by_cases h7 : n % 8 = 7
    · have e := outsAt0_C m c ⟨n, hn⟩ h0 h7
      dsimp only at e
      rw [e]
      dsimp only
      rw [sout_C, pay2_apply, i1, Finset.sum_range_succ]
      simp only [iblk0, iblk1]
    · have e := outsAt0_B m c ⟨n, hn⟩ h0 h7
      dsimp only at e
      rw [e]
      dsimp only
      rw [sout_B, pay2_apply, i1, Finset.sum_range_succ]
      simp only [iblk0, iblk1]

/-- The block after the last row tile. -/
theorem block_eq (t : Fin cfg0.N) (h7 : t.val % 8 = 7) (p : Fin 1024) (d : Fin 1536) :
    (outsAt0 m c t.val t.isLt).1 (ix2 p d) = ∑ i : Fin 8192, aH m c (ix2 i p) * aG m c (ix2 i (col (t.val / 8) d)) := by
  have h0 : ¬t.val % 8 = 0 := by omega
  have e : (outsAt0 m c t.val t.isLt).1 (ix2 p d) = (outsAt0 m c t.val t.isLt).2 (ix2 p d) := by
    rw [outsAt0_C m c t h0 h7]
    dsimp only
    rw [out_C, sout_C, pay3_apply]
  rw [e, acc_eq, h7]
  exact sum_rows fun i => aH m c (ix2 i p) * aG m c (ix2 i (col (t.val / 8) d))

theorem emb2 (t : Fin cfg0.N) (p : Fin 1024) (d : Fin 1536) :
    ((cfg0.win 2).blk t).view.emb (ix2 p d : S1024x1536.Idx) = (ix2 p (col (t.val / 8) d) : S1024x3072.Idx) := by
  have hi := (index_eq t).2.2
  have ht := lt_N t
  funext a
  apply Fin.ext
  match a with
  | ⟨0, _⟩ => show win0_2.index t 0 * 1024 + 1 * p.val = p.val; rw [hi.1]; omega
  | ⟨1, _⟩ => show win0_2.index t 1 * 1536 + 1 * d.val = (1536 * (t.val / 8) + d.val) % 3072; rw [hi.2]; omega

theorem arr2 : (dats m 0 c).arrAt 2 cfg0.N = prod (aH m c) (aG m c) := by
  refine (dats m 0 c).arrAt_eq_of_cover 2 (prod (aH m c) (aG m c)) (fun t hf => ?_) (fun y => ?_)
  · have h7 : t.val % 8 = 7 := (flush0_2 t).mp hf
    rw [Value.flushed2]
    funext y
    obtain ⟨p, d, rfl⟩ : ∃ (p : Fin 1024) (d : Fin 1536), y = (ix2 p d : S1024x1536.Idx) := ⟨_, _, eq_ix2 (n0 := 1024) (n1 := 1536) y⟩
    rw [View.read_apply]
    change (outsAt0 m c t.val t.isLt).1 (ix2 p d) = _
    rw [block_eq m c t h7]
    rw [emb2 t p d]
    exact (cast_eq _ _).symm
  · have h1 : (y 1).val < 3072 := (y 1).isLt
    let t : Fin cfg0.N := ⟨8 * ((y 1).val / 1536) + 7, by show _ < 16; omega⟩
    refine ⟨t, (flush0_2 t).mpr (by show (8 * ((y 1).val / 1536) + 7) % 8 = 7; omega), ?_⟩
    have e : ((cfg0.win 2).blk t).view.emb (ix2 (⟨(y 0).val, (y 0).isLt⟩ : Fin 1024) (⟨(y 1).val % 1536, by omega⟩ : Fin 1536) : S1024x1536.Idx) = y := by
      rw [emb2]
      refine Shape.idx_ext₂ rfl ?_
      show (1536 * ((8 * ((y 1).val / 1536) + 7) / 8) + (y 1).val % 1536) % 3072 = (y 1).val
      omega
    rw [← e]
    exact View.emb_mem_set _ _

/-! ## The reference -/

theorem ref_eq (H : Vec Ideal S8192x1024 .bf16) (G : Vec Ideal S8192x3072 .bf16) :
    Cert.OdInRefIdeal.Read.val_main_v6 (F := Ideal) H G = prod H G := by
  funext y
  obtain ⟨p, d, rfl⟩ : ∃ (p : Fin 1024) (d : Fin 3072), y = (ix2 p d : S1024x3072.Idx) := ⟨_, _, eq_ix2 (n0 := 1024) (n1 := 3072) y⟩
  have e : Cert.OdInRefIdeal.Read.val_main_v6 (F := Ideal) H G (ix2 p d) = ∑ i : Fin 8192, G (ix2 i d) * H (ix2 i p) := by
    rw [Cert.OdInRefIdeal.Read.val_main_v6_apply, Cert.OdInRefIdeal.Read.val_main_v5_apply]
    unfold Cert.OdInRefIdeal.Read.val_main_v4
    pointwise
    rfl
  rw [e]
  exact Finset.sum_congr rfl fun i _ => mul_comm _ _

theorem value : Cert.algebraic_OdInIdeal_OdInRefIdeal := by
  intro m g m' g' _ hargs
  refine ⟨fun c => prod (aH m c) (aG m c), ?_, ?_⟩
  · refine (θ_run _ _ _).mono (fun r h c => ?_) (Cert.OdInIdeal.Value.run_blocks (F := Ideal) m g)
    obtain ⟨h0, h3⟩ := h c
    exact ⟨h0.trans (arr2 m c), h3⟩
  · refine (θ_run _ _ _).mono (fun r h c => ?_) (Cert.OdInRefIdeal.Value.run (F := Ideal) m' g')
    obtain ⟨h0, h3⟩ := h c
    obtain ⟨a0, a1⟩ := hargs c
    refine ⟨?_, h3⟩
    rw [h0, Cert.OdInRefIdeal.Read.val_main_v6_eq, a0, a1]
    exact ref_eq _ _

/-! ## The frames -/

theorem frame_p : Cert.quiescent_OdIn := fun m ρ _ => Cert.OdIn.Gen.frame m ρ

theorem frame_pi : Cert.quiescent_OdInIdeal := fun m ρ _ => Cert.OdInIdeal.Gen.frame m ρ

theorem frame_ri : Cert.quiescent_OdInRefIdeal := fun m ρ _ =>
  (θ_run Cert.OdInRefIdeal.defs _ _).mono (fun r h => ⟨fun c => (h c).2,
      Idealize.ShloMosaic.sem_eq_zero_of_no_sems (by decide) r.2⟩)
    (Cert.OdInRefIdeal.Value.run (F := Ideal) m ρ)

end Cert.OdInIdeal.Dw

end
-- ==== Proof.Pre.lean ====
/-
  The modulated norm of a row, as a function of the row: its elements over the root of their mean square plus epsilon, times
  the gain, times one plus the scale, plus the shift.
-/
module

public import Idealize.ShloMosaic.Lib.Pointwise

@[expose] public section

noncomputable section

namespace Cert.Pre

open Idealize.ShloMosaic

/-- A row `x` at column `d`, normalised with gain `g`, scaled by one plus `s` and shifted by `b`. -/
def modNorm (x : Fin 1024 → EReal) (g s b : EReal) (d : Fin 1024) : EReal :=
  x d * Ideal.rsqrt (Ideal.div (∑ k : Fin 1024, x k * x k) (Ideal.ofBits .f32 0x44800000#32) + Ideal.ofBits .f32 0x358637BD#32) * g
    * (Ideal.ofBits .f32 0x3F800000#32 + s) + b

/-- Column `d` of the first third of a row of 3072. -/
abbrev lo (d : Fin 1024) : Fin 3072 := ⟨d.val, by omega⟩

/-- Column `d` of the second third. -/
abbrev hi (d : Fin 1024) : Fin 3072 := ⟨1024 + d.val, by omega⟩

/-- Row `p` of row tile `t`. -/
def row (t : ℕ) (p : Fin 512) : Fin 8192 := ⟨(512 * t + p.val) % 8192, Nat.mod_lt _ (by norm_num)⟩

end Cert.Pre

end
-- ==== Proof.OdProj.lean ====
/-
  The launch of OdProj: a grid point normalises and modulates 512 rows, multiplies them by the whole weight and gates the first
  two thirds of the product; so each array is the reference's, row tile by row tile.
-/
module

public import proofs.«01_k».proof.Defs
public import proofs.«01_k».proof.Proof.Pre
public import proofs.«01_k».proof.Proof.Host
public import proofs.«01_k».proof.Proof.Gen.OdProj.Frame
public import proofs.«01_k».proof.Proof.Gen.OdProjIdeal.Frame
public import proofs.«01_k».proof.Proof.Gen.OdProjIdeal.Value
public import proofs.«01_k».proof.Proof.Gen.OdProjRefIdeal.Run
public import proofs.«01_k».proof.Proof.Gen.OdProjRefIdeal.Read
public import Idealize.ShloMosaic.Lib.Quiescent
public import Idealize.ShloMosaic.Lib.Pipeline.ValueKit.Basic

@[expose] public section

set_option maxRecDepth 16384

noncomputable section

namespace Cert.OdProjIdeal.Proj

open Idealize.ShloMosaic Idealize.ShloMosaic.TcCoe Idealize.SL.Sem Cert.OdProjIdeal.Gen
open Cert.Pre

theorem word_one : Ideal.ofBits .f32 0x3F800000#32 = 1 := by
  simp [Ideal.ofBits, Ideal.ieee]
  rw [← EReal.coe_mul]
  norm_num

section Payloads

variable (g : Vec Ideal S1x1024 .f32) (mo bi bw : Vec Ideal S1x3072 .f32) (x : Vec Ideal S512x1024 .f32) (w : Vec Ideal S1024x3072 .bf16)

theorem pay1_apply (p : Fin 512) (d : Fin 1024) :
    k0_pay1 (F := Ideal) g mo bi x (ix2 p d)
      = modNorm (fun k => x (ix2 p k)) (g (ix2 0 d)) (mo (ix2 0 (hi d)) + bi (ix2 0 (hi d))) (mo (ix2 0 (lo d)) + bi (ix2 0 (lo d))) d := by
  unfold k0_pay1 modNorm
  pointwise

theorem pay2_apply (p : Fin 512) (n : Fin 3072) :
    k0_pay2 (F := Ideal) g mo bi x w (ix2 p n) = ∑ k : Fin 1024, k0_pay1 (F := Ideal) g mo bi x (ix2 p k) * w (ix2 k n) := by
  unfold k0_pay2
  generalize k0_pay1 (F := Ideal) g mo bi x = y
  pointwise

theorem pay3_apply (p : Fin 512) (d : Fin 1024) :
    k0_pay3 (F := Ideal) g mo bi bw x w (ix2 p d)
      = (k0_pay2 (F := Ideal) g mo bi x w (ix2 p (lo d)) + bw (ix2 0 (lo d)))
        * Ideal.logistic (k0_pay2 (F := Ideal) g mo bi x w (ix2 p (hi d)) + bw (ix2 0 (hi d))) := by
  unfold k0_pay3
  generalize k0_pay2 (F := Ideal) g mo bi x w = y
  pointwise

end Payloads

/-! ## The reference at an index -/

section Ref

open Cert.OdProjRefIdeal.Read

variable (x : Vec Ideal S8192x1024 .f32) (g : Vec Ideal S1x1024 .f32) (mo bi bw : Vec Ideal S1x3072 .f32) (w : Vec Ideal S1024x3072 .bf16)

theorem norm_ref (i : Fin 8192) (d : Fin 1024) :
    val_main_v21 (F := Ideal) x g mo bi (ix2 i d)
      = modNorm (fun k => x (ix2 i k)) (g (ix2 0 d)) (mo (ix2 0 (hi d)) + bi (ix2 0 (hi d))) (mo (ix2 0 (lo d)) + bi (ix2 0 (lo d))) d := by
  unfold modNorm val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v2 val_main_v1 val_main_v0 val_main_cst val_main_cst_0 val_main_cst_1 val_main_cst_2
  pointwise

theorem z_ref (i : Fin 8192) (n : Fin 3072) :
    val_main_v23 (F := Ideal) x g mo bi w (ix2 i n) = ∑ k : Fin 1024, val_main_v21 (F := Ideal) x g mo bi (ix2 i k) * w (ix2 k n) := by
  unfold val_main_v23 val_main_v22
  generalize val_main_v21 (F := Ideal) x g mo bi = y
  pointwise

theorem u_ref (i : Fin 8192) (d : Fin 1024) :
    val_main_v36 (F := Ideal) x g mo bi w bw (ix2 i d)
      = (val_main_v23 (F := Ideal) x g mo bi w (ix2 i (lo d)) + bw (ix2 0 (lo d)))
        * Ideal.logistic (val_main_v23 (F := Ideal) x g mo bi w (ix2 i (hi d)) + bw (ix2 0 (hi d))) := by
  unfold Ideal.logistic val_main_v36 val_main_v35 val_main_v34 val_main_v33 val_main_v32 val_main_v31 val_main_v30 val_main_v27 val_main_v26 val_main_v25 val_main_v24 val_main_cst_3 val_main_cst_4
  generalize val_main_v23 (F := Ideal) x g mo bi w = y
  rw [← word_one]
  pointwise

end Ref

/-! ## The blocks and the arrays -/

variable (m : (ℓ : Loc nD τ sig) → Buf (Elt Ideal) ℓ) (c : Dev nD)

abbrev aX : Vec Ideal S8192x1024 .f32 := V m c main_arg0
abbrev aG : Vec Ideal S1x1024 .f32 := V m c main_arg1
abbrev aM : Vec Ideal S1x3072 .f32 := V m c main_arg2
abbrev aB : Vec Ideal S1x3072 .f32 := V m c main_arg3
abbrev aC : Vec Ideal S1x3072 .f32 := V m c main_arg5
abbrev aW : Vec Ideal S1024x3072 .bf16 := V m c main_arg4

theorem index_row : ∀ t : Fin grid0.N,
    (win0_0.index t 0 = t.val ∧ win0_0.index t 1 = 0) ∧ (win0_6.index t 0 = t.val ∧ win0_6.index t 1 = 0)
    ∧ (win0_7.index t 0 = t.val ∧ win0_7.index t 1 = 0) ∧ (win0_8.index t 0 = t.val ∧ win0_8.index t 1 = 0) := by
  decide +kernel

theorem index_whole : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) := by
  decide +kernel

theorem iblk0 (t : Fin cfg0.N) (p : Fin 512) (d : Fin 1024) :
    (iblk m c 0 t : Vec Ideal S512x1024 .f32) (ix2 p d) = aX m c (ix2 (row t.val p) d) := by
  have hi := (index_row t).1
  unfold iblk
  rw [View.read_apply]
  show V m c main_arg0 _ = V m c main_arg0 _
  congr 1
  funext a
  apply Fin.ext
  match a with
  | ⟨0, _⟩ => show win0_0.index t 0 * 512 + 1 * p.val = (512 * t.val + p.val) % 8192; have ht : t.val < 16 := t.isLt; rw [hi.1]; omega
  | ⟨1, _⟩ => show win0_0.index t 1 * 1024 + 1 * d.val = d.val; rw [hi.2]; omega

theorem iblk1 (t : Fin cfg0.N) : (iblk m c 1 t : Vec Ideal S1x1024 .f32) = aG m c := by
  have hi := (index_whole t).1
  funext y
  unfold iblk
  rw [View.read_apply]
  show V m c main_arg1 _ = V m c main_arg1 _
  congr 1
  funext a
  apply Fin.ext
  match a with
  | ⟨0, _⟩ => show win0_1.index t 0 * 1 + 1 * (y 0).val = (y 0).val; rw [hi.1]; omega
  | ⟨1, _⟩ => show win0_1.index t 1 * 1024 + 1 * (y 1).val = (y 1).val; rw [hi.2]; omega

theorem iblk2 (t : Fin cfg0.N) : (iblk m c 2 t : Vec Ideal S1x3072 .f32) = aM m c := by
  have hi := (index_whole t).2.1
  funext y
  unfold iblk
  rw [View.read_apply]
  show V m c main_arg2 _ = V m c main_arg2 _
  congr 1
  funext a
  apply Fin.ext
  match a with
  | ⟨0, _⟩ => show win0_2.index t 0 * 1 + 1 * (y 0).val = (y 0).val; rw [hi.1]; omega
  | ⟨1, _⟩ => show win0_2.index t 1 * 3072 + 1 * (y 1).val = (y 1).val; rw [hi.2]; omega

theorem iblk3 (t : Fin cfg0.N) : (iblk m c 3 t : Vec Ideal S1x3072 .f32) = aB m c := by
  have hi := (index_whole t).2.2.1
  funext y
  unfold iblk
  rw [View.read_apply]
  show V m c main_arg3 _ = V m c main_arg3 _
  congr 1
  funext a
  apply Fin.ext
  match a with
  | ⟨0, _⟩ => show win0_3.index t 0 * 1 + 1 * (y 0).val = (y 0).val; rw [hi.1]; omega
  | ⟨1, _⟩ => show win0_3.index t 1 * 3072 + 1 * (y 1).val = (y 1).val; rw [hi.2]; omega

theorem iblk4 (t : Fin cfg0.N) : (iblk m c 4 t : Vec Ideal S1x3072 .f32) = aC m c := by
  have hi := (index_whole t).2.2.2.1
  funext y
  unfold iblk
  rw [View.read_apply]
  show V m c main_arg5 _ = V m c main_arg5 _
  congr 1
  funext a
  apply Fin.ext
  match a with
  | ⟨0, _⟩ => show win0_4.index t 0 * 1 + 1 * (y 0).val = (y 0).val; rw [hi.1]; omega
  | ⟨1, _⟩ => show win0_4.index t 1 * 3072 + 1 * (y 1).val = (y 1).val; rw [hi.2]; omega

theorem iblk5 (t : Fin cfg0.N) : (iblk m c 5 t : Vec Ideal S1024x3072 .bf16) = aW m c := by
  have hi := (index_whole t).2.2.2.2
  funext y
  unfold iblk
  rw [View.read_apply]
  show V m c main_arg4 _ = V m c main_arg4 _
  congr 1
  funext a
  apply Fin.ext
  match a with
  | ⟨0, _⟩ => show win0_5.index t 0 * 1024 + 1 * (y 0).val = (y 0).val; rw [hi.1]; omega
  | ⟨1, _⟩ => show win0_5.index t 1 * 3072 + 1 * (y 1).val = (y 1).val; rw [hi.2]; omega

section Out

variable (x0 : Vec Ideal S512x1024 .f32) (x1 : Vec Ideal S1x1024 .f32) (x2 x3 x4 : Vec Ideal S1x3072 .f32) (x5 : Vec Ideal S1024x3072 .bf16)

theorem out6 : out0_6 x0 x1 x2 x3 x4 x5 = k0_pay1 x1 x2 x3 x0 := by
  unfold out0_6
  rw [View.canon_cons_unit_lit _ _ _ (by decide), View.ld_unit_lit _ _ (by decide), View.ld_unit_lit _ _ (by decide), View.ld_unit_lit _ _ (by decide),
    View.ld_unit_lit _ _ (by decide)]

theorem out7 : out0_7 x0 x1 x2 x3 x4 x5 = k0_pay2 x1 x2 x3 x0 x5 := by
  unfold out0_7
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

theorem out8 : out0_8 x0 x1 x2 x3 x4 x5 = k0_pay3 x1 x2 x3 x4 x0 x5 := by
  unfold out0_8
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

end Out

abbrev rH : Vec Ideal S8192x1024 .bf16 := Cert.OdProjRefIdeal.Read.val_main_v29 (F := Ideal) (aX m c) (aG m c) (aM m c) (aB m c)
abbrev rZ : Vec Ideal S8192x3072 .f32 := Cert.OdProjRefIdeal.Read.val_main_v23 (F := Ideal) (aX m c) (aG m c) (aM m c) (aB m c) (aW m c)
abbrev rU : Vec Ideal S8192x1024 .f32 := Cert.OdProjRefIdeal.Read.val_main_v36 (F := Ideal) (aX m c) (aG m c) (aM m c) (aB m c) (aW m c) (aC m c)

theorem h_at (t : Fin cfg0.N) (p : Fin 512) (d : Fin 1024) :
    k0_pay1 (F := Ideal) (aG m c) (aM m c) (aB m c) (iblk m c 0 t) (ix2 p d) = Cert.OdProjRefIdeal.Read.val_main_v21 (F := Ideal) (aX m c) (aG m c) (aM m c) (aB m c) (ix2 (row t.val p) d) := by
  rw [pay1_apply, norm_ref]
  simp only [iblk0]

theorem z_at (t : Fin cfg0.N) (p : Fin 512) (n : Fin 3072) :
    k0_pay2 (F := Ideal) (aG m c) (aM m c) (aB m c) (iblk m c 0 t) (aW m c) (ix2 p n) = rZ m c (ix2 (row t.val p) n) := by
  unfold rZ
  rw [pay2_apply, z_ref]
  simp only [h_at]

theorem u_at (t : Fin cfg0.N) (p : Fin 512) (d : Fin 1024) :
    k0_pay3 (F := Ideal) (aG m c) (aM m c) (aB m c) (aC m c) (iblk m c 0 t) (aW m c) (ix2 p d) = rU m c (ix2 (row t.val p) d) := by
  unfold rU
  rw [pay3_apply, u_ref, z_at, z_at]

theorem emb6 (t : Fin cfg0.N) (p : Fin 512) (d : Fin 1024) :
    ((cfg0.win 6).blk t).view.emb (ix2 p d : S512x1024.Idx) = (ix2 (row t.val p) d : S8192x1024.Idx) := by
  have hi := (index_row t).2.1
  funext a
  apply Fin.ext
  match a with
  | ⟨0, _⟩ => show win0_6.index t 0 * 512 + 1 * p.val = (512 * t.val + p.val) % 8192; have ht : t.val < 16 := t.isLt; rw [hi.1]; omega
  | ⟨1, _⟩ => show win0_6.index t 1 * 1024 + 1 * d.val = d.val; rw [hi.2]; omega

theorem arr6 : (dats m 0 c).arrAt 6 cfg0.N = rH m c := by
  refine (dats m 0 c).arrAt_eq_of_cover 6 (rH m c) (fun t hf => ?_) (fun y => ?_)
  · rw [Value.flushed6]
    funext y
    obtain ⟨p, d, rfl⟩ : ∃ (p : Fin 512) (d : Fin 1024), y = (ix2 p d : S512x1024.Idx) := ⟨_, _, eq_ix2 (n0 := 512) (n1 := 1024) y⟩
    rw [View.read_apply, emb6 t p d]
    change out0_6 _ _ _ _ _ _ (ix2 p d) = _
    rw [out6, iblk1, iblk2, iblk3]
    exact (h_at m c t p d).trans (cast_eq _ _).symm
  · have h0 : (y 0).val < 8192 := (y 0).isLt
    let t : Fin cfg0.N := ⟨(y 0).val / 512, by show _ < 16; omega⟩
    refine ⟨t, flush0_6 t, ?_⟩
    have e : ((cfg0.win 6).blk t).view.emb (ix2 (⟨(y 0).val % 512, by omega⟩ : Fin 512) (⟨(y 1).val, (y 1).isLt⟩ : Fin 1024) : S512x1024.Idx) = y := by
      rw [emb6]
      refine Shape.idx_ext₂ ?_ rfl
      show (512 * ((y 0).val / 512) + (y 0).val % 512) % 8192 = (y 0).val
      omega
    rw [← e]
    exact View.emb_mem_set _ _

theorem emb7 (t : Fin cfg0.N) (p : Fin 512) (d : Fin 3072) :
    ((cfg0.win 7).blk t).view.emb (ix2 p d : S512x3072.Idx) = (ix2 (row t.val p) d : S8192x3072.Idx) := by
  have hi := (index_row t).2.2.1
  funext a
  apply Fin.ext
  match a with
  | ⟨0, _⟩ => show win0_7.index t 0 * 512 + 1 * p.val = (512 * t.val + p.val) % 8192; have ht : t.val < 16 := t.isLt; rw [hi.1]; omega
  | ⟨1, _⟩ => show win0_7.index t 1 * 3072 + 1 * d.val = d.val; rw [hi.2]; omega

theorem arr7 : (dats m 0 c).arrAt 7 cfg0.N = rZ m c := by
  refine (dats m 0 c).arrAt_eq_of_cover 7 (rZ m c) (fun t hf => ?_) (fun y => ?_)
  · rw [Value.flushed7]
    funext y
    obtain ⟨p, d, rfl⟩ : ∃ (p : Fin 512) (d : Fin 3072), y = (ix2 p d : S512x3072.Idx) := ⟨_, _, eq_ix2 (n0 := 512) (n1 := 3072) y⟩
    rw [View.read_apply, emb7 t p d]
    change out0_7 _ _ _ _ _ _ (ix2 p d) = _
    rw [out7, iblk1, iblk2, iblk3, iblk5]
    exact (z_at m c t p d).trans (cast_eq _ _).symm
  · have h0 : (y 0).val < 8192 := (y 0).isLt
    let t : Fin cfg0.N := ⟨(y 0).val / 512, by show _ < 16; omega⟩
    refine ⟨t, flush0_7 t, ?_⟩
    have e : ((cfg0.win 7).blk t).view.emb (ix2 (⟨(y 0).val % 512, by omega⟩ : Fin 512) (⟨(y 1).val, (y 1).isLt⟩ : Fin 3072) : S512x3072.Idx) = y := by
      rw [emb7]
      refine Shape.idx_ext₂ ?_ rfl
      show (512 * ((y 0).val / 512) + (y 0).val % 512) % 8192 = (y 0).val
      omega
    rw [← e]
    exact View.emb_mem_set _ _

theorem emb8 (t : Fin cfg0.N) (p : Fin 512) (d : Fin 1024) :
    ((cfg0.win 8).blk t).view.emb (ix2 p d : S512x1024.Idx) = (ix2 (row t.val p) d : S8192x1024.Idx) := by
  have hi := (index_row t).2.2.2
  funext a
  apply Fin.ext
  match a with
  | ⟨0, _⟩ => show win0_8.index t 0 * 512 + 1 * p.val = (512 * t.val + p.val) % 8192; have ht : t.val < 16 := t.isLt; rw [hi.1]; omega
  | ⟨1, _⟩ => show win0_8.index t 1 * 1024 + 1 * d.val = d.val; rw [hi.2]; omega

theorem arr8 : (dats m 0 c).arrAt 8 cfg0.N = rU m c := by
  refine (dats m 0 c).arrAt_eq_of_cover 8 (rU m c) (fun t hf => ?_) (fun y => ?_)
  · rw [Value.flushed8]
    funext y
    obtain ⟨p, d, rfl⟩ : ∃ (p : Fin 512) (d : Fin 1024), y = (ix2 p d : S512x1024.Idx) := ⟨_, _, eq_ix2 (n0 := 512) (n1 := 1024) y⟩
    rw [View.read_apply, emb8 t p d]
    change out0_8 _ _ _ _ _ _ (ix2 p d) = _
    rw [out8, iblk1, iblk2, iblk3, iblk4, iblk5]
    exact (u_at m c t p d).trans (cast_eq _ _).symm
  · have h0 : (y 0).val < 8192 := (y 0).isLt
    let t : Fin cfg0.N := ⟨(y 0).val / 512, by show _ < 16; omega⟩
    refine ⟨t, flush0_8 t, ?_⟩
    have e : ((cfg0.win 8).blk t).view.emb (ix2 (⟨(y 0).val % 512, by omega⟩ : Fin 512) (⟨(y 1).val, (y 1).isLt⟩ : Fin 1024) : S512x1024.Idx) = y := by
      rw [emb8]
      refine Shape.idx_ext₂ ?_ rfl
      show (512 * ((y 0).val / 512) + (y 0).val % 512) % 8192 = (y 0).val
      omega
    rw [← e]
    exact View.emb_mem_set _ _

theorem value : Cert.algebraic_OdProjIdeal_OdProjRefIdeal := by
  intro m g m' g' _ hargs
  refine ⟨fun c => rH m c, fun c => rZ m c, fun c => rU m c, ?_, ?_⟩
  · refine (θ_run _ _ _).mono (fun r h c => ?_) (Cert.OdProjIdeal.Value.run_blocks (F := Ideal) m g)
    obtain ⟨h0, h1, h2, h3⟩ := h c
    exact ⟨h0.trans (arr6 m c), h1.trans (arr7 m c), h2.trans (arr8 m c), h3⟩
  · refine (θ_run _ _ _).mono (fun r h c => ?_) (Cert.OdProjRefIdeal.Value.run (F := Ideal) m' g')
    obtain ⟨h0, h1, h2, h3⟩ := h c
    obtain ⟨a0, a1, a2, a3, a4, a5⟩ := hargs c
    refine ⟨?_, ?_, ?_, h3⟩
    · rw [h0, Cert.OdProjRefIdeal.Read.val_main_v29_eq, a0, a1, a2, a3]
    · rw [h1, Cert.OdProjRefIdeal.Read.val_main_v23_eq, a0, a1, a2, a3, a4]
    · rw [h2, Cert.OdProjRefIdeal.Read.val_main_v36_eq, a0, a1, a2, a3, a4, a5]

/-! ## The frames -/

theorem frame_p : Cert.quiescent_OdProj := fun m ρ _ => Cert.OdProj.Gen.frame m ρ

theorem frame_pi : Cert.quiescent_OdProjIdeal := fun m ρ _ => Cert.OdProjIdeal.Gen.frame m ρ

theorem frame_ri : Cert.quiescent_OdProjRefIdeal := fun m ρ _ =>
  (θ_run Cert.OdProjRefIdeal.defs _ _).mono (fun r h => ⟨fun c => (h c).2.2.2,
      Idealize.ShloMosaic.sem_eq_zero_of_no_sems (by decide) r.2⟩)
    (Cert.OdProjRefIdeal.Value.run (F := Ideal) m ρ)

end Cert.OdProjIdeal.Proj

end
-- ==== Proof.EvProj.lean ====
/-
  The launch of EvProj: a grid point normalises and modulates 512 rows and multiplies them by the whole weight; so each array is
  the reference's, row tile by row tile.
-/
module

public import proofs.«01_k».proof.Defs
public import proofs.«01_k».proof.Proof.Pre
public import proofs.«01_k».proof.Proof.Host
public import proofs.«01_k».proof.Proof.Gen.EvProj.Frame
public import proofs.«01_k».proof.Proof.Gen.EvProjIdeal.Frame
public import proofs.«01_k».proof.Proof.Gen.EvProjIdeal.Value
public import proofs.«01_k».proof.Proof.Gen.EvProjRefIdeal.Run
public import proofs.«01_k».proof.Proof.Gen.EvProjRefIdeal.Read
public import Idealize.ShloMosaic.Lib.Quiescent
public import Idealize.ShloMosaic.Lib.Pipeline.ValueKit.Basic

@[expose] public section

set_option maxRecDepth 16384

noncomputable section

namespace Cert.EvProjIdeal.Proj

open Idealize.ShloMosaic Idealize.ShloMosaic.TcCoe Idealize.SL.Sem Cert.EvProjIdeal.Gen
open Cert.Pre

section Payloads

variable (g : Vec Ideal S1x1024 .f32) (mo bi : Vec Ideal S1x3072 .f32) (x : Vec Ideal S512x1024 .f32) (w : Vec Ideal S1024x3328 .bf16)

theorem pay1_apply (p : Fin 512) (d : Fin 1024) :
    k0_pay1 (F := Ideal) mo bi x g (ix2 p d)
      = modNorm (fun k => x (ix2 p k)) (g (ix2 0 d)) (mo (ix2 0 (hi d)) + bi (ix2 0 (hi d))) (mo (ix2 0 (lo d)) + bi (ix2 0 (lo d))) d := by
  unfold k0_pay1 modNorm
  pointwise

theorem pay2_apply (p : Fin 512) (n : Fin 3328) :
    k0_pay2 (F := Ideal) mo bi x g w (ix2 p n) = ∑ k : Fin 1024, k0_pay1 (F := Ideal) mo bi x g (ix2 p k) * w (ix2 k n) := by
  unfold k0_pay2
  generalize k0_pay1 (F := Ideal) mo bi x g = y
  pointwise

end Payloads

/-! ## The reference at an index -/

section Ref

open Cert.EvProjRefIdeal.Read

variable (x : Vec Ideal S8192x1024 .f32) (g : Vec Ideal S1x1024 .f32) (mo bi : Vec Ideal S1x3072 .f32) (w : Vec Ideal S1024x3328 .bf16)

theorem norm_ref (i : Fin 8192) (d : Fin 1024) :
    val_main_v21 (F := Ideal) x g mo bi (ix2 i d)
      = modNorm (fun k => x (ix2 i k)) (g (ix2 0 d)) (mo (ix2 0 (hi d)) + bi (ix2 0 (hi d))) (mo (ix2 0 (lo d)) + bi (ix2 0 (lo d))) d := by
  unfold modNorm val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v2 val_main_v1 val_main_v0 val_main_cst val_main_cst_0 val_main_cst_1 val_main_cst_2
  pointwise

theorem z_ref (i : Fin 8192) (n : Fin 3328) :
    val_main_v24 (F := Ideal) x g mo bi w (ix2 i n) = ∑ k : Fin 1024, val_main_v21 (F := Ideal) x g mo bi (ix2 i k) * w (ix2 k n) := by
  unfold val_main_v24 val_main_v23
  generalize val_main_v21 (F := Ideal) x g mo bi = y
  pointwise

end Ref

/-! ## The blocks and the arrays -/

variable (m : (ℓ : Loc nD τ sig) → Buf (Elt Ideal) ℓ) (c : Dev nD)

abbrev aX : Vec Ideal S8192x1024 .f32 := V m c main_arg0
abbrev aG : Vec Ideal S1x1024 .f32 := V m c main_arg1
abbrev aM : Vec Ideal S1x3072 .f32 := V m c main_arg2
abbrev aB : Vec Ideal S1x3072 .f32 := V m c main_arg3
abbrev aW : Vec Ideal S1024x3328 .bf16 := V m c main_arg4

theorem index_row : ∀ t : Fin grid0.N,
    (win0_0.index t 0 = t.val ∧ win0_0.index t 1 = 0) ∧ (win0_5.index t 0 = t.val ∧ win0_5.index t 1 = 0)
    ∧ (win0_6.index t 0 = t.val ∧ win0_6.index t 1 = 0) := by
  decide +kernel

theorem index_whole : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = 0 ∧ win0_4.index t 1 = 0) := by
  decide +kernel

theorem iblk0 (t : Fin cfg0.N) (p : Fin 512) (d : Fin 1024) :
    (iblk m c 0 t : Vec Ideal S512x1024 .f32) (ix2 p d) = aX m c (ix2 (row t.val p) d) := by
  have hi := (index_row t).1
  unfold iblk
  rw [View.read_apply]
  show V m c main_arg0 _ = V m c main_arg0 _
  congr 1
  funext a
  apply Fin.ext
  match a with
  | ⟨0, _⟩ => show win0_0.index t 0 * 512 + 1 * p.val = (512 * t.val + p.val) % 8192; have ht : t.val < 16 := t.isLt; rw [hi.1]; omega
  | ⟨1, _⟩ => show win0_0.index t 1 * 1024 + 1 * d.val = d.val; rw [hi.2]; omega

theorem iblk1 (t : Fin cfg0.N) : (iblk m c 1 t : Vec Ideal S1x1024 .f32) = aG m c := by
  have hi := (index_whole t).1
  funext y
  unfold iblk
  rw [View.read_apply]
  show V m c main_arg1 _ = V m c main_arg1 _
  congr 1
  funext a
  apply Fin.ext
  match a with
  | ⟨0, _⟩ => show win0_1.index t 0 * 1 + 1 * (y 0).val = (y 0).val; rw [hi.1]; omega
  | ⟨1, _⟩ => show win0_1.index t 1 * 1024 + 1 * (y 1).val = (y 1).val; rw [hi.2]; omega

theorem iblk2 (t : Fin cfg0.N) : (iblk m c 2 t : Vec Ideal S1x3072 .f32) = aM m c := by
  have hi := (index_whole t).2.1
  funext y
  unfold iblk
  rw [View.read_apply]
  show V m c main_arg2 _ = V m c main_arg2 _
  congr 1
  funext a
  apply Fin.ext
  match a with
  | ⟨0, _⟩ => show win0_2.index t 0 * 1 + 1 * (y 0).val = (y 0).val; rw [hi.1]; omega
  | ⟨1, _⟩ => show win0_2.index t 1 * 3072 + 1 * (y 1).val = (y 1).val; rw [hi.2]; omega

theorem iblk3 (t : Fin cfg0.N) : (iblk m c 3 t : Vec Ideal S1x3072 .f32) = aB m c := by
  have hi := (index_whole t).2.2.1
  funext y
  unfold iblk
  rw [View.read_apply]
  show V m c main_arg3 _ = V m c main_arg3 _
  congr 1
  funext a
  apply Fin.ext
  match a with
  | ⟨0, _⟩ => show win0_3.index t 0 * 1 + 1 * (y 0).val = (y 0).val; rw [hi.1]; omega
  | ⟨1, _⟩ => show win0_3.index t 1 * 3072 + 1 * (y 1).val = (y 1).val; rw [hi.2]; omega

theorem iblk4 (t : Fin cfg0.N) : (iblk m c 4 t : Vec Ideal S1024x3328 .bf16) = aW m c := by
  have hi := (index_whole t).2.2.2
  funext y
  unfold iblk
  rw [View.read_apply]
  show V m c main_arg4 _ = V m c main_arg4 _
  congr 1
  funext a
  apply Fin.ext
  match a with
  | ⟨0, _⟩ => show win0_4.index t 0 * 1024 + 1 * (y 0).val = (y 0).val; rw [hi.1]; omega
  | ⟨1, _⟩ => show win0_4.index t 1 * 3328 + 1 * (y 1).val = (y 1).val; rw [hi.2]; omega

section Out

variable (x0 : Vec Ideal S512x1024 .f32) (x1 : Vec Ideal S1x1024 .f32) (x2 x3 : Vec Ideal S1x3072 .f32) (x4 : Vec Ideal S1024x3328 .bf16)

theorem out5 : out0_5 x0 x1 x2 x3 x4 = k0_pay1 x2 x3 x0 x1 := by
  unfold out0_5
  rw [View.canon_cons_unit_lit _ _ _ (by decide), View.ld_unit_lit _ _ (by decide), View.ld_unit_lit _ _ (by decide), View.ld_unit_lit _ _ (by decide),
    View.ld_unit_lit _ _ (by decide)]

theorem out6 : out0_6 x0 x1 x2 x3 x4 = k0_pay2 x2 x3 x0 x1 x4 := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

end Out

abbrev rH : Vec Ideal S8192x1024 .bf16 := Cert.EvProjRefIdeal.Read.val_main_v22 (F := Ideal) (aX m c) (aG m c) (aM m c) (aB m c)
abbrev rZ : Vec Ideal S8192x3328 .f32 := Cert.EvProjRefIdeal.Read.val_main_v24 (F := Ideal) (aX m c) (aG m c) (aM m c) (aB m c) (aW m c)

theorem h_at (t : Fin cfg0.N) (p : Fin 512) (d : Fin 1024) :
    k0_pay1 (F := Ideal) (aM m c) (aB m c) (iblk m c 0 t) (aG m c) (ix2 p d) = Cert.EvProjRefIdeal.Read.val_main_v21 (F := Ideal) (aX m c) (aG m c) (aM m c) (aB m c) (ix2 (row t.val p) d) := by
  rw [pay1_apply, norm_ref]
  simp only [iblk0]

theorem z_at (t : Fin cfg0.N) (p : Fin 512) (n : Fin 3328) :
    k0_pay2 (F := Ideal) (aM m c) (aB m c) (iblk m c 0 t) (aG m c) (aW m c) (ix2 p n) = rZ m c (ix2 (row t.val p) n) := by
  unfold rZ
  rw [pay2_apply, z_ref]
  simp only [h_at]

theorem emb5 (t : Fin cfg0.N) (p : Fin 512) (d : Fin 1024) :
    ((cfg0.win 5).blk t).view.emb (ix2 p d : S512x1024.Idx) = (ix2 (row t.val p) d : S8192x1024.Idx) := by
  have hi := (index_row t).2.1
  funext a
  apply Fin.ext
  match a with
  | ⟨0, _⟩ => show win0_5.index t 0 * 512 + 1 * p.val = (512 * t.val + p.val) % 8192; have ht : t.val < 16 := t.isLt; rw [hi.1]; omega
  | ⟨1, _⟩ => show win0_5.index t 1 * 1024 + 1 * d.val = d.val; rw [hi.2]; omega

theorem arr5 : (dats m 0 c).arrAt 5 cfg0.N = rH m c := by
  refine (dats m 0 c).arrAt_eq_of_cover 5 (rH m c) (fun t hf => ?_) (fun y => ?_)
  · rw [Value.flushed5]
    funext y
    obtain ⟨p, d, rfl⟩ : ∃ (p : Fin 512) (d : Fin 1024), y = (ix2 p d : S512x1024.Idx) := ⟨_, _, eq_ix2 (n0 := 512) (n1 := 1024) y⟩
    rw [View.read_apply, emb5 t p d]
    change out0_5 _ _ _ _ _ (ix2 p d) = _
    rw [out5, iblk1, iblk2, iblk3]
    exact (h_at m c t p d).trans (cast_eq _ _).symm
  · have h0 : (y 0).val < 8192 := (y 0).isLt
    let t : Fin cfg0.N := ⟨(y 0).val / 512, by show _ < 16; omega⟩
    refine ⟨t, flush0_5 t, ?_⟩
    have e : ((cfg0.win 5).blk t).view.emb (ix2 (⟨(y 0).val % 512, by omega⟩ : Fin 512) (⟨(y 1).val, (y 1).isLt⟩ : Fin 1024) : S512x1024.Idx) = y := by
      rw [emb5]
      refine Shape.idx_ext₂ ?_ rfl
      show (512 * ((y 0).val / 512) + (y 0).val % 512) % 8192 = (y 0).val
      omega
    rw [← e]
    exact View.emb_mem_set _ _

theorem emb6 (t : Fin cfg0.N) (p : Fin 512) (d : Fin 3328) :
    ((cfg0.win 6).blk t).view.emb (ix2 p d : S512x3328.Idx) = (ix2 (row t.val p) d : S8192x3328.Idx) := by
  have hi := (index_row t).2.2
  funext a
  apply Fin.ext
  match a with
  | ⟨0, _⟩ => show win0_6.index t 0 * 512 + 1 * p.val = (512 * t.val + p.val) % 8192; have ht : t.val < 16 := t.isLt; rw [hi.1]; omega
  | ⟨1, _⟩ => show win0_6.index t 1 * 3328 + 1 * d.val = d.val; rw [hi.2]; omega

theorem arr6 : (dats m 0 c).arrAt 6 cfg0.N = rZ m c := by
  refine (dats m 0 c).arrAt_eq_of_cover 6 (rZ m c) (fun t hf => ?_) (fun y => ?_)
  · rw [Value.flushed6]
    funext y
    obtain ⟨p, d, rfl⟩ : ∃ (p : Fin 512) (d : Fin 3328), y = (ix2 p d : S512x3328.Idx) := ⟨_, _, eq_ix2 (n0 := 512) (n1 := 3328) y⟩
    rw [View.read_apply, emb6 t p d]
    change out0_6 _ _ _ _ _ (ix2 p d) = _
    rw [out6, iblk1, iblk2, iblk3, iblk4]
    exact (z_at m c t p d).trans (cast_eq _ _).symm
  · have h0 : (y 0).val < 8192 := (y 0).isLt
    let t : Fin cfg0.N := ⟨(y 0).val / 512, by show _ < 16; omega⟩
    refine ⟨t, flush0_6 t, ?_⟩
    have e : ((cfg0.win 6).blk t).view.emb (ix2 (⟨(y 0).val % 512, by omega⟩ : Fin 512) (⟨(y 1).val, (y 1).isLt⟩ : Fin 3328) : S512x3328.Idx) = y := by
      rw [emb6]
      refine Shape.idx_ext₂ ?_ rfl
      show (512 * ((y 0).val / 512) + (y 0).val % 512) % 8192 = (y 0).val
      omega
    rw [← e]
    exact View.emb_mem_set _ _

theorem value : Cert.algebraic_EvProjIdeal_EvProjRefIdeal := by
  intro m g m' g' _ hargs
  refine ⟨fun c => rH m c, fun c => rZ m c, ?_, ?_⟩
  · refine (θ_run _ _ _).mono (fun r h c => ?_) (Cert.EvProjIdeal.Value.run_blocks (F := Ideal) m g)
    obtain ⟨h0, h1, h3⟩ := h c
    exact ⟨h0.trans (arr5 m c), h1.trans (arr6 m c), h3⟩
  · refine (θ_run _ _ _).mono (fun r h c => ?_) (Cert.EvProjRefIdeal.Value.run (F := Ideal) m' g')
    obtain ⟨h0, h1, h3⟩ := h c
    obtain ⟨a0, a1, a2, a3, a4⟩ := hargs c
    refine ⟨?_, ?_, h3⟩
    · rw [h0, Cert.EvProjRefIdeal.Read.val_main_v22_eq, a0, a1, a2, a3]
    · rw [h1, Cert.EvProjRefIdeal.Read.val_main_v24_eq, a0, a1, a2, a3, a4]

/-! ## The frames -/

theorem frame_p : Cert.quiescent_EvProj := fun m ρ _ => Cert.EvProj.Gen.frame m ρ

theorem frame_pi : Cert.quiescent_EvProjIdeal := fun m ρ _ => Cert.EvProjIdeal.Gen.frame m ρ

theorem frame_ri : Cert.quiescent_EvProjRefIdeal := fun m ρ _ =>
  (θ_run Cert.EvProjRefIdeal.defs _ _).mono (fun r h => ⟨fun c => (h c).2.2,
      Idealize.ShloMosaic.sem_eq_zero_of_no_sems (by decide) r.2⟩)
    (Cert.EvProjRefIdeal.Value.run (F := Ideal) m ρ)

end Cert.EvProjIdeal.Proj

end
-- ==== Proof.DwUq.lean ====
/-
  The launch of Uq: a grid point adds the product of its tiles to an accumulator that the first of eight row tiles
  clears, and the last of them writes the block back; so the array is the product over all the rows, which is the
  gradient of a product's right factor.
-/
module

public import proofs.«01_k».proof.Defs
public import proofs.«01_k».proof.Proof.Tile
public import proofs.«01_k».proof.Proof.Gen.Uq.Frame
public import proofs.«01_k».proof.Proof.Gen.UqIdeal.Frame
public import proofs.«01_k».proof.Proof.Gen.UqIdeal.Value
public import proofs.«01_k».proof.Proof.Gen.UqRefIdeal.Run
public import proofs.«01_k».proof.Proof.Gen.UqRefIdeal.Read
public import Idealize.ShloMosaic.Lib.Quiescent

@[expose] public section

set_option maxRecDepth 16384

noncomputable section

namespace Cert.UqIdeal.Dw

open Idealize.ShloMosaic Idealize.ShloMosaic.TcCoe Idealize.SL.Sem Cert.UqIdeal.Gen
open Cert.KernelIdeal.Trip (row sum_rows)

/-- Column `d` of column tile `j`. -/
def col (j : ℕ) (d : Fin 1024) : Fin 1024 := ⟨(1024 * j + d.val) % 1024, Nat.mod_lt _ (by norm_num)⟩

/-! ## What a point leaves -/

section Cases

variable {F : FTy → Type} [FloatOps F]
variable (c : Dev nD) (i : grid0.Coords) (arg3 : Memref sig .tc .vmem S1024x384 .bf16) (harg3 : arg3.IsWhole)
  (arg4 : Memref sig .tc .vmem S1024x1024 .bf16) (harg4 : arg4.IsWhole) (arg5 : Memref sig .tc .vmem S384x1024 .bf16) (harg5 : arg5.IsWhole)
  (arg6 : Memref sig .tc .vmem S384x1024 .f32) (harg6 : arg6.IsWhole)
  (x0 : Vec F S1024x384 .bf16) (x1 : Vec F S1024x1024 .bf16) (xs : Vec F S384x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  have h3 : (View.readAt (Elt F) arg3.view (Rect.unit ![0, 0] S1024x384.size inb_S1024x384_S1024x384_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_A_0 kernelRun0_A
  dsimp only
  unfold kernelRun0_A.sl.v3 kernelRun0_A.sl.HS0_1
  refine (View.read_writes_full _ _ _ _ _).trans ?_
  unfold View.readCov
  have h6 := (View.readAt_full arg6.view (arg6.view.writes (Elt F) arg6.view.junk [⟨Rect.unit ![0, 0] S384x1024.size inb_S384x1024_S384x1024_0_0, k0_pay1 (F := F)⟩]) inb_S384x1024_S384x1024_0_0).trans (View.read_writes_full _ _ _ _ [])
  exact congr (congr (congrArg k0_pay2 h6) h3) h4

theorem sout_B (hc0 : ¬cond0_0 i) (hc1 : ¬cond0_1 i) :
    sout0_B_0 c i arg3 harg3 arg4 harg4 arg5 harg5 arg6 harg6 hc0 hc1 x0 x1 xs = k0_pay2 xs x0 x1 := by
  have h3 : (View.readAt (Elt F) arg3.view (Rect.unit ![0, 0] S1024x384.size inb_S1024x384_S1024x384_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_B_0 kernelRun0_B
  dsimp only
  have h6 := (View.readAt_full arg6.view (harg6.unread xs) inb_S384x1024_S384x1024_0_0).trans (harg6.read_unread xs)
  refine (View.read_writes_full _ _ _ _ _).trans ?_
  exact congr (congr (congrArg k0_pay2 h6) h3) h4

theorem sout_C (hc0 : ¬cond0_0 i) (hc1 : cond0_1 i) :
    sout0_C_0 c i arg3 harg3 arg4 harg4 arg5 harg5 arg6 harg6 hc0 hc1 x0 x1 xs = k0_pay2 xs x0 x1 := by
  have h3 : (View.readAt (Elt F) arg3.view (Rect.unit ![0, 0] S1024x384.size inb_S1024x384_S1024x384_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_C_0 kernelRun0_C
  dsimp only
  unfold kernelRun0_C.sl.HS0_1
  have h6 := (View.readAt_full arg6.view (harg6.unread xs) inb_S384x1024_S384x1024_0_0).trans (harg6.read_unread xs)
  refine (View.read_writes_full _ _ _ _ _).trans ?_
  exact congr (congr (congrArg k0_pay2 h6) h3) h4

theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  have h3 : (View.readAt (Elt F) arg3.view (Rect.unit ![0, 0] S1024x384.size inb_S1024x384_S1024x384_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold out0_C_2 kernelRun0_C
  dsimp only
  unfold kernelRun0_C.sl.v14 kernelRun0_C.sl.HS0_1
  have h6 := (View.readAt_full arg6.view (harg6.unread xs) inb_S384x1024_S384x1024_0_0).trans (harg6.read_unread xs)
  refine (View.read_writes_full _ _ _ _ _).trans ?_
  unfold View.readCov
  refine congrArg k0_pay3 ?_
  refine (View.readAt_full arg6.view _ inb_S384x1024_S384x1024_0_0).trans ?_
  refine (View.read_writes_full _ _ _ _ _).trans ?_
  exact congr (congr (congrArg k0_pay2 h6) h3) h4

end Cases

/-! ## The payloads at an index -/

theorem pay1_apply (p : Fin 384) (d : Fin 1024) : k0_pay1 (F := Ideal) (ix2 p d) = 0 := by
  unfold k0_pay1
  pointwise

theorem pay2_apply (a : Vec Ideal S384x1024 .f32) (x0 : Vec Ideal S1024x384 .bf16) (x1 : Vec Ideal S1024x1024 .bf16) (p : Fin 384) (d : Fin 1024) :
    k0_pay2 (F := Ideal) a x0 x1 (ix2 p d) = a (ix2 p d) + ∑ r : Fin 1024, x0 (ix2 r p) * x1 (ix2 r d) := by
  unfold k0_pay2
  pointwise

theorem pay3_apply (a : Vec Ideal S384x1024 .f32) (p : Fin 384) (d : Fin 1024) :
    k0_pay3 (F := Ideal) a (ix2 p d) = a (ix2 p d) := rfl

/-! ## The array after the run -/

variable (m : (ℓ : Loc nD τ sig) → Buf (Elt Ideal) ℓ) (c : Dev nD)

/-- The left factor. -/
abbrev aH : Vec Ideal S8192x384 .bf16 := V m c main_arg0
/-- The gradient of the product. -/
abbrev aG : Vec Ideal S8192x1024 .bf16 := V m c main_arg1

/-- The product over the rows. -/
def prod (H : Vec Ideal S8192x384 .bf16) (G : Vec Ideal S8192x1024 .bf16) : Vec Ideal S384x1024 .bf16 :=
  fun y => ∑ i : Fin 8192, H (ix2 i (y 0)) * G (ix2 i (y 1))

theorem index_eq : ∀ t : Fin grid0.N,
    (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by
  decide +kernel

theorem lt_N (t : Fin cfg0.N) : t.val < 8 := t.isLt

theorem iblk0 (t : Fin cfg0.N) (r : Fin 1024) (p : Fin 384) :
    (iblk m c 0 t : Vec Ideal S1024x384 .bf16) (ix2 r p) = aH m c (ix2 (row (t.val % 8) r) p) := by
  have hi := (index_eq t).1
  have ht := lt_N t
  unfold iblk
  rw [View.read_apply]
  show V m c main_arg0 _ = V m c main_arg0 _
  congr 1
  funext a
  apply Fin.ext
  match a with
  | ⟨0, _⟩ => show win0_0.index t 0 * 1024 + 1 * r.val = (1024 * (t.val % 8) + r.val) % 8192; rw [hi.1]; omega
  | ⟨1, _⟩ => show win0_0.index t 1 * 384 + 1 * p.val = p.val; rw [hi.2]; omega

theorem iblk1 (t : Fin cfg0.N) (r : Fin 1024) (d : Fin 1024) :
    (iblk m c 1 t : Vec Ideal S1024x1024 .bf16) (ix2 r d) = aG m c (ix2 (row (t.val % 8) r) (col (t.val / 8) d)) := by
  have hi := (index_eq t).2.1
  have ht := lt_N t
  unfold iblk
  rw [View.read_apply]
  show V m c main_arg1 _ = V m c main_arg1 _
  congr 1
  funext a
  apply Fin.ext
  match a with
  | ⟨0, _⟩ => show win0_1.index t 0 * 1024 + 1 * r.val = (1024 * (t.val % 8) + r.val) % 8192; rw [hi.1]; omega
  | ⟨1, _⟩ => show win0_1.index t 1 * 1024 + 1 * d.val = (1024 * (t.val / 8) + d.val) % 1024; rw [hi.2]; omega

/-- The accumulator after a point: the product over the row tiles so far. -/
theorem acc_eq (n : ℕ) (hn : n < cfg0.N) (p : Fin 384) (d : Fin 1024) :
    (outsAt0 m c n hn).2 (ix2 p d)
      = ∑ j ∈ Finset.range (n % 8 + 1), ∑ r : Fin 1024, aH m c (ix2 (row j r) p) * aG m c (ix2 (row j r) (col (n / 8) d)) := by
  induction n using Nat.strong_induction_on with
  | _ n ih =>
  by_cases h0 : n % 8 = 0
  · have h7 : ¬n % 8 = 7 := by omega
    have e := outsAt0_A m c ⟨n, hn⟩ h0 h7
    dsimp only at e
    rw [e]
    dsimp only
    rw [sout_A, pay2_apply, pay1_apply, zero_add, h0, Finset.sum_range_one]
    simp only [iblk0, iblk1, h0]
  · have i1 := ih (n - 1) (by omega) (Nat.lt_of_le_of_lt (Nat.sub_le _ _) hn)
    rw [show (n - 1) % 8 + 1 = n % 8 by omega, show (n - 1) / 8 = n / 8 by omega] at i1
    by_cases h7 : n % 8 = 7
    · have e := outsAt0_C m c ⟨n, hn⟩ h0 h7
      dsimp only at e
      rw [e]
      dsimp only
      rw [sout_C, pay2_apply, i1, Finset.sum_range_succ]
      simp only [iblk0, iblk1]
    · have e := outsAt0_B m c ⟨n, hn⟩ h0 h7
      dsimp only at e
      rw [e]
      dsimp only
      rw [sout_B, pay2_apply, i1, Finset.sum_range_succ]
      simp only [iblk0, iblk1]

/-- The block after the last row tile. -/
theorem block_eq (t : Fin cfg0.N) (h7 : t.val % 8 = 7) (p : Fin 384) (d : Fin 1024) :
    (outsAt0 m c t.val t.isLt).1 (ix2 p d) = ∑ i : Fin 8192, aH m c (ix2 i p) * aG m c (ix2 i (col (t.val / 8) d)) := by
  have h0 : ¬t.val % 8 = 0 := by omega
  have e : (outsAt0 m c t.val t.isLt).1 (ix2 p d) = (outsAt0 m c t.val t.isLt).2 (ix2 p d) := by
    rw [outsAt0_C m c t h0 h7]
    dsimp only
    rw [out_C, sout_C, pay3_apply]
  rw [e, acc_eq, h7]
  exact sum_rows fun i => aH m c (ix2 i p) * aG m c (ix2 i (col (t.val / 8) d))

theorem emb2 (t : Fin cfg0.N) (p : Fin 384) (d : Fin 1024) :
    ((cfg0.win 2).blk t).view.emb (ix2 p d : S384x1024.Idx) = (ix2 p (col (t.val / 8) d) : S384x1024.Idx) := by
  have hi := (index_eq t).2.2
  have ht := lt_N t
  funext a
  apply Fin.ext
  match a with
  | ⟨0, _⟩ => show win0_2.index t 0 * 384 + 1 * p.val = p.val; rw [hi.1]; omega
  | ⟨1, _⟩ => show win0_2.index t 1 * 1024 + 1 * d.val = (1024 * (t.val / 8) + d.val) % 1024; rw [hi.2]; omega

theorem arr2 : (dats m 0 c).arrAt 2 cfg0.N = prod (aH m c) (aG m c) := by
  refine (dats m 0 c).arrAt_eq_of_cover 2 (prod (aH m c) (aG m c)) (fun t hf => ?_) (fun y => ?_)
  · have h7 : t.val % 8 = 7 := (flush0_2 t).mp hf
    rw [Value.flushed2]
    funext y
    obtain ⟨p, d, rfl⟩ : ∃ (p : Fin 384) (d : Fin 1024), y = (ix2 p d : S384x1024.Idx) := ⟨_, _, eq_ix2 (n0 := 384) (n1 := 1024) y⟩
    rw [View.read_apply]
    change (outsAt0 m c t.val t.isLt).1 (ix2 p d) = _
    rw [block_eq m c t h7]
    rw [emb2 t p d]
    exact (cast_eq _ _).symm
  · have h1 : (y 1).val < 1024 := (y 1).isLt
    let t : Fin cfg0.N := ⟨8 * ((y 1).val / 1024) + 7, by show _ < 8; omega⟩
    refine ⟨t, (flush0_2 t).mpr (by show (8 * ((y 1).val / 1024) + 7) % 8 = 7; omega), ?_⟩
    have e : ((cfg0.win 2).blk t).view.emb (ix2 (⟨(y 0).val, (y 0).isLt⟩ : Fin 384) (⟨(y 1).val % 1024, by omega⟩ : Fin 1024) : S384x1024.Idx) = y := by
      rw [emb2]
      refine Shape.idx_ext₂ rfl ?_
      show (1024 * ((8 * ((y 1).val / 1024) + 7) / 8) + (y 1).val % 1024) % 1024 = (y 1).val
      omega
    rw [← e]
    exact View.emb_mem_set _ _

/-! ## The reference -/

theorem ref_eq (H : Vec Ideal S8192x384 .bf16) (G : Vec Ideal S8192x1024 .bf16) :
    Cert.UqRefIdeal.Read.val_main_v6 (F := Ideal) H G = prod H G := by
  funext y
  obtain ⟨p, d, rfl⟩ : ∃ (p : Fin 384) (d : Fin 1024), y = (ix2 p d : S384x1024.Idx) := ⟨_, _, eq_ix2 (n0 := 384) (n1 := 1024) y⟩
  have e : Cert.UqRefIdeal.Read.val_main_v6 (F := Ideal) H G (ix2 p d) = ∑ i : Fin 8192, G (ix2 i d) * H (ix2 i p) := by
    rw [Cert.UqRefIdeal.Read.val_main_v6_apply, Cert.UqRefIdeal.Read.val_main_v5_apply]
    unfold Cert.UqRefIdeal.Read.val_main_v4
    pointwise
    rfl
  rw [e]
  exact Finset.sum_congr rfl fun i _ => mul_comm _ _

theorem value : Cert.algebraic_UqIdeal_UqRefIdeal := by
  intro m g m' g' _ hargs
  refine ⟨fun c => prod (aH m c) (aG m c), ?_, ?_⟩
  · refine (θ_run _ _ _).mono (fun r h c => ?_) (Cert.UqIdeal.Value.run_blocks (F := Ideal) m g)
    obtain ⟨h0, h3⟩ := h c
    exact ⟨h0.trans (arr2 m c), h3⟩
  · refine (θ_run _ _ _).mono (fun r h c => ?_) (Cert.UqRefIdeal.Value.run (F := Ideal) m' g')
    obtain ⟨h0, h3⟩ := h c
    obtain ⟨a0, a1⟩ := hargs c
    refine ⟨?_, h3⟩
    rw [h0, Cert.UqRefIdeal.Read.val_main_v6_eq, a0, a1]
    exact ref_eq _ _

/-! ## The frames -/

theorem frame_p : Cert.quiescent_Uq := fun m ρ _ => Cert.Uq.Gen.frame m ρ

theorem frame_pi : Cert.quiescent_UqIdeal := fun m ρ _ => Cert.UqIdeal.Gen.frame m ρ

theorem frame_ri : Cert.quiescent_UqRefIdeal := fun m ρ _ =>
  (θ_run Cert.UqRefIdeal.defs _ _).mono (fun r h => ⟨fun c => (h c).2,
      Idealize.ShloMosaic.sem_eq_zero_of_no_sems (by decide) r.2⟩)
    (Cert.UqRefIdeal.Value.run (F := Ideal) m ρ)

end Cert.UqIdeal.Dw

end
-- ==== Proof.DwUkv.lean ====
/-
  The launch of Ukv: a grid point adds the product of its tiles to an accumulator that the first of eight row tiles
  clears, and the last of them writes the block back; so the array is the product over all the rows, which is the
  gradient of a product's right factor.
-/
module

public import proofs.«01_k».proof.Defs
public import proofs.«01_k».proof.Proof.Tile
public import proofs.«01_k».proof.Proof.Gen.Ukv.Frame
public import proofs.«01_k».proof.Proof.Gen.UkvIdeal.Frame
public import proofs.«01_k».proof.Proof.Gen.UkvIdeal.Value
public import proofs.«01_k».proof.Proof.Gen.UkvRefIdeal.Run
public import proofs.«01_k».proof.Proof.Gen.UkvRefIdeal.Read
public import Idealize.ShloMosaic.Lib.Quiescent

@[expose] public section

set_option maxRecDepth 16384

noncomputable section

namespace Cert.UkvIdeal.Dw

open Idealize.ShloMosaic Idealize.ShloMosaic.TcCoe Idealize.SL.Sem Cert.UkvIdeal.Gen
open Cert.KernelIdeal.Trip (row sum_rows)

/-- Column `d` of column tile `j`. -/
def col (j : ℕ) (d : Fin 1024) : Fin 1024 := ⟨(1024 * j + d.val) % 1024, Nat.mod_lt _ (by norm_num)⟩

/-! ## What a point leaves -/

section Cases

variable {F : FTy → Type} [FloatOps F]
variable (c : Dev nD) (i : grid0.Coords) (arg3 : Memref sig .tc .vmem S1024x256 .bf16) (harg3 : arg3.IsWhole)
  (arg4 : Memref sig .tc .vmem S1024x1024 .bf16) (harg4 : arg4.IsWhole) (arg5 : Memref sig .tc .vmem S256x1024 .bf16) (harg5 : arg5.IsWhole)
  (arg6 : Memref sig .tc .vmem S256x1024 .f32) (harg6 : arg6.IsWhole)
  (x0 : Vec F S1024x256 .bf16) (x1 : Vec F S1024x1024 .bf16) (xs : Vec F S256x1024 .f32)

theorem sout_A (hc0 : cond0_0 i) (hc1 : ¬cond0_1 i) :
    sout0_A_0 c i arg3 harg3 arg4 harg4 arg5 harg5 arg6 harg6 hc0 hc1 x0 x1 = k0_pay2 k0_pay1 x0 x1 := by
  have h3 : (View.readAt (Elt F) arg3.view (Rect.unit ![0, 0] S1024x256.size inb_S1024x256_S1024x256_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_A_0 kernelRun0_A
  dsimp only
  unfold kernelRun0_A.sl.v3 kernelRun0_A.sl.HS0_1
  refine (View.read_writes_full _ _ _ _ _).trans ?_
  unfold View.readCov
  have h6 := (View.readAt_full arg6.view (arg6.view.writes (Elt F) arg6.view.junk [⟨Rect.unit ![0, 0] S256x1024.size inb_S256x1024_S256x1024_0_0, k0_pay1 (F := F)⟩]) inb_S256x1024_S256x1024_0_0).trans (View.read_writes_full _ _ _ _ [])
  exact congr (congr (congrArg k0_pay2 h6) h3) h4

theorem sout_B (hc0 : ¬cond0_0 i) (hc1 : ¬cond0_1 i) :
    sout0_B_0 c i arg3 harg3 arg4 harg4 arg5 harg5 arg6 harg6 hc0 hc1 x0 x1 xs = k0_pay2 xs x0 x1 := by
  have h3 : (View.readAt (Elt F) arg3.view (Rect.unit ![0, 0] S1024x256.size inb_S1024x256_S1024x256_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_B_0 kernelRun0_B
  dsimp only
  have h6 := (View.readAt_full arg6.view (harg6.unread xs) inb_S256x1024_S256x1024_0_0).trans (harg6.read_unread xs)
  refine (View.read_writes_full _ _ _ _ _).trans ?_
  exact congr (congr (congrArg k0_pay2 h6) h3) h4

theorem sout_C (hc0 : ¬cond0_0 i) (hc1 : cond0_1 i) :
    sout0_C_0 c i arg3 harg3 arg4 harg4 arg5 harg5 arg6 harg6 hc0 hc1 x0 x1 xs = k0_pay2 xs x0 x1 := by
  have h3 : (View.readAt (Elt F) arg3.view (Rect.unit ![0, 0] S1024x256.size inb_S1024x256_S1024x256_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold sout0_C_0 kernelRun0_C
  dsimp only
  unfold kernelRun0_C.sl.HS0_1
  have h6 := (View.readAt_full arg6.view (harg6.unread xs) inb_S256x1024_S256x1024_0_0).trans (harg6.read_unread xs)
  refine (View.read_writes_full _ _ _ _ _).trans ?_
  exact congr (congr (congrArg k0_pay2 h6) h3) h4

theorem out_C (hc0 : ¬cond0_0 i) (hc1 : cond0_1 i) :
    out0_C_2 c i arg3 harg3 arg4 harg4 arg5 harg5 arg6 harg6 hc0 hc1 x0 x1 xs = k0_pay3 (k0_pay2 xs x0 x1) := by
  have h3 : (View.readAt (Elt F) arg3.view (Rect.unit ![0, 0] S1024x256.size inb_S1024x256_S1024x256_0_0).toLoadRect (harg3.unread x0)) = x0 :=
    (View.readAt_full _ _ _).trans (harg3.read_unread x0)
  have h4 : (View.readAt (Elt F) arg4.view (Rect.unit ![0, 0] S1024x1024.size inb_S1024x1024_S1024x1024_0_0).toLoadRect (harg4.unread x1)) = x1 :=
    (View.readAt_full _ _ _).trans (harg4.read_unread x1)
  unfold out0_C_2 kernelRun0_C
  dsimp only
  unfold kernelRun0_C.sl.v14 kernelRun0_C.sl.HS0_1
  have h6 := (View.readAt_full arg6.view (harg6.unread xs) inb_S256x1024_S256x1024_0_0).trans (harg6.read_unread xs)
  refine (View.read_writes_full _ _ _ _ _).trans ?_
  unfold View.readCov
  refine congrArg k0_pay3 ?_
  refine (View.readAt_full arg6.view _ inb_S256x1024_S256x1024_0_0).trans ?_
  refine (View.read_writes_full _ _ _ _ _).trans ?_
  exact congr (congr (congrArg k0_pay2 h6) h3) h4

end Cases

/-! ## The payloads at an index -/

theorem pay1_apply (p : Fin 256) (d : Fin 1024) : k0_pay1 (F := Ideal) (ix2 p d) = 0 := by
  unfold k0_pay1
  pointwise

theorem pay2_apply (a : Vec Ideal S256x1024 .f32) (x0 : Vec Ideal S1024x256 .bf16) (x1 : Vec Ideal S1024x1024 .bf16) (p : Fin 256) (d : Fin 1024) :
    k0_pay2 (F := Ideal) a x0 x1 (ix2 p d) = a (ix2 p d) + ∑ r : Fin 1024, x0 (ix2 r p) * x1 (ix2 r d) := by
  unfold k0_pay2
  pointwise

theorem pay3_apply (a : Vec Ideal S256x1024 .f32) (p : Fin 256) (d : Fin 1024) :
    k0_pay3 (F := Ideal) a (ix2 p d) = a (ix2 p d) := rfl

/-! ## The array after the run -/

variable (m : (ℓ : Loc nD τ sig) → Buf (Elt Ideal) ℓ) (c : Dev nD)

/-- The left factor. -/
abbrev aH : Vec Ideal S8192x256 .bf16 := V m c main_arg0
/-- The gradient of the product. -/
abbrev aG : Vec Ideal S8192x1024 .bf16 := V m c main_arg1

/-- The product over the rows. -/
def prod (H : Vec Ideal S8192x256 .bf16) (G : Vec Ideal S8192x1024 .bf16) : Vec Ideal S256x1024 .bf16 :=
  fun y => ∑ i : Fin 8192, H (ix2 i (y 0)) * G (ix2 i (y 1))

theorem index_eq : ∀ t : Fin grid0.N,
    (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) := by
  decide +kernel

theorem lt_N (t : Fin cfg0.N) : t.val < 8 := t.isLt

theorem iblk0 (t : Fin cfg0.N) (r : Fin 1024) (p : Fin 256) :
    (iblk m c 0 t : Vec Ideal S1024x256 .bf16) (ix2 r p) = aH m c (ix2 (row (t.val % 8) r) p) := by
  have hi := (index_eq t).1
  have ht := lt_N t
  unfold iblk
  rw [View.read_apply]
  show V m c main_arg0 _ = V m c main_arg0 _
  congr 1
  funext a
  apply Fin.ext
  match a with
  | ⟨0, _⟩ => show win0_0.index t 0 * 1024 + 1 * r.val = (1024 * (t.val % 8) + r.val) % 8192; rw [hi.1]; omega
  | ⟨1, _⟩ => show win0_0.index t 1 * 256 + 1 * p.val = p.val; rw [hi.2]; omega

theorem iblk1 (t : Fin cfg0.N) (r : Fin 1024) (d : Fin 1024) :
    (iblk m c 1 t : Vec Ideal S1024x1024 .bf16) (ix2 r d) = aG m c (ix2 (row (t.val % 8) r) (col (t.val / 8) d)) := by
  have hi := (index_eq t).2.1
  have ht := lt_N t
  unfold iblk
  rw [View.read_apply]
  show V m c main_arg1 _ = V m c main_arg1 _
  congr 1
  funext a
  apply Fin.ext
  match a with
  | ⟨0, _⟩ => show win0_1.index t 0 * 1024 + 1 * r.val = (1024 * (t.val % 8) + r.val) % 8192; rw [hi.1]; omega
  | ⟨1, _⟩ => show win0_1.index t 1 * 1024 + 1 * d.val = (1024 * (t.val / 8) + d.val) % 1024; rw [hi.2]; omega

/-- The accumulator after a point: the product over the row tiles so far. -/
theorem acc_eq (n : ℕ) (hn : n < cfg0.N) (p : Fin 256) (d : Fin 1024) :
    (outsAt0 m c n hn).2 (ix2 p d)
      = ∑ j ∈ Finset.range (n % 8 + 1), ∑ r : Fin 1024, aH m c (ix2 (row j r) p) * aG m c (ix2 (row j r) (col (n / 8) d)) := by
  induction n using Nat.strong_induction_on with
  | _ n ih =>
  by_cases h0 : n % 8 = 0
  · have h7 : ¬n % 8 = 7 := by omega
    have e := outsAt0_A m c ⟨n, hn⟩ h0 h7
    dsimp only at e
    rw [e]
    dsimp only
    rw [sout_A, pay2_apply, pay1_apply, zero_add, h0, Finset.sum_range_one]
    simp only [iblk0, iblk1, h0]
  · have i1 := ih (n - 1) (by omega) (Nat.lt_of_le_of_lt (Nat.sub_le _ _) hn)
    rw [show (n - 1) % 8 + 1 = n % 8 by omega, show (n - 1) / 8 = n / 8 by omega] at i1
    by_cases h7 : n % 8 = 7
    · have e := outsAt0_C m c ⟨n, hn⟩ h0 h7
      dsimp only at e
      rw [e]
      dsimp only
      rw [sout_C, pay2_apply, i1, Finset.sum_range_succ]
      simp only [iblk0, iblk1]
    · have e := outsAt0_B m c ⟨n, hn⟩ h0 h7
      dsimp only at e
      rw [e]
      dsimp only
      rw [sout_B, pay2_apply, i1, Finset.sum_range_succ]
      simp only [iblk0, iblk1]

/-- The block after the last row tile. -/
theorem block_eq (t : Fin cfg0.N) (h7 : t.val % 8 = 7) (p : Fin 256) (d : Fin 1024) :
    (outsAt0 m c t.val t.isLt).1 (ix2 p d) = ∑ i : Fin 8192, aH m c (ix2 i p) * aG m c (ix2 i (col (t.val / 8) d)) := by
  have h0 : ¬t.val % 8 = 0 := by omega
  have e : (outsAt0 m c t.val t.isLt).1 (ix2 p d) = (outsAt0 m c t.val t.isLt).2 (ix2 p d) := by
    rw [outsAt0_C m c t h0 h7]
    dsimp only
    rw [out_C, sout_C, pay3_apply]
  rw [e, acc_eq, h7]
  exact sum_rows fun i => aH m c (ix2 i p) * aG m c (ix2 i (col (t.val / 8) d))

theorem emb2 (t : Fin cfg0.N) (p : Fin 256) (d : Fin 1024) :
    ((cfg0.win 2).blk t).view.emb (ix2 p d : S256x1024.Idx) = (ix2 p (col (t.val / 8) d) : S256x1024.Idx) := by
  have hi := (index_eq t).2.2
  have ht := lt_N t
  funext a
  apply Fin.ext
  match a with
  | ⟨0, _⟩ => show win0_2.index t 0 * 256 + 1 * p.val = p.val; rw [hi.1]; omega
  | ⟨1, _⟩ => show win0_2.index t 1 * 1024 + 1 * d.val = (1024 * (t.val / 8) + d.val) % 1024; rw [hi.2]; omega

theorem arr2 : (dats m 0 c).arrAt 2 cfg0.N = prod (aH m c) (aG m c) := by
  refine (dats m 0 c).arrAt_eq_of_cover 2 (prod (aH m c) (aG m c)) (fun t hf => ?_) (fun y => ?_)
  · have h7 : t.val % 8 = 7 := (flush0_2 t).mp hf
    rw [Value.flushed2]
    funext y
    obtain ⟨p, d, rfl⟩ : ∃ (p : Fin 256) (d : Fin 1024), y = (ix2 p d : S256x1024.Idx) := ⟨_, _, eq_ix2 (n0 := 256) (n1 := 1024) y⟩
    rw [View.read_apply]
    change (outsAt0 m c t.val t.isLt).1 (ix2 p d) = _
    rw [block_eq m c t h7]
    rw [emb2 t p d]
    exact (cast_eq _ _).symm
  · have h1 : (y 1).val < 1024 := (y 1).isLt
    let t : Fin cfg0.N := ⟨8 * ((y 1).val / 1024) + 7, by show _ < 8; omega⟩
    refine ⟨t, (flush0_2 t).mpr (by show (8 * ((y 1).val / 1024) + 7) % 8 = 7; omega), ?_⟩
    have e : ((cfg0.win 2).blk t).view.emb (ix2 (⟨(y 0).val, (y 0).isLt⟩ : Fin 256) (⟨(y 1).val % 1024, by omega⟩ : Fin 1024) : S256x1024.Idx) = y := by
      rw [emb2]
      refine Shape.idx_ext₂ rfl ?_
      show (1024 * ((8 * ((y 1).val / 1024) + 7) / 8) + (y 1).val % 1024) % 1024 = (y 1).val
      omega
    rw [← e]
    exact View.emb_mem_set _ _

/-! ## The reference -/

theorem ref_eq (H : Vec Ideal S8192x256 .bf16) (G : Vec Ideal S8192x1024 .bf16) :
    Cert.UkvRefIdeal.Read.val_main_v6 (F := Ideal) H G = prod H G := by
  funext y
  obtain ⟨p, d, rfl⟩ : ∃ (p : Fin 256) (d : Fin 1024), y = (ix2 p d : S256x1024.Idx) := ⟨_, _, eq_ix2 (n0 := 256) (n1 := 1024) y⟩
  have e : Cert.UkvRefIdeal.Read.val_main_v6 (F := Ideal) H G (ix2 p d) = ∑ i : Fin 8192, G (ix2 i d) * H (ix2 i p) := by
    rw [Cert.UkvRefIdeal.Read.val_main_v6_apply, Cert.UkvRefIdeal.Read.val_main_v5_apply]
    unfold Cert.UkvRefIdeal.Read.val_main_v4
    pointwise
    rfl
  rw [e]
  exact Finset.sum_congr rfl fun i _ => mul_comm _ _

theorem value : Cert.algebraic_UkvIdeal_UkvRefIdeal := by
  intro m g m' g' _ hargs
  refine ⟨fun c => prod (aH m c) (aG m c), ?_, ?_⟩
  · refine (θ_run _ _ _).mono (fun r h c => ?_) (Cert.UkvIdeal.Value.run_blocks (F := Ideal) m g)
    obtain ⟨h0, h3⟩ := h c
    exact ⟨h0.trans (arr2 m c), h3⟩
  · refine (θ_run _ _ _).mono (fun r h c => ?_) (Cert.UkvRefIdeal.Value.run (F := Ideal) m' g')
    obtain ⟨h0, h3⟩ := h c
    obtain ⟨a0, a1⟩ := hargs c
    refine ⟨?_, h3⟩
    rw [h0, Cert.UkvRefIdeal.Read.val_main_v6_eq, a0, a1]
    exact ref_eq _ _

/-! ## The frames -/

theorem frame_p : Cert.quiescent_Ukv := fun m ρ _ => Cert.Ukv.Gen.frame m ρ

theorem frame_pi : Cert.quiescent_UkvIdeal := fun m ρ _ => Cert.UkvIdeal.Gen.frame m ρ

theorem frame_ri : Cert.quiescent_UkvRefIdeal := fun m ρ _ =>
  (θ_run Cert.UkvRefIdeal.defs _ _).mono (fun r h => ⟨fun c => (h c).2,
      Idealize.ShloMosaic.sem_eq_zero_of_no_sems (by decide) r.2⟩)
    (Cert.UkvRefIdeal.Value.run (F := Ideal) m ρ)

end Cert.UkvIdeal.Dw

end
-- ==== Proof.OdBwdRow.lean ====
/-
  The gradient through the odd layers' in-projection, row by row: what a grid point of OdBwd computes from its 256 rows, and the
  reference's stages, each at an index.
-/
module

public import proofs.«01_k».proof.Defs
public import proofs.«01_k».proof.Proof.OdProj
public import proofs.«01_k».proof.Proof.Gen.OdBwdIdeal.Skeleton
public import proofs.«01_k».proof.Proof.Gen.OdBwdRefIdeal.Read

@[expose] public section

set_option maxRecDepth 16384

noncomputable section

namespace Cert.OdBwdIdeal.Bwd

open Idealize.ShloMosaic Idealize.ShloMosaic.TcCoe Idealize.SL.Sem Cert.OdBwdIdeal.Gen
open Cert.Pre Cert.OdProjIdeal.Proj

/-- Column `d` of the last third of a row of 3072. -/
abbrev th (d : Fin 1024) : Fin 3072 := ⟨2048 + d.val, by omega⟩

theorem thirds (n : Fin 3072) : (∃ d, n = lo d) ∨ (∃ d, n = hi d) ∨ ∃ d, n = th d := by
  have h := n.isLt
  by_cases h1 : n.val < 1024
  · exact .inl ⟨⟨n.val, h1⟩, rfl⟩
  by_cases h2 : n.val < 2048
  · exact .inr (.inl ⟨⟨n.val - 1024, by omega⟩, Fin.ext (by show n.val = 1024 + (n.val - 1024); omega)⟩)
  · exact .inr (.inr ⟨⟨n.val - 2048, by omega⟩, Fin.ext (by show n.val = 2048 + (n.val - 2048); omega)⟩)

/-- The gradient of the gate's second factor: `a` times `u`'s gradient times the logistic's slope at `b`. -/
def slope (a b u : EReal) : EReal := a * u * (Ideal.logistic b * (Ideal.ofBits .f32 0x3F800000#32 - Ideal.logistic b))

/-- The mean square of a row, plus epsilon. -/
def ms (x : Fin 1024 → EReal) : EReal :=
  Ideal.div (∑ k : Fin 1024, x k * x k) (Ideal.ofBits .f32 0x44800000#32) + Ideal.ofBits .f32 0x358637BD#32

/-- A row's part of its gradient that comes through its mean square: `y` is the gradient of the row over its root mean square. -/
def mean (x y : Fin 1024 → EReal) : EReal :=
  ∑ _k : Fin 1, Ideal.div ((∑ k : Fin 1024, x k * y k) * (Ideal.ofBits .f32 0xBF000000#32 * Ideal.div (Ideal.rsqrt (ms x)) (ms x)))
    (Ideal.ofBits .f32 0x44800000#32)

/-- The gradient of a row from that of its normalisation. -/
def back (x y : Fin 1024 → EReal) (d : Fin 1024) : EReal :=
  y d * Ideal.rsqrt (ms x) + x d * mean x y + mean x y * x d

section Payloads

variable (bi : Vec Ideal S1x3072 .f32) (za zb du : Vec Ideal S256x1024 .f32) (dg : Vec Ideal S256x1024 .bf16) (w : Vec Ideal S1024x3072 .bf16)
  (g : Vec Ideal S1x1024 .f32) (mo bs : Vec Ideal S1x3072 .f32) (y x res : Vec Ideal S256x1024 .f32)

theorem pay12_apply (p : Fin 256) (d : Fin 1024) :
    k0_pay12 (F := Ideal) bi zb du (ix2 p d) = du (ix2 p d) * Ideal.logistic (zb (ix2 p d) + bi (ix2 0 (hi d))) := by
  unfold k0_pay12 k0_pay11
  pointwise

theorem pay13_apply (p : Fin 256) (d : Fin 1024) :
    k0_pay13 (F := Ideal) bi za zb du (ix2 p d)
      = slope (za (ix2 p d) + bi (ix2 0 (lo d))) (zb (ix2 p d) + bi (ix2 0 (hi d))) (du (ix2 p d)) := by
  unfold k0_pay13 k0_pay11 slope
  pointwise

theorem pay14_apply (d : Fin 1024) :
    k0_pay14 (F := Ideal) bi za zb du (ix2 0 d) = ∑ r : Fin 256, k0_pay13 (F := Ideal) bi za zb du (ix2 r d) := by
  unfold k0_pay14
  generalize k0_pay13 (F := Ideal) bi za zb du = a
  pointwise

theorem pay15_apply (d : Fin 1024) :
    k0_pay15 (F := Ideal) bi zb du (ix2 0 d) = ∑ r : Fin 256, k0_pay12 (F := Ideal) bi zb du (ix2 r d) := by
  unfold k0_pay15
  generalize k0_pay12 (F := Ideal) bi zb du = a
  pointwise

theorem pay16_lo (p : Fin 256) (d : Fin 1024) :
    k0_pay16 (F := Ideal) bi za zb du dg (ix2 p (lo d)) = k0_pay12 (F := Ideal) bi zb du (ix2 p d) := by
  unfold k0_pay16
  generalize k0_pay12 (F := Ideal) bi zb du = a
  generalize k0_pay13 (F := Ideal) bi za zb du = b
  pointwise

theorem pay16_hi (p : Fin 256) (d : Fin 1024) :
    k0_pay16 (F := Ideal) bi za zb du dg (ix2 p (hi d)) = k0_pay13 (F := Ideal) bi za zb du (ix2 p d) := by
  unfold k0_pay16
  generalize k0_pay12 (F := Ideal) bi zb du = a
  generalize k0_pay13 (F := Ideal) bi za zb du = b
  pointwise

theorem pay16_th (p : Fin 256) (d : Fin 1024) :
    k0_pay16 (F := Ideal) bi za zb du dg (ix2 p (th d)) = dg (ix2 p d) := by
  unfold k0_pay16
  generalize k0_pay12 (F := Ideal) bi zb du = a
  generalize k0_pay13 (F := Ideal) bi za zb du = b
  pointwise
  rw [dif_neg (by omega), dif_neg (by omega)]
  exact congrArg dg (congrArg (ix2 p) (Fin.ext (by show 2048 + d.val - 1024 - 1024 = d.val; omega)))

theorem pay17_apply (p : Fin 256) (d : Fin 1024) :
    k0_pay17 (F := Ideal) bi za zb du dg w (ix2 p d) = ∑ n : Fin 3072, k0_pay16 (F := Ideal) bi za zb du dg (ix2 p n) * w (ix2 d n) := by
  unfold k0_pay17
  generalize k0_pay16 (F := Ideal) bi za zb du dg = a
  pointwise

theorem pay21_apply (p : Fin 256) (d : Fin 1024) :
    k0_pay21 (F := Ideal) x (ix2 p d) = x (ix2 p d) * Ideal.rsqrt (ms fun k => x (ix2 p k)) := by
  unfold k0_pay21 k0_pay20 k0_pay19 ms
  pointwise

theorem pay22_apply (d : Fin 1024) : k0_pay22 (F := Ideal) y (ix2 0 d) = ∑ r : Fin 256, y (ix2 r d) := by
  unfold k0_pay22
  pointwise

theorem pay23_apply (d : Fin 1024) :
    k0_pay23 (F := Ideal) g y x (ix2 0 d) = ∑ r : Fin 256, k0_pay21 (F := Ideal) x (ix2 r d) * g (ix2 0 d) * y (ix2 r d) := by
  unfold k0_pay23
  generalize k0_pay21 (F := Ideal) x = a
  pointwise

theorem pay24_apply (p : Fin 256) (d : Fin 1024) :
    k0_pay24 (F := Ideal) bs y (k0_pay18 (F := Ideal) mo) (ix2 p d)
      = y (ix2 p d) * (Ideal.ofBits .f32 0x3F800000#32 + (mo (ix2 0 (hi d)) + bs (ix2 0 (hi d)))) := by
  unfold k0_pay24 k0_pay18
  pointwise

theorem pay25_apply (d : Fin 1024) :
    k0_pay25 (F := Ideal) bs y x (k0_pay18 (F := Ideal) mo) (ix2 0 d)
      = ∑ r : Fin 256, k0_pay21 (F := Ideal) x (ix2 r d) * k0_pay24 (F := Ideal) bs y (k0_pay18 (F := Ideal) mo) (ix2 r d) := by
  unfold k0_pay25
  generalize k0_pay21 (F := Ideal) x = a
  generalize k0_pay24 (F := Ideal) bs y (k0_pay18 (F := Ideal) mo) = b
  pointwise

theorem pay26_apply (p : Fin 256) (d : Fin 1024) :
    k0_pay26 (F := Ideal) g bs y x res (k0_pay18 (F := Ideal) mo) (ix2 p d)
      = back (fun k => x (ix2 p k)) (fun k => k0_pay24 (F := Ideal) bs y (k0_pay18 (F := Ideal) mo) (ix2 p k) * g (ix2 0 k)) d + res (ix2 p d) := by
  unfold k0_pay26 k0_pay20 k0_pay19
  generalize k0_pay24 (F := Ideal) bs y (k0_pay18 (F := Ideal) mo) = b
  unfold back mean ms
  pointwise

end Payloads

section Ref

open Cert.OdBwdRefIdeal.Read

variable (x0 : Vec Ideal S8192x3072 .f32) (x1 : Vec Ideal S1x3072 .f32) (x2 : Vec Ideal S8192x1024 .f32) (x3 : Vec Ideal S8192x1024 .bf16)
  (x4 x5 : Vec Ideal S8192x1024 .f32) (x6 : Vec Ideal S1024x3072 .bf16) (x7 : Vec Ideal S1x1024 .f32) (x8 x9 : Vec Ideal S1x3072 .f32)

theorem v10_apply (i : Fin 8192) (d : Fin 1024) :
    val_main_v10 (F := Ideal) x0 x1 (ix2 i d) = Ideal.logistic (x0 (ix2 i (hi d)) + x1 (ix2 0 (hi d))) := by
  unfold Ideal.logistic val_main_v10 val_main_v9 val_main_v8 val_main_v7 val_main_v6 val_main_v5 val_main_v3 val_main_v1 val_main_v0 val_main_cst val_main_cst_0
  rw [← word_one]
  pointwise

theorem v17_apply (i : Fin 8192) (d : Fin 1024) :
    val_main_v17 (F := Ideal) x0 x1 x2 (ix2 i d) = x2 (ix2 i d) * Ideal.logistic (x0 (ix2 i (hi d)) + x1 (ix2 0 (hi d))) := by
  rw [← v10_apply]
  rfl

theorem v18_apply (i : Fin 8192) (d : Fin 1024) :
    val_main_v18 (F := Ideal) x0 x1 x2 (ix2 i d)
      = slope (x0 (ix2 i (lo d)) + x1 (ix2 0 (lo d))) (x0 (ix2 i (hi d)) + x1 (ix2 0 (hi d))) (x2 (ix2 i d)) := by
  unfold slope
  rw [← v10_apply]
  unfold val_main_v18 val_main_v16 val_main_v13 val_main_v12 val_main_v11 val_main_v2 val_main_v1 val_main_v0 val_main_cst_1
  generalize val_main_v10 (F := Ideal) x0 x1 = a
  pointwise

theorem v19_lo (i : Fin 8192) (d : Fin 1024) :
    val_main_v19 (F := Ideal) x0 x1 x2 x3 (ix2 i (lo d)) = val_main_v17 (F := Ideal) x0 x1 x2 (ix2 i d) := by
  unfold val_main_v19
  generalize val_main_v17 (F := Ideal) x0 x1 x2 = a
  generalize val_main_v18 (F := Ideal) x0 x1 x2 = b
  pointwise

theorem v19_hi (i : Fin 8192) (d : Fin 1024) :
    val_main_v19 (F := Ideal) x0 x1 x2 x3 (ix2 i (hi d)) = val_main_v18 (F := Ideal) x0 x1 x2 (ix2 i d) := by
  unfold val_main_v19
  generalize val_main_v17 (F := Ideal) x0 x1 x2 = a
  generalize val_main_v18 (F := Ideal) x0 x1 x2 = b
  pointwise

theorem v19_th (i : Fin 8192) (d : Fin 1024) :
    val_main_v19 (F := Ideal) x0 x1 x2 x3 (ix2 i (th d)) = x3 (ix2 i d) := by
  unfold val_main_v19 val_main_v15
  generalize val_main_v17 (F := Ideal) x0 x1 x2 = a
  generalize val_main_v18 (F := Ideal) x0 x1 x2 = b
  pointwise
  rw [dif_neg (by omega), dif_neg (by omega)]
  exact congrArg x3 (congrArg (ix2 i) (Fin.ext (by show 2048 + d.val - 1024 - 1024 = d.val; omega)))

theorem v25_apply (i : Fin 8192) (d : Fin 1024) :
    val_main_v25 (F := Ideal) x0 x1 x2 x3 x6 (ix2 i d) = ∑ n : Fin 3072, val_main_v19 (F := Ideal) x0 x1 x2 x3 (ix2 i n) * x6 (ix2 d n) := by
  unfold val_main_v25 val_main_v23
  generalize val_main_v19 (F := Ideal) x0 x1 x2 x3 = a
  pointwise

theorem v42_apply (i : Fin 8192) (d : Fin 1024) :
    val_main_v42 (F := Ideal) x4 (ix2 i d) = x4 (ix2 i d) * Ideal.rsqrt (ms fun k => x4 (ix2 i k)) := by
  unfold ms val_main_v42 val_main_v41 val_main_v37 val_main_v36 val_main_v35 val_main_v34 val_main_v33 val_main_v32 val_main_v31 val_main_v30 val_main_cst_4 val_main_cst_5 val_main_cst_6
  pointwise

theorem v57_apply (i : Fin 8192) (d : Fin 1024) :
    val_main_v57 (F := Ideal) x0 x1 x2 x3 x6 x8 x9 (ix2 i d)
      = val_main_v25 (F := Ideal) x0 x1 x2 x3 x6 (ix2 i d) * (Ideal.ofBits .f32 0x3F800000#32 + (x8 (ix2 0 (hi d)) + x9 (ix2 0 (hi d)))) := by
  unfold val_main_v57 val_main_v56 val_main_v46 val_main_v45 val_main_v28 val_main_v26 val_main_cst_8
  generalize val_main_v25 (F := Ideal) x0 x1 x2 x3 x6 = a
  pointwise

theorem v79_apply (d : Fin 1024) :
    val_main_v79 (F := Ideal) x0 x1 x2 x3 (ix2 0 d) = ∑ i : Fin 8192, val_main_v19 (F := Ideal) x0 x1 x2 x3 (ix2 i (lo d)) := by
  unfold val_main_v79 val_main_v21 val_main_v20 val_main_cst_2
  generalize val_main_v19 (F := Ideal) x0 x1 x2 x3 = a
  pointwise

theorem v80_apply (d : Fin 1024) :
    val_main_v80 (F := Ideal) x0 x1 x2 x3 (ix2 0 d) = ∑ i : Fin 8192, val_main_v19 (F := Ideal) x0 x1 x2 x3 (ix2 i (hi d)) := by
  unfold val_main_v80 val_main_v21 val_main_v20 val_main_cst_2
  generalize val_main_v19 (F := Ideal) x0 x1 x2 x3 = a
  pointwise

theorem v60_apply (d : Fin 1024) :
    val_main_v60 (F := Ideal) x0 x1 x2 x3 x4 x6 x8 x9 (ix2 0 d)
      = ∑ i : Fin 8192, val_main_v42 (F := Ideal) x4 (ix2 i d) * val_main_v57 (F := Ideal) x0 x1 x2 x3 x6 x8 x9 (ix2 i d) := by
  unfold val_main_v60 val_main_v59 val_main_v58 val_main_cst_11
  generalize val_main_v42 (F := Ideal) x4 = a
  generalize val_main_v57 (F := Ideal) x0 x1 x2 x3 x6 x8 x9 = b
  pointwise

theorem v83_apply (d : Fin 1024) :
    val_main_v83 (F := Ideal) x0 x1 x2 x3 x4 x6 x7 (ix2 0 d)
      = ∑ i : Fin 8192, val_main_v42 (F := Ideal) x4 (ix2 i d) * x7 (ix2 0 d) * val_main_v25 (F := Ideal) x0 x1 x2 x3 x6 (ix2 i d) := by
  unfold val_main_v83 val_main_v78 val_main_v55 val_main_v54 val_main_v53 val_main_v44 val_main_v43 val_main_cst_10
  generalize val_main_v52 (F := Ideal) x0 x1 x2 x3 x6 = c
  generalize val_main_v42 (F := Ideal) x4 = a
  generalize val_main_v25 (F := Ideal) x0 x1 x2 x3 x6 = b
  pointwise

theorem v82_apply (d : Fin 1024) :
    val_main_v82 (F := Ideal) x0 x1 x2 x3 x4 x6 x7 (ix2 0 d) = ∑ i : Fin 8192, val_main_v25 (F := Ideal) x0 x1 x2 x3 x6 (ix2 i d) := by
  unfold val_main_v82 val_main_v78 val_main_v52 val_main_v51 val_main_cst_9
  generalize val_main_v55 (F := Ideal) x0 x1 x2 x3 x4 x6 x7 = c
  generalize val_main_v25 (F := Ideal) x0 x1 x2 x3 x6 = b
  pointwise

theorem v86_apply (i : Fin 8192) (d : Fin 1024) :
    val_main_v86 (F := Ideal) x0 x1 x2 x3 x4 x5 x6 x7 x8 x9 (ix2 i d)
      = back (fun k => x4 (ix2 i k)) (fun k => val_main_v57 (F := Ideal) x0 x1 x2 x3 x6 x8 x9 (ix2 i k) * x7 (ix2 0 k)) d + x5 (ix2 i d) := by
  unfold val_main_v86 val_main_v76 val_main_v75 val_main_v74 val_main_v73 val_main_v72 val_main_v71 val_main_v70 val_main_v69 val_main_v68 val_main_v67 val_main_v66 val_main_v65 val_main_v64 val_main_v63 val_main_v62 val_main_v61 val_main_v40 val_main_v39 val_main_v38 val_main_v37 val_main_v36 val_main_v35 val_main_v34 val_main_v33 val_main_v32 val_main_v31 val_main_v30 val_main_cst_4 val_main_cst_5 val_main_cst_6 val_main_cst_7 val_main_cst_12 val_main_cst_13 val_main_cst_14
  generalize val_main_v57 (F := Ideal) x0 x1 x2 x3 x6 x8 x9 = b
  unfold back mean ms
  pointwise

end Ref

end Cert.OdBwdIdeal.Bwd

end
-- ==== Proof.OdBwdPoint.lean ====
/-
  OdBwd's grid points, output by output: what a point leaves is the payload of its input blocks, and for a column sum the
  tile's sum added to nothing at the first point and to the last point's sum at a later one.
-/
module

public import proofs.«01_k».proof.Defs
public import proofs.«01_k».proof.Proof.OdBwdRow
public import proofs.«01_k».proof.Proof.Gen.OdBwdIdeal.Frame

@[expose] public section

set_option maxRecDepth 16384

noncomputable section

namespace Cert.OdBwdIdeal.Bwd

open Idealize.ShloMosaic Idealize.ShloMosaic.TcCoe Idealize.SL.Sem Cert.OdBwdIdeal.Gen

section Points

variable {F : FTy → Type} [FloatOps F]
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .bf16) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x3072 .f32) (harg7 : arg7.IsWhole)
  (arg8 : Memref sig .tc .vmem S1x1024 .f32) (harg8 : arg8.IsWhole)
  (arg9 : Memref sig .tc .vmem S1x3072 .f32) (harg9 : arg9.IsWhole)
  (arg10 : Memref sig .tc .vmem S1x3072 .f32) (harg10 : arg10.IsWhole)
  (arg11 : Memref sig .tc .vmem S1024x3072 .bf16) (harg11 : arg11.IsWhole)
  (arg12 : Memref sig .tc .vmem S256x3072 .bf16) (harg12 : arg12.IsWhole)
  (arg13 : Memref sig .tc .vmem S256x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg18 : Memref sig .tc .vmem S1x1024 .f32) (harg18 : arg18.IsWhole)
  (x0 : Vec F S256x1024 .f32) (x1 : Vec F S256x1024 .f32) (x2 : Vec F S256x1024 .f32) (x3 : Vec F S256x1024 .bf16) (x4 : Vec F S256x1024 .f32) (x5 : Vec F S256x1024 .f32) (x6 : Vec F S1x3072 .f32) (x7 : Vec F S1x1024 .f32) (x8 : Vec F S1x3072 .f32) (x9 : Vec F S1x3072 .f32) (x10 : Vec F S1024x3072 .bf16)
  (xo13 : Vec F S1x1024 .f32) (xo14 : Vec F S1x1024 .f32) (xo15 : Vec F S1x1024 .f32) (xo16 : Vec F S1x1024 .f32) (xo17 : Vec F S1x1024 .f32)

theorem rd1 : View.readAt (Elt F) arg1.view (Rect.unit ![0, 0] S256x1024.size inb_S256x1024_S256x1024_0_0).toLoadRect (harg1.unread x0) = x0 :=
  (View.readAt_full _ _ _).trans (harg1.read_unread x0)

theorem rd2 : View.readAt (Elt F) arg2.view (Rect.unit ![0, 0] S256x1024.size inb_S256x1024_S256x1024_0_0).toLoadRect (harg2.unread x1) = x1 :=
  (View.readAt_full _ _ _).trans (harg2.read_unread x1)

theorem rd3 : View.readAt (Elt F) arg3.view (Rect.unit ![0, 0] S256x1024.size inb_S256x1024_S256x1024_0_0).toLoadRect (harg3.unread x2) = x2 :=
  (View.readAt_full _ _ _).trans (harg3.read_unread x2)

theorem rd4 : View.readAt (Elt F) arg4.view (Rect.unit ![0, 0] S256x1024.size inb_S256x1024_S256x1024_0_0).toLoadRect (harg4.unread x3) = x3 :=
  (View.readAt_full _ _ _).trans (harg4.read_unread x3)

theorem rd5 : View.readAt (Elt F) arg5.view (Rect.unit ![0, 0] S256x1024.size inb_S256x1024_S256x1024_0_0).toLoadRect (harg5.unread x4) = x4 :=
  (View.readAt_full _ _ _).trans (harg5.read_unread x4)

theorem rd6 : View.readAt (Elt F) arg6.view (Rect.unit ![0, 0] S256x1024.size inb_S256x1024_S256x1024_0_0).toLoadRect (harg6.unread x5) = x5 :=
  (View.readAt_full _ _ _).trans (harg6.read_unread x5)

theorem rd7 : View.readAt (Elt F) arg7.view (Rect.unit ![0, 0] S1x3072.size inb_S1x3072_S1x3072_0_0).toLoadRect (harg7.unread x6) = x6 :=
  (View.readAt_full _ _ _).trans (harg7.read_unread x6)

theorem rd8 : View.readAt (Elt F) arg8.view (Rect.unit ![0, 0] S1x1024.size inb_S1x1024_S1x1024_0_0).toLoadRect (harg8.unread x7) = x7 :=
  (View.readAt_full _ _ _).trans (harg8.read_unread x7)

theorem rd9 : View.readAt (Elt F) arg9.view (Rect.unit ![0, 0] S1x3072.size inb_S1x3072_S1x3072_0_0).toLoadRect (harg9.unread x8) = x8 :=
  (View.readAt_full _ _ _).trans (harg9.read_unread x8)

theorem rd10 : View.readAt (Elt F) arg10.view (Rect.unit ![0, 0] S1x3072.size inb_S1x3072_S1x3072_0_0).toLoadRect (harg10.unread x9) = x9 :=
  (View.readAt_full _ _ _).trans (harg10.read_unread x9)

theorem rd11 : View.readAt (Elt F) arg11.view (Rect.unit ![0, 0] S1024x3072.size inb_S1024x3072_S1024x3072_0_0).toLoadRect (harg11.unread x10) = x10 :=
  (View.readAt_full _ _ _).trans (harg11.read_unread x10)

theorem lit1 : View.readAt (Elt F) arg1.view (Rect.unit ![0, 0] ![256, 1024] inb_S256x1024_S256x1024_0_0).toLoadRect (harg1.unread x0) = x0 :=
  rd1 arg1 harg1 x0

theorem lit2 : View.readAt (Elt F) arg2.view (Rect.unit ![0, 0] ![256, 1024] inb_S256x1024_S256x1024_0_0).toLoadRect (harg2.unread x1) = x1 :=
  rd2 arg2 harg2 x1

theorem lit3 : View.readAt (Elt F) arg3.view (Rect.unit ![0, 0] ![256, 1024] inb_S256x1024_S256x1024_0_0).toLoadRect (harg3.unread x2) = x2 :=
  rd3 arg3 harg3 x2

theorem lit4 : View.readAt (Elt F) arg4.view (Rect.unit ![0, 0] ![256, 1024] inb_S256x1024_S256x1024_0_0).toLoadRect (harg4.unread x3) = x3 :=
  rd4 arg4 harg4 x3

theorem lit5 : View.readAt (Elt F) arg5.view (Rect.unit ![0, 0] ![256, 1024] inb_S256x1024_S256x1024_0_0).toLoadRect (harg5.unread x4) = x4 :=
  rd5 arg5 harg5 x4

theorem lit6 : View.readAt (Elt F) arg6.view (Rect.unit ![0, 0] ![256, 1024] inb_S256x1024_S256x1024_0_0).toLoadRect (harg6.unread x5) = x5 :=
  rd6 arg6 harg6 x5

theorem lit7 : View.readAt (Elt F) arg7.view (Rect.unit ![0, 0] ![1, 3072] inb_S1x3072_S1x3072_0_0).toLoadRect (harg7.unread x6) = x6 :=
  rd7 arg7 harg7 x6

theorem lit8 : View.readAt (Elt F) arg8.view (Rect.unit ![0, 0] ![1, 1024] inb_S1x1024_S1x1024_0_0).toLoadRect (harg8.unread x7) = x7 :=
  rd8 arg8 harg8 x7

theorem lit9 : View.readAt (Elt F) arg9.view (Rect.unit ![0, 0] ![1, 3072] inb_S1x3072_S1x3072_0_0).toLoadRect (harg9.unread x8) = x8 :=
  rd9 arg9 harg9 x8

theorem lit10 : View.readAt (Elt F) arg10.view (Rect.unit ![0, 0] ![1, 3072] inb_S1x3072_S1x3072_0_0).toLoadRect (harg10.unread x9) = x9 :=
  rd10 arg10 harg10 x9

theorem lit11 : View.readAt (Elt F) arg11.view (Rect.unit ![0, 0] ![1024, 3072] inb_S1024x3072_S1024x3072_0_0).toLoadRect (harg11.unread x10) = x10 :=
  rd11 arg11 harg11 x10

theorem rd14 : View.readAt (Elt F) arg14.view (Rect.unit ![0, 0] ![1, 1024] inb_S1x1024_S1x1024_0_0).toLoadRect (harg14.unread xo13) = xo13 :=
  (View.readAt_full _ _ _).trans (harg14.read_unread xo13)

theorem zero14 : kernelRun0_A.sl.v85 (F := F) c arg14 = k0_pay1 := by
  unfold kernelRun0_A.sl.v85 View.readCov
  exact (View.readAt_full _ _ _).trans (View.read_writes_full _ _ _ _ [])

theorem rd15 : View.readAt (Elt F) arg15.view (Rect.unit ![0, 0] ![1, 1024] inb_S1x1024_S1x1024_0_0).toLoadRect (harg15.unread xo14) = xo14 :=
  (View.readAt_full _ _ _).trans (harg15.read_unread xo14)

theorem zero15 : kernelRun0_A.sl.v89 (F := F) c arg15 = k0_pay2 := by
  unfold kernelRun0_A.sl.v89 View.readCov
  exact (View.readAt_full _ _ _).trans (View.read_writes_full _ _ _ _ [])

theorem rd16 : View.readAt (Elt F) arg16.view (Rect.unit ![0, 0] ![1, 1024] inb_S1x1024_S1x1024_0_0).toLoadRect (harg16.unread xo15) = xo15 :=
  (View.readAt_full _ _ _).trans (harg16.read_unread xo15)

theorem zero16 : kernelRun0_A.sl.v93 (F := F) c arg16 = k0_pay3 := by
  unfold kernelRun0_A.sl.v93 View.readCov
  exact (View.readAt_full _ _ _).trans (View.read_writes_full _ _ _ _ [])

theorem rd17 : View.readAt (Elt F) arg17.view (Rect.unit ![0, 0] ![1, 1024] inb_S1x1024_S1x1024_0_0).toLoadRect (harg17.unread xo16) = xo16 :=
  (View.readAt_full _ _ _).trans (harg17.read_unread xo16)

theorem zero17 : kernelRun0_A.sl.v97 (F := F) c arg17 = k0_pay4 := by
  unfold kernelRun0_A.sl.v97 View.readCov
  exact (View.readAt_full _ _ _).trans (View.read_writes_full _ _ _ _ [])

theorem rd18 : View.readAt (Elt F) arg18.view (Rect.unit ![0, 0] ![1, 1024] inb_S1x1024_S1x1024_0_0).toLoadRect (harg18.unread xo17) = xo17 :=
  (View.readAt_full _ _ _).trans (harg18.read_unread xo17)

theorem zero18 : kernelRun0_A.sl.v101 (F := F) c arg18 = k0_pay5 := by
  unfold kernelRun0_A.sl.v101 View.readCov
  exact (View.readAt_full _ _ _).trans (View.read_writes_full _ _ _ _ [])

theorem out_A_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay16 x6 x0 x1 x2 x3 := by
  unfold out0_A_11 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, lit1, lit2, lit3, lit4, lit5, lit6, lit7, lit8, lit9, lit10, lit11]

theorem out_A_12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay26 x7 x9 (k0_pay17 x6 x0 x1 x2 x3 x10) x4 x5 (k0_pay18 x8) := by
  unfold out0_A_12 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, lit1, lit2, lit3, lit4, lit5, lit6, lit7, lit8, lit9, lit10, lit11]

theorem out_A_13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay6 (k0_pay15 x6 x1 x2) k0_pay1 := by
  unfold out0_A_13 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, zero14, lit1, lit2, lit3, lit4, lit5, lit6, lit7, lit8, lit9, lit10, lit11]

theorem out_A_14 (hc0 : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay7 (k0_pay14 x6 x0 x1 x2) k0_pay2 := by
  unfold out0_A_14 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, zero15, lit1, lit2, lit3, lit4, lit5, lit6, lit7, lit8, lit9, lit10, lit11]

theorem out_A_15 (hc0 : cond0_0 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay8 (k0_pay25 x9 (k0_pay17 x6 x0 x1 x2 x3 x10) x4 (k0_pay18 x8)) k0_pay3 := by
  unfold out0_A_15 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, zero16, lit1, lit2, lit3, lit4, lit5, lit6, lit7, lit8, lit9, lit10, lit11]

theorem out_A_16 (hc0 : cond0_0 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay9 (k0_pay23 x7 (k0_pay17 x6 x0 x1 x2 x3 x10) x4) k0_pay4 := by
  unfold out0_A_16 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, zero17, lit1, lit2, lit3, lit4, lit5, lit6, lit7, lit8, lit9, lit10, lit11]

theorem out_A_17 (hc0 : cond0_0 i) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10
    = k0_pay10 (k0_pay22 (k0_pay17 x6 x0 x1 x2 x3 x10)) k0_pay5 := by
  unfold out0_A_17 kernelRun0_A
  dsimp only
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [rd1, rd2, rd3, rd4, rd5, rd6, rd7, rd8, rd9, rd10, rd11, zero18, lit1, lit2, lit3, lit4, lit5, lit6, lit7, lit8, lit9, lit10, lit11]

theorem out_B_11 (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay16 x6 x0 x1 x2 x3 := by
  unfold out0_B_11 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, lit1, lit2, lit3, lit4, lit5, lit6, lit7, lit8, lit9, lit10, lit11]

theorem out_B_12 (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay26 x7 x9 (k0_pay17 x6 x0 x1 x2 x3 x10) x4 x5 (k0_pay18 x8) := by
  unfold out0_B_12 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, lit1, lit2, lit3, lit4, lit5, lit6, lit7, lit8, lit9, lit10, lit11]

theorem out_B_13 (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay6 (k0_pay15 x6 x1 x2) xo13 := by
  unfold out0_B_13 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, rd14, lit1, lit2, lit3, lit4, lit5, lit6, lit7, lit8, lit9, lit10, lit11]

theorem out_B_14 (hc0 : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay7 (k0_pay14 x6 x0 x1 x2) xo14 := by
  unfold out0_B_14 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, rd15, lit1, lit2, lit3, lit4, lit5, lit6, lit7, lit8, lit9, lit10, lit11]

theorem out_B_15 (hc0 : ¬cond0_0 i) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay8 (k0_pay25 x9 (k0_pay17 x6 x0 x1 x2 x3 x10) x4 (k0_pay18 x8)) xo15 := by
  unfold out0_B_15 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, rd16, lit1, lit2, lit3, lit4, lit5, lit6, lit7, lit8, lit9, lit10, lit11]

theorem out_B_16 (hc0 : ¬cond0_0 i) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay9 (k0_pay23 x7 (k0_pay17 x6 x0 x1 x2 x3 x10) x4) xo16 := by
  unfold out0_B_16 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, rd17, lit1, lit2, lit3, lit4, lit5, lit6, lit7, lit8, lit9, lit10, lit11]

theorem out_B_17 (hc0 : ¬cond0_0 i) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo13 xo14 xo15 xo16 xo17
    = k0_pay10 (k0_pay22 (k0_pay17 x6 x0 x1 x2 x3 x10)) xo17 := by
  unfold out0_B_17 kernelRun0_B
  dsimp only
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12]
  simp only [rd1, rd2, rd3, rd4, rd5, rd6, rd7, rd8, rd9, rd10, rd11, rd18, lit1, lit2, lit3, lit4, lit5, lit6, lit7, lit8, lit9, lit10, lit11]

end Points

end Cert.OdBwdIdeal.Bwd

end
-- ==== Proof.OdBwd.lean ====
/-
  The launch of OdBwd: a grid point takes 256 rows through the gate's gradient, the product with the weight transposed and the
  modulated normalisation's gradient, and adds its rows' column sums to the sums so far; so each array is the reference's.
-/
module

public import proofs.«01_k».proof.Defs
public import proofs.«01_k».proof.Proof.OdBwdPoint
public import proofs.«01_k».proof.Proof.Gen.OdBwd.Frame
public import proofs.«01_k».proof.Proof.Gen.OdBwdIdeal.Value
public import proofs.«01_k».proof.Proof.Gen.OdBwdRefIdeal.Run
public import Idealize.ShloMosaic.Lib.Quiescent

@[expose] public section

set_option maxRecDepth 16384

noncomputable section

namespace Cert.OdBwdIdeal.Bwd

open Idealize.ShloMosaic Idealize.ShloMosaic.TcCoe Idealize.SL.Sem Cert.OdBwdIdeal.Gen
open Cert.Pre

/-- Row `p` of the row tile `t`, of 256 rows. -/
def rowOf (t : ℕ) (p : Fin 256) : Fin 8192 := ⟨(256 * t + p.val) % 8192, Nat.mod_lt _ (by norm_num)⟩

theorem sum_tiles {M : Type*} [AddCommMonoid M] (f : Fin 8192 → M) :
    ∑ j ∈ Finset.range 32, ∑ r : Fin 256, f (rowOf j r) = ∑ i : Fin 8192, f i := by
  rw [Finset.sum_range, ← Fintype.sum_prod_type' (fun (j : Fin 32) (r : Fin 256) => f (rowOf j.val r))]
  refine Fintype.sum_equiv (finProdFinEquiv (m := 32) (n := 256)) _ _ fun p => ?_
  refine congrArg f (Fin.ext ?_)
  show (256 * p.1.val + p.2.val) % 8192 = p.2.val + 256 * p.1.val
  have h1 := p.1.isLt
  have h2 := p.2.isLt
  omega

section Sums

variable (s a : Vec Ideal S1x1024 .f32)

theorem pay1_apply (d : Fin 1024) : k0_pay1 (F := Ideal) (ix2 0 d) = 0 := by
  unfold k0_pay1
  pointwise

theorem pay6_apply (d : Fin 1024) : k0_pay6 (F := Ideal) s a (ix2 0 d) = a (ix2 0 d) + s (ix2 0 d) := by
  unfold k0_pay6
  pointwise

theorem pay2_apply (d : Fin 1024) : k0_pay2 (F := Ideal) (ix2 0 d) = 0 := by
  unfold k0_pay2
  pointwise

theorem pay7_apply (d : Fin 1024) : k0_pay7 (F := Ideal) s a (ix2 0 d) = a (ix2 0 d) + s (ix2 0 d) := by
  unfold k0_pay7
  pointwise

theorem pay3_apply (d : Fin 1024) : k0_pay3 (F := Ideal) (ix2 0 d) = 0 := by
  unfold k0_pay3
  pointwise

theorem pay8_apply (d : Fin 1024) : k0_pay8 (F := Ideal) s a (ix2 0 d) = a (ix2 0 d) + s (ix2 0 d) := by
  unfold k0_pay8
  pointwise

theorem pay4_apply (d : Fin 1024) : k0_pay4 (F := Ideal) (ix2 0 d) = 0 := by
  unfold k0_pay4
  pointwise

theorem pay9_apply (d : Fin 1024) : k0_pay9 (F := Ideal) s a (ix2 0 d) = a (ix2 0 d) + s (ix2 0 d) := by
  unfold k0_pay9
  pointwise

theorem pay5_apply (d : Fin 1024) : k0_pay5 (F := Ideal) (ix2 0 d) = 0 := by
  unfold k0_pay5
  pointwise

theorem pay10_apply (d : Fin 1024) : k0_pay10 (F := Ideal) s a (ix2 0 d) = a (ix2 0 d) + s (ix2 0 d) := by
  unfold k0_pay10
  pointwise

end Sums

variable (m : (ℓ : Loc nD τ sig) → Buf (Elt Ideal) ℓ) (c : Dev nD)

abbrev aZ : Vec Ideal S8192x3072 .f32 := V m c main_arg0
abbrev aBi : Vec Ideal S1x3072 .f32 := V m c main_arg1
abbrev aDU : Vec Ideal S8192x1024 .f32 := V m c main_arg2
abbrev aDG : Vec Ideal S8192x1024 .bf16 := V m c main_arg3
abbrev aX : Vec Ideal S8192x1024 .f32 := V m c main_arg4
abbrev aR : Vec Ideal S8192x1024 .f32 := V m c main_arg5
abbrev aW : Vec Ideal S1024x3072 .bf16 := V m c main_arg6
abbrev aG : Vec Ideal S1x1024 .f32 := V m c main_arg7
abbrev aM : Vec Ideal S1x3072 .f32 := V m c main_arg8
abbrev aB : Vec Ideal S1x3072 .f32 := V m c main_arg9

/-! ## The blocks -/

theorem index_row : ∀ t : Fin grid0.N,
    (win0_0.index t 0 = t.val ∧ win0_0.index t 1 = 0)
    ∧ (win0_1.index t 0 = t.val ∧ win0_1.index t 1 = 1)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_11.index t 0 = t.val ∧ win0_11.index t 1 = 0)
    ∧ (win0_12.index t 0 = t.val ∧ win0_12.index t 1 = 0) := by
  decide +kernel

theorem index_whole : ∀ t : Fin grid0.N,
    (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = 0 ∧ win0_16.index t 1 = 0)
    ∧ (win0_17.index t 0 = 0 ∧ win0_17.index t 1 = 0) := by
  decide +kernel

theorem iblk0 (t : Fin cfg0.N) (p : Fin 256) (d : Fin 1024) :
    (iblk m c 0 t : Vec Ideal S256x1024 .f32) (ix2 p d) = aZ m c (ix2 (rowOf t.val p) (lo d)) := by
  have hi := (index_row t).1
  unfold iblk
  rw [View.read_apply]
  show V m c main_arg0 _ = V m c main_arg0 _
  congr 1
  funext a
  apply Fin.ext
  match a with
  | ⟨0, _⟩ => show win0_0.index t 0 * 256 + 1 * p.val = (256 * t.val + p.val) % 8192; have ht : t.val < 32 := t.isLt; rw [hi.1]; omega
  | ⟨1, _⟩ => show win0_0.index t 1 * 1024 + 1 * d.val = d.val; rw [hi.2]; omega

theorem iblk1 (t : Fin cfg0.N) (p : Fin 256) (d : Fin 1024) :
    (iblk m c 1 t : Vec Ideal S256x1024 .f32) (ix2 p d) = aZ m c (ix2 (rowOf t.val p) (hi d)) := by
  have hi := (index_row t).2.1
  unfold iblk
  rw [View.read_apply]
  show V m c main_arg0 _ = V m c main_arg0 _
  congr 1
  funext a
  apply Fin.ext
  match a with
  | ⟨0, _⟩ => show win0_1.index t 0 * 256 + 1 * p.val = (256 * t.val + p.val) % 8192; have ht : t.val < 32 := t.isLt; rw [hi.1]; omega
  | ⟨1, _⟩ => show win0_1.index t 1 * 1024 + 1 * d.val = 1024 + d.val; rw [hi.2]; omega

theorem iblk2 (t : Fin cfg0.N) (p : Fin 256) (d : Fin 1024) :
    (iblk m c 2 t : Vec Ideal S256x1024 .f32) (ix2 p d) = aDU m c (ix2 (rowOf t.val p) d) := by
  have hi := (index_row t).2.2.1
  unfold iblk
  rw [View.read_apply]
  show V m c main_arg2 _ = V m c main_arg2 _
  congr 1
  funext a
  apply Fin.ext
  match a with
  | ⟨0, _⟩ => show win0_2.index t 0 * 256 + 1 * p.val = (256 * t.val + p.val) % 8192; have ht : t.val < 32 := t.isLt; rw [hi.1]; omega
  | ⟨1, _⟩ => show win0_2.index t 1 * 1024 + 1 * d.val = d.val; rw [hi.2]; omega

theorem iblk3 (t : Fin cfg0.N) (p : Fin 256) (d : Fin 1024) :
    (iblk m c 3 t : Vec Ideal S256x1024 .bf16) (ix2 p d) = aDG m c (ix2 (rowOf t.val p) d) := by
  have hi := (index_row t).2.2.2.1
  unfold iblk
  rw [View.read_apply]
  show V m c main_arg3 _ = V m c main_arg3 _
  congr 1
  funext a
  apply Fin.ext
  match a with
  | ⟨0, _⟩ => show win0_3.index t 0 * 256 + 1 * p.val = (256 * t.val + p.val) % 8192; have ht : t.val < 32 := t.isLt; rw [hi.1]; omega
  | ⟨1, _⟩ => show win0_3.index t 1 * 1024 + 1 * d.val = d.val; rw [hi.2]; omega

theorem iblk4 (t : Fin cfg0.N) (p : Fin 256) (d : Fin 1024) :
    (iblk m c 4 t : Vec Ideal S256x1024 .f32) (ix2 p d) = aX m c (ix2 (rowOf t.val p) d) := by
  have hi := (index_row t).2.2.2.2.1
  unfold iblk
  rw [View.read_apply]
  show V m c main_arg4 _ = V m c main_arg4 _
  congr 1
  funext a
  apply Fin.ext
  match a with
  | ⟨0, _⟩ => show win0_4.index t 0 * 256 + 1 * p.val = (256 * t.val + p.val) % 8192; have ht : t.val < 32 := t.isLt; rw [hi.1]; omega
  | ⟨1, _⟩ => show win0_4.index t 1 * 1024 + 1 * d.val = d.val; rw [hi.2]; omega

theorem iblk5 (t : Fin cfg0.N) (p : Fin 256) (d : Fin 1024) :
    (iblk m c 5 t : Vec Ideal S256x1024 .f32) (ix2 p d) = aR m c (ix2 (rowOf t.val p) d) := by
  have hi := (index_row t).2.2.2.2.2.1
  unfold iblk
  rw [View.read_apply]
  show V m c main_arg5 _ = V m c main_arg5 _
  congr 1
  funext a
  apply Fin.ext
  match a with
  | ⟨0, _⟩ => show win0_5.index t 0 * 256 + 1 * p.val = (256 * t.val + p.val) % 8192; have ht : t.val < 32 := t.isLt; rw [hi.1]; omega
  | ⟨1, _⟩ => show win0_5.index t 1 * 1024 + 1 * d.val = d.val; rw [hi.2]; omega

theorem iblk6 (t : Fin cfg0.N) : (iblk m c 6 t : Vec Ideal S1x3072 .f32) = aBi m c := by
  have hi := (index_whole t).1
  funext y
  unfold iblk
  rw [View.read_apply]
  show V m c main_arg1 _ = V m c main_arg1 _
  congr 1
  funext a
  apply Fin.ext
  match a with
  | ⟨0, _⟩ => show win0_6.index t 0 * 1 + 1 * (y 0).val = (y 0).val; rw [hi.1]; omega
  | ⟨1, _⟩ => show win0_6.index t 1 * 3072 + 1 * (y 1).val = (y 1).val; rw [hi.2]; omega

theorem iblk7 (t : Fin cfg0.N) : (iblk m c 7 t : Vec Ideal S1x1024 .f32) = aG m c := by
  have hi := (index_whole t).2.1
  funext y
  unfold iblk
  rw [View.read_apply]
  show V m c main_arg7 _ = V m c main_arg7 _
  congr 1
  funext a
  apply Fin.ext
  match a with
  | ⟨0, _⟩ => show win0_7.index t 0 * 1 + 1 * (y 0).val = (y 0).val; rw [hi.1]; omega
  | ⟨1, _⟩ => show win0_7.index t 1 * 1024 + 1 * (y 1).val = (y 1).val; rw [hi.2]; omega

theorem iblk8 (t : Fin cfg0.N) : (iblk m c 8 t : Vec Ideal S1x3072 .f32) = aM m c := by
  have hi := (index_whole t).2.2.1
  funext y
  unfold iblk
  rw [View.read_apply]
  show V m c main_arg8 _ = V m c main_arg8 _
  congr 1
  funext a
  apply Fin.ext
  match a with
  | ⟨0, _⟩ => show win0_8.index t 0 * 1 + 1 * (y 0).val = (y 0).val; rw [hi.1]; omega
  | ⟨1, _⟩ => show win0_8.index t 1 * 3072 + 1 * (y 1).val = (y 1).val; rw [hi.2]; omega

theorem iblk9 (t : Fin cfg0.N) : (iblk m c 9 t : Vec Ideal S1x3072 .f32) = aB m c := by
  have hi := (index_whole t).2.2.2.1
  funext y
  unfold iblk
  rw [View.read_apply]
  show V m c main_arg9 _ = V m c main_arg9 _
  congr 1
  funext a
  apply Fin.ext
  match a with
  | ⟨0, _⟩ => show win0_9.index t 0 * 1 + 1 * (y 0).val = (y 0).val; rw [hi.1]; omega
  | ⟨1, _⟩ => show win0_9.index t 1 * 3072 + 1 * (y 1).val = (y 1).val; rw [hi.2]; omega

theorem iblk10 (t : Fin cfg0.N) : (iblk m c 10 t : Vec Ideal S1024x3072 .bf16) = aW m c := by
  have hi := (index_whole t).2.2.2.2.1
  funext y
  unfold iblk
  rw [View.read_apply]
  show V m c main_arg6 _ = V m c main_arg6 _
  congr 1
  funext a
  apply Fin.ext
  match a with
  | ⟨0, _⟩ => show win0_10.index t 0 * 1024 + 1 * (y 0).val = (y 0).val; rw [hi.1]; omega
  | ⟨1, _⟩ => show win0_10.index t 1 * 3072 + 1 * (y 1).val = (y 1).val; rw [hi.2]; omega

/-! ## The reference's arrays -/

abbrev rDZ : Vec Ideal S8192x3072 .bf16 := Cert.OdBwdRefIdeal.Read.val_main_v85 (F := Ideal) (aZ m c) (aBi m c) (aDU m c) (aDG m c)
abbrev rDX : Vec Ideal S8192x1024 .f32 := Cert.OdBwdRefIdeal.Read.val_main_v86 (F := Ideal) (aZ m c) (aBi m c) (aDU m c) (aDG m c) (aX m c) (aR m c) (aW m c) (aG m c) (aM m c) (aB m c)
abbrev rA : Vec Ideal S1x1024 .f32 := Cert.OdBwdRefIdeal.Read.val_main_v79 (F := Ideal) (aZ m c) (aBi m c) (aDU m c) (aDG m c)
abbrev rB : Vec Ideal S1x1024 .f32 := Cert.OdBwdRefIdeal.Read.val_main_v80 (F := Ideal) (aZ m c) (aBi m c) (aDU m c) (aDG m c)
abbrev rG : Vec Ideal S1x1024 .f32 := Cert.OdBwdRefIdeal.Read.val_main_v60 (F := Ideal) (aZ m c) (aBi m c) (aDU m c) (aDG m c) (aX m c) (aW m c) (aM m c) (aB m c)
abbrev rS : Vec Ideal S1x1024 .f32 := Cert.OdBwdRefIdeal.Read.val_main_v83 (F := Ideal) (aZ m c) (aBi m c) (aDU m c) (aDG m c) (aX m c) (aW m c) (aG m c)
abbrev rH : Vec Ideal S1x1024 .f32 := Cert.OdBwdRefIdeal.Read.val_main_v82 (F := Ideal) (aZ m c) (aBi m c) (aDU m c) (aDG m c) (aX m c) (aW m c) (aG m c)

/-- The reference's gradient of `z`, before its rounding. -/
abbrev fZ : Vec Ideal S8192x3072 .f32 := Cert.OdBwdRefIdeal.Read.val_main_v19 (F := Ideal) (aZ m c) (aBi m c) (aDU m c) (aDG m c)

/-- The reference's gradient of the normalised rows. -/
abbrev fH : Vec Ideal S8192x1024 .f32 := Cert.OdBwdRefIdeal.Read.val_main_v25 (F := Ideal) (aZ m c) (aBi m c) (aDU m c) (aDG m c) (aW m c)

/-- The reference's rows over their root mean square. -/
abbrev fN : Vec Ideal S8192x1024 .f32 := Cert.OdBwdRefIdeal.Read.val_main_v42 (F := Ideal) (aX m c)

/-- The reference's gradient of the rows before their modulation. -/
abbrev fM : Vec Ideal S8192x1024 .f32 := Cert.OdBwdRefIdeal.Read.val_main_v57 (F := Ideal) (aZ m c) (aBi m c) (aDU m c) (aDG m c) (aW m c) (aM m c) (aB m c)

/-! ## A tile is its rows -/

/-- The tile's gradient of the normalised rows. -/
abbrev kH (t : Fin cfg0.N) : Vec Ideal S256x1024 .f32 :=
  k0_pay17 (F := Ideal) (aBi m c) (iblk m c 0 t) (iblk m c 1 t) (iblk m c 2 t) (iblk m c 3 t) (aW m c)

theorem a_at (t : Fin cfg0.N) (p : Fin 256) (d : Fin 1024) :
    k0_pay12 (F := Ideal) (aBi m c) (iblk m c 1 t) (iblk m c 2 t) (ix2 p d) = fZ m c (ix2 (rowOf t.val p) (lo d)) := by
  unfold fZ
  rw [pay12_apply, v19_lo, v17_apply, iblk1, iblk2]

theorem b_at (t : Fin cfg0.N) (p : Fin 256) (d : Fin 1024) :
    k0_pay13 (F := Ideal) (aBi m c) (iblk m c 0 t) (iblk m c 1 t) (iblk m c 2 t) (ix2 p d) = fZ m c (ix2 (rowOf t.val p) (hi d)) := by
  unfold fZ
  rw [pay13_apply, v19_hi, v18_apply, iblk0, iblk1, iblk2]

theorem z_at (t : Fin cfg0.N) (p : Fin 256) (n : Fin 3072) :
    k0_pay16 (F := Ideal) (aBi m c) (iblk m c 0 t) (iblk m c 1 t) (iblk m c 2 t) (iblk m c 3 t) (ix2 p n) = fZ m c (ix2 (rowOf t.val p) n) := by
  rcases thirds n with ⟨d, rfl⟩ | ⟨d, rfl⟩ | ⟨d, rfl⟩
  · rw [pay16_lo, a_at]
  · rw [pay16_hi, b_at]
  · unfold fZ
    rw [pay16_th, v19_th, iblk3]

theorem h_at (t : Fin cfg0.N) (p : Fin 256) (d : Fin 1024) : kH m c t (ix2 p d) = fH m c (ix2 (rowOf t.val p) d) := by
  unfold kH fH
  rw [pay17_apply, v25_apply]
  simp only [z_at]

theorem n_at (t : Fin cfg0.N) (p : Fin 256) (d : Fin 1024) :
    k0_pay21 (F := Ideal) (iblk m c 4 t) (ix2 p d) = fN m c (ix2 (rowOf t.val p) d) := by
  unfold fN
  rw [pay21_apply, v42_apply]
  simp only [iblk4]

theorem m_at (t : Fin cfg0.N) (p : Fin 256) (d : Fin 1024) :
    k0_pay24 (F := Ideal) (aB m c) (kH m c t) (k0_pay18 (F := Ideal) (aM m c)) (ix2 p d) = fM m c (ix2 (rowOf t.val p) d) := by
  unfold fM
  rw [pay24_apply, v57_apply, h_at]

theorem x_at (t : Fin cfg0.N) (p : Fin 256) (d : Fin 1024) :
    k0_pay26 (F := Ideal) (aG m c) (aB m c) (kH m c t) (iblk m c 4 t) (iblk m c 5 t) (k0_pay18 (F := Ideal) (aM m c)) (ix2 p d)
      = rDX m c (ix2 (rowOf t.val p) d) := by
  unfold rDX
  rw [pay26_apply, v86_apply, iblk5]
  simp only [m_at, iblk4]

/-! ## What a point leaves -/

theorem outs_z (t : Fin cfg0.N) : (outsAt0 m c t.val t.isLt).1
    = k0_pay16 (F := Ideal) (aBi m c) (iblk m c 0 t) (iblk m c 1 t) (iblk m c 2 t) (iblk m c 3 t) := by
  by_cases h0 : t.val % 32 = 0
  · rw [outsAt0_A m c t h0]
    dsimp only
    rw [out_A_11, iblk6]
  · rw [outsAt0_B m c t h0]
    dsimp only
    rw [out_B_11, iblk6]

theorem outs_x (t : Fin cfg0.N) : (outsAt0 m c t.val t.isLt).2.1
    = k0_pay26 (F := Ideal) (aG m c) (aB m c) (kH m c t) (iblk m c 4 t) (iblk m c 5 t) (k0_pay18 (F := Ideal) (aM m c)) := by
  by_cases h0 : t.val % 32 = 0
  · rw [outsAt0_A m c t h0]
    dsimp only
    rw [out_A_12, iblk6, iblk7, iblk8, iblk9, iblk10]
  · rw [outsAt0_B m c t h0]
    dsimp only
    rw [out_B_12, iblk6, iblk7, iblk8, iblk9, iblk10]

/-- Row `i`'s term of the column sum `rA`. -/
def t13 (d : Fin 1024) (i : Fin 8192) : EReal := fZ m c (ix2 i (lo d))

theorem sum13 (t : Fin cfg0.N) (d : Fin 1024) : k0_pay15 (F := Ideal) (aBi m c) (iblk m c 1 t) (iblk m c 2 t) (ix2 0 d) = ∑ r : Fin 256, t13 m c d (rowOf t.val r) := by
  unfold t13
  rw [pay15_apply]
  simp only [a_at]

/-- The column sum after a point: over the row tiles so far. -/
theorem acc13 (n : ℕ) (hn : n < cfg0.N) (d : Fin 1024) :
    (outsAt0 m c n hn).2.2.1 (ix2 0 d) = ∑ j ∈ Finset.range (n + 1), ∑ r : Fin 256, t13 m c d (rowOf j r) := by
  induction n with
  | zero =>
    have e := outsAt0_A m c ⟨0, hn⟩ (Nat.zero_mod _)
    dsimp only at e
    rw [e]
    dsimp only
    rw [out_A_13, iblk6, pay6_apply, pay1_apply, zero_add, Finset.sum_range_one]
    exact sum13 m c ⟨0, hn⟩ d
  | succ n ih =>
    have h32 : n + 1 < 32 := hn
    have e := outsAt0_B m c ⟨n + 1, hn⟩ (by show ¬(n + 1) % 32 = 0; omega)
    dsimp only at e
    rw [e]
    dsimp only
    rw [out_B_13, iblk6, pay6_apply, Finset.sum_range_succ]
    exact congr (congrArg HAdd.hAdd (ih (Nat.lt_of_succ_lt hn))) (sum13 m c ⟨n + 1, hn⟩ d)

/-- Row `i`'s term of the column sum `rB`. -/
def t14 (d : Fin 1024) (i : Fin 8192) : EReal := fZ m c (ix2 i (hi d))

theorem sum14 (t : Fin cfg0.N) (d : Fin 1024) : k0_pay14 (F := Ideal) (aBi m c) (iblk m c 0 t) (iblk m c 1 t) (iblk m c 2 t) (ix2 0 d) = ∑ r : Fin 256, t14 m c d (rowOf t.val r) := by
  unfold t14
  rw [pay14_apply]
  simp only [b_at]

/-- The column sum after a point: over the row tiles so far. -/
theorem acc14 (n : ℕ) (hn : n < cfg0.N) (d : Fin 1024) :
    (outsAt0 m c n hn).2.2.2.1 (ix2 0 d) = ∑ j ∈ Finset.range (n + 1), ∑ r : Fin 256, t14 m c d (rowOf j r) := by
  induction n with
  | zero =>
    have e := outsAt0_A m c ⟨0, hn⟩ (Nat.zero_mod _)
    dsimp only at e
    rw [e]
    dsimp only
    rw [out_A_14, iblk6, pay7_apply, pay2_apply, zero_add, Finset.sum_range_one]
    exact sum14 m c ⟨0, hn⟩ d
  | succ n ih =>
    have h32 : n + 1 < 32 := hn
    have e := outsAt0_B m c ⟨n + 1, hn⟩ (by show ¬(n + 1) % 32 = 0; omega)
    dsimp only at e
    rw [e]
    dsimp only
    rw [out_B_14, iblk6, pay7_apply, Finset.sum_range_succ]
    exact congr (congrArg HAdd.hAdd (ih (Nat.lt_of_succ_lt hn))) (sum14 m c ⟨n + 1, hn⟩ d)

/-- Row `i`'s term of the column sum `rG`. -/
def t15 (d : Fin 1024) (i : Fin 8192) : EReal := fN m c (ix2 i d) * fM m c (ix2 i d)

theorem sum15 (t : Fin cfg0.N) (d : Fin 1024) : k0_pay25 (F := Ideal) (aB m c) (kH m c t) (iblk m c 4 t) (k0_pay18 (F := Ideal) (aM m c)) (ix2 0 d) = ∑ r : Fin 256, t15 m c d (rowOf t.val r) := by
  unfold t15
  rw [pay25_apply]
  simp only [n_at, m_at]

/-- The column sum after a point: over the row tiles so far. -/
theorem acc15 (n : ℕ) (hn : n < cfg0.N) (d : Fin 1024) :
    (outsAt0 m c n hn).2.2.2.2.1 (ix2 0 d) = ∑ j ∈ Finset.range (n + 1), ∑ r : Fin 256, t15 m c d (rowOf j r) := by
  induction n with
  | zero =>
    have e := outsAt0_A m c ⟨0, hn⟩ (Nat.zero_mod _)
    dsimp only at e
    rw [e]
    dsimp only
    rw [out_A_15, iblk6, iblk8, iblk9, iblk10, pay8_apply, pay3_apply, zero_add, Finset.sum_range_one]
    exact sum15 m c ⟨0, hn⟩ d
  | succ n ih =>
    have h32 : n + 1 < 32 := hn
    have e := outsAt0_B m c ⟨n + 1, hn⟩ (by show ¬(n + 1) % 32 = 0; omega)
    dsimp only at e
    rw [e]
    dsimp only
    rw [out_B_15, iblk6, iblk8, iblk9, iblk10, pay8_apply, Finset.sum_range_succ]
    exact congr (congrArg HAdd.hAdd (ih (Nat.lt_of_succ_lt hn))) (sum15 m c ⟨n + 1, hn⟩ d)

/-- Row `i`'s term of the column sum `rS`. -/
def t16 (d : Fin 1024) (i : Fin 8192) : EReal := fN m c (ix2 i d) * aG m c (ix2 0 d) * fH m c (ix2 i d)

theorem sum16 (t : Fin cfg0.N) (d : Fin 1024) : k0_pay23 (F := Ideal) (aG m c) (kH m c t) (iblk m c 4 t) (ix2 0 d) = ∑ r : Fin 256, t16 m c d (rowOf t.val r) := by
  unfold t16
  rw [pay23_apply]
  simp only [n_at, h_at]

/-- The column sum after a point: over the row tiles so far. -/
theorem acc16 (n : ℕ) (hn : n < cfg0.N) (d : Fin 1024) :
    (outsAt0 m c n hn).2.2.2.2.2.1 (ix2 0 d) = ∑ j ∈ Finset.range (n + 1), ∑ r : Fin 256, t16 m c d (rowOf j r) := by
  induction n with
  | zero =>
    have e := outsAt0_A m c ⟨0, hn⟩ (Nat.zero_mod _)
    dsimp only at e
    rw [e]
    dsimp only
    rw [out_A_16, iblk6, iblk7, iblk10, pay9_apply, pay4_apply, zero_add, Finset.sum_range_one]
    exact sum16 m c ⟨0, hn⟩ d
  | succ n ih =>
    have h32 : n + 1 < 32 := hn
    have e := outsAt0_B m c ⟨n + 1, hn⟩ (by show ¬(n + 1) % 32 = 0; omega)
    dsimp only at e
    rw [e]
    dsimp only
    rw [out_B_16, iblk6, iblk7, iblk10, pay9_apply, Finset.sum_range_succ]
    exact congr (congrArg HAdd.hAdd (ih (Nat.lt_of_succ_lt hn))) (sum16 m c ⟨n + 1, hn⟩ d)

/-- Row `i`'s term of the column sum `rH`. -/
def t17 (d : Fin 1024) (i : Fin 8192) : EReal := fH m c (ix2 i d)

theorem sum17 (t : Fin cfg0.N) (d : Fin 1024) : k0_pay22 (F := Ideal) (kH m c t) (ix2 0 d) = ∑ r : Fin 256, t17 m c d (rowOf t.val r) := by
  unfold t17
  rw [pay22_apply]
  simp only [h_at]

/-- The column sum after a point: over the row tiles so far. -/
theorem acc17 (n : ℕ) (hn : n < cfg0.N) (d : Fin 1024) :
    (outsAt0 m c n hn).2.2.2.2.2.2 (ix2 0 d) = ∑ j ∈ Finset.range (n + 1), ∑ r : Fin 256, t17 m c d (rowOf j r) := by
  induction n with
  | zero =>
    have e := outsAt0_A m c ⟨0, hn⟩ (Nat.zero_mod _)
    dsimp only at e
    rw [e]
    dsimp only
    rw [out_A_17, iblk6, iblk10, pay10_apply, pay5_apply, zero_add, Finset.sum_range_one]
    exact sum17 m c ⟨0, hn⟩ d
  | succ n ih =>
    have h32 : n + 1 < 32 := hn
    have e := outsAt0_B m c ⟨n + 1, hn⟩ (by show ¬(n + 1) % 32 = 0; omega)
    dsimp only at e
    rw [e]
    dsimp only
    rw [out_B_17, iblk6, iblk10, pay10_apply, Finset.sum_range_succ]
    exact congr (congrArg HAdd.hAdd (ih (Nat.lt_of_succ_lt hn))) (sum17 m c ⟨n + 1, hn⟩ d)

/-! ## The arrays -/

theorem emb11 (t : Fin cfg0.N) (p : Fin 256) (d : Fin 3072) :
    ((cfg0.win 11).blk t).view.emb (ix2 p d : S256x3072.Idx) = (ix2 (rowOf t.val p) d : S8192x3072.Idx) := by
  have hi := (index_row t).2.2.2.2.2.2.1
  funext a
  apply Fin.ext
  match a with
  | ⟨0, _⟩ => show win0_11.index t 0 * 256 + 1 * p.val = (256 * t.val + p.val) % 8192; have ht : t.val < 32 := t.isLt; rw [hi.1]; omega
  | ⟨1, _⟩ => show win0_11.index t 1 * 3072 + 1 * d.val = d.val; rw [hi.2]; omega

theorem arr11 : (dats m 0 c).arrAt 11 cfg0.N = rDZ m c := by
  refine (dats m 0 c).arrAt_eq_of_cover 11 (rDZ m c) (fun t hf => ?_) (fun y => ?_)
  · rw [Value.flushed11]
    funext y
    obtain ⟨p, d, rfl⟩ : ∃ (p : Fin 256) (d : Fin 3072), y = (ix2 p d : S256x3072.Idx) := ⟨_, _, eq_ix2 (n0 := 256) (n1 := 3072) y⟩
    rw [View.read_apply, emb11 t p d]
    change (outsAt0 m c t.val t.isLt).1 (ix2 p d) = _
    rw [outs_z]
    exact (z_at m c t p d).trans (cast_eq _ _).symm
  · have h0 : (y 0).val < 8192 := (y 0).isLt
    let t : Fin cfg0.N := ⟨(y 0).val / 256, by show _ < 32; omega⟩
    refine ⟨t, flush0_11 t, ?_⟩
    have e : ((cfg0.win 11).blk t).view.emb (ix2 (⟨(y 0).val % 256, by omega⟩ : Fin 256) (⟨(y 1).val, (y 1).isLt⟩ : Fin 3072) : S256x3072.Idx) = y := by
      rw [emb11]
      refine Shape.idx_ext₂ ?_ rfl
      show (256 * ((y 0).val / 256) + (y 0).val % 256) % 8192 = (y 0).val
      omega
    rw [← e]
    exact View.emb_mem_set _ _

theorem emb12 (t : Fin cfg0.N) (p : Fin 256) (d : Fin 1024) :
    ((cfg0.win 12).blk t).view.emb (ix2 p d : S256x1024.Idx) = (ix2 (rowOf t.val p) d : S8192x1024.Idx) := by
  have hi := (index_row t).2.2.2.2.2.2.2
  funext a
  apply Fin.ext
  match a with
  | ⟨0, _⟩ => show win0_12.index t 0 * 256 + 1 * p.val = (256 * t.val + p.val) % 8192; have ht : t.val < 32 := t.isLt; rw [hi.1]; omega
  | ⟨1, _⟩ => show win0_12.index t 1 * 1024 + 1 * d.val = d.val; rw [hi.2]; omega

theorem arr12 : (dats m 0 c).arrAt 12 cfg0.N = rDX m c := by
  refine (dats m 0 c).arrAt_eq_of_cover 12 (rDX m c) (fun t hf => ?_) (fun y => ?_)
  · rw [Value.flushed12]
    funext y
    obtain ⟨p, d, rfl⟩ : ∃ (p : Fin 256) (d : Fin 1024), y = (ix2 p d : S256x1024.Idx) := ⟨_, _, eq_ix2 (n0 := 256) (n1 := 1024) y⟩
    rw [View.read_apply, emb12 t p d]
    change (outsAt0 m c t.val t.isLt).2.1 (ix2 p d) = _
    rw [outs_x]
    exact (x_at m c t p d).trans (cast_eq _ _).symm
  · have h0 : (y 0).val < 8192 := (y 0).isLt
    let t : Fin cfg0.N := ⟨(y 0).val / 256, by show _ < 32; omega⟩
    refine ⟨t, flush0_12 t, ?_⟩
    have e : ((cfg0.win 12).blk t).view.emb (ix2 (⟨(y 0).val % 256, by omega⟩ : Fin 256) (⟨(y 1).val, (y 1).isLt⟩ : Fin 1024) : S256x1024.Idx) = y := by
      rw [emb12]
      refine Shape.idx_ext₂ ?_ rfl
      show (256 * ((y 0).val / 256) + (y 0).val % 256) % 8192 = (y 0).val
      omega
    rw [← e]
    exact View.emb_mem_set _ _

theorem emb13 (t : Fin cfg0.N) (p : Fin 1) (d : Fin 1024) :
    ((cfg0.win 13).blk t).view.emb (ix2 p d : S1x1024.Idx) = (ix2 p d : S1x1024.Idx) := by
  have hi := (index_whole t).2.2.2.2.2.1
  funext a
  apply Fin.ext
  match a with
  | ⟨0, _⟩ => show win0_13.index t 0 * 1 + 1 * p.val = p.val; rw [hi.1]; omega
  | ⟨1, _⟩ => show win0_13.index t 1 * 1024 + 1 * d.val = d.val; rw [hi.2]; omega

theorem last13 (t : Fin cfg0.N) (h : t.val % 32 = 31) (d : Fin 1024) :
    (outsAt0 m c t.val t.isLt).2.2.1 (ix2 0 d) = rA m c (ix2 0 d) := by
  have ht : t.val < 32 := t.isLt
  rw [acc13, show t.val + 1 = 32 by omega]
  unfold rA
  rw [v79_apply]
  exact sum_tiles (t13 m c d)

theorem arr13 : (dats m 0 c).arrAt 13 cfg0.N = rA m c := by
  refine (dats m 0 c).arrAt_eq_of_cover 13 (rA m c) (fun t hf => ?_) (fun y => ?_)
  · have h31 : t.val % 32 = 31 := (flush0_13 t).mp hf
    rw [Value.flushed13]
    funext y
    obtain ⟨p, d, rfl⟩ : ∃ (p : Fin 1) (d : Fin 1024), y = (ix2 p d : S1x1024.Idx) := ⟨_, _, eq_ix2 (n0 := 1) (n1 := 1024) y⟩
    obtain rfl : p = 0 := Subsingleton.elim _ _
    rw [View.read_apply, emb13 t 0 d]
    change (outsAt0 m c t.val t.isLt).2.2.1 (ix2 0 d) = _
    exact (last13 m c t h31 d).trans (cast_eq _ _).symm
  · let t : Fin cfg0.N := ⟨31, by show 31 < 32; omega⟩
    refine ⟨t, (flush0_13 t).mpr rfl, ?_⟩
    have e : ((cfg0.win 13).blk t).view.emb (ix2 (⟨(y 0).val, (y 0).isLt⟩ : Fin 1) (⟨(y 1).val, (y 1).isLt⟩ : Fin 1024) : S1x1024.Idx) = y := by
      rw [emb13]
      exact Shape.idx_ext₂ rfl rfl
    rw [← e]
    exact View.emb_mem_set _ _

theorem emb14 (t : Fin cfg0.N) (p : Fin 1) (d : Fin 1024) :
    ((cfg0.win 14).blk t).view.emb (ix2 p d : S1x1024.Idx) = (ix2 p d : S1x1024.Idx) := by
  have hi := (index_whole t).2.2.2.2.2.2.1
  funext a
  apply Fin.ext
  match a with
  | ⟨0, _⟩ => show win0_14.index t 0 * 1 + 1 * p.val = p.val; rw [hi.1]; omega
  | ⟨1, _⟩ => show win0_14.index t 1 * 1024 + 1 * d.val = d.val; rw [hi.2]; omega

theorem last14 (t : Fin cfg0.N) (h : t.val % 32 = 31) (d : Fin 1024) :
    (outsAt0 m c t.val t.isLt).2.2.2.1 (ix2 0 d) = rB m c (ix2 0 d) := by
  have ht : t.val < 32 := t.isLt
  rw [acc14, show t.val + 1 = 32 by omega]
  unfold rB
  rw [v80_apply]
  exact sum_tiles (t14 m c d)

theorem arr14 : (dats m 0 c).arrAt 14 cfg0.N = rB m c := by
  refine (dats m 0 c).arrAt_eq_of_cover 14 (rB m c) (fun t hf => ?_) (fun y => ?_)
  · have h31 : t.val % 32 = 31 := (flush0_14 t).mp hf
    rw [Value.flushed14]
    funext y
    obtain ⟨p, d, rfl⟩ : ∃ (p : Fin 1) (d : Fin 1024), y = (ix2 p d : S1x1024.Idx) := ⟨_, _, eq_ix2 (n0 := 1) (n1 := 1024) y⟩
    obtain rfl : p = 0 := Subsingleton.elim _ _
    rw [View.read_apply, emb14 t 0 d]
    change (outsAt0 m c t.val t.isLt).2.2.2.1 (ix2 0 d) = _
    exact (last14 m c t h31 d).trans (cast_eq _ _).symm
  · let t : Fin cfg0.N := ⟨31, by show 31 < 32; omega⟩
    refine ⟨t, (flush0_14 t).mpr rfl, ?_⟩
    have e : ((cfg0.win 14).blk t).view.emb (ix2 (⟨(y 0).val, (y 0).isLt⟩ : Fin 1) (⟨(y 1).val, (y 1).isLt⟩ : Fin 1024) : S1x1024.Idx) = y := by
      rw [emb14]
      exact Shape.idx_ext₂ rfl rfl
    rw [← e]
    exact View.emb_mem_set _ _

theorem emb15 (t : Fin cfg0.N) (p : Fin 1) (d : Fin 1024) :
    ((cfg0.win 15).blk t).view.emb (ix2 p d : S1x1024.Idx) = (ix2 p d : S1x1024.Idx) := by
  have hi := (index_whole t).2.2.2.2.2.2.2.1
  funext a
  apply Fin.ext
  match a with
  | ⟨0, _⟩ => show win0_15.index t 0 * 1 + 1 * p.val = p.val; rw [hi.1]; omega
  | ⟨1, _⟩ => show win0_15.index t 1 * 1024 + 1 * d.val = d.val; rw [hi.2]; omega

theorem last15 (t : Fin cfg0.N) (h : t.val % 32 = 31) (d : Fin 1024) :
    (outsAt0 m c t.val t.isLt).2.2.2.2.1 (ix2 0 d) = rG m c (ix2 0 d) := by
  have ht : t.val < 32 := t.isLt
  rw [acc15, show t.val + 1 = 32 by omega]
  unfold rG
  rw [v60_apply]
  exact sum_tiles (t15 m c d)

theorem arr15 : (dats m 0 c).arrAt 15 cfg0.N = rG m c := by
  refine (dats m 0 c).arrAt_eq_of_cover 15 (rG m c) (fun t hf => ?_) (fun y => ?_)
  · have h31 : t.val % 32 = 31 := (flush0_15 t).mp hf
    rw [Value.flushed15]
    funext y
    obtain ⟨p, d, rfl⟩ : ∃ (p : Fin 1) (d : Fin 1024), y = (ix2 p d : S1x1024.Idx) := ⟨_, _, eq_ix2 (n0 := 1) (n1 := 1024) y⟩
    obtain rfl : p = 0 := Subsingleton.elim _ _
    rw [View.read_apply, emb15 t 0 d]
    change (outsAt0 m c t.val t.isLt).2.2.2.2.1 (ix2 0 d) = _
    exact (last15 m c t h31 d).trans (cast_eq _ _).symm
  · let t : Fin cfg0.N := ⟨31, by show 31 < 32; omega⟩
    refine ⟨t, (flush0_15 t).mpr rfl, ?_⟩
    have e : ((cfg0.win 15).blk t).view.emb (ix2 (⟨(y 0).val, (y 0).isLt⟩ : Fin 1) (⟨(y 1).val, (y 1).isLt⟩ : Fin 1024) : S1x1024.Idx) = y := by
      rw [emb15]
      exact Shape.idx_ext₂ rfl rfl
    rw [← e]
    exact View.emb_mem_set _ _

theorem emb16 (t : Fin cfg0.N) (p : Fin 1) (d : Fin 1024) :
    ((cfg0.win 16).blk t).view.emb (ix2 p d : S1x1024.Idx) = (ix2 p d : S1x1024.Idx) := by
  have hi := (index_whole t).2.2.2.2.2.2.2.2.1
  funext a
  apply Fin.ext
  match a with
  | ⟨0, _⟩ => show win0_16.index t 0 * 1 + 1 * p.val = p.val; rw [hi.1]; omega
  | ⟨1, _⟩ => show win0_16.index t 1 * 1024 + 1 * d.val = d.val; rw [hi.2]; omega

theorem last16 (t : Fin cfg0.N) (h : t.val % 32 = 31) (d : Fin 1024) :
    (outsAt0 m c t.val t.isLt).2.2.2.2.2.1 (ix2 0 d) = rS m c (ix2 0 d) := by
  have ht : t.val < 32 := t.isLt
  rw [acc16, show t.val + 1 = 32 by omega]
  unfold rS
  rw [v83_apply]
  exact sum_tiles (t16 m c d)

theorem arr16 : (dats m 0 c).arrAt 16 cfg0.N = rS m c := by
  refine (dats m 0 c).arrAt_eq_of_cover 16 (rS m c) (fun t hf => ?_) (fun y => ?_)
  · have h31 : t.val % 32 = 31 := (flush0_16 t).mp hf
    rw [Value.flushed16]
    funext y
    obtain ⟨p, d, rfl⟩ : ∃ (p : Fin 1) (d : Fin 1024), y = (ix2 p d : S1x1024.Idx) := ⟨_, _, eq_ix2 (n0 := 1) (n1 := 1024) y⟩
    obtain rfl : p = 0 := Subsingleton.elim _ _
    rw [View.read_apply, emb16 t 0 d]
    change (outsAt0 m c t.val t.isLt).2.2.2.2.2.1 (ix2 0 d) = _
    exact (last16 m c t h31 d).trans (cast_eq _ _).symm
  · let t : Fin cfg0.N := ⟨31, by show 31 < 32; omega⟩
    refine ⟨t, (flush0_16 t).mpr rfl, ?_⟩
    have e : ((cfg0.win 16).blk t).view.emb (ix2 (⟨(y 0).val, (y 0).isLt⟩ : Fin 1) (⟨(y 1).val, (y 1).isLt⟩ : Fin 1024) : S1x1024.Idx) = y := by
      rw [emb16]
      exact Shape.idx_ext₂ rfl rfl
    rw [← e]
    exact View.emb_mem_set _ _

theorem emb17 (t : Fin cfg0.N) (p : Fin 1) (d : Fin 1024) :
    ((cfg0.win 17).blk t).view.emb (ix2 p d : S1x1024.Idx) = (ix2 p d : S1x1024.Idx) := by
  have hi := (index_whole t).2.2.2.2.2.2.2.2.2
  funext a
  apply Fin.ext
  match a with
  | ⟨0, _⟩ => show win0_17.index t 0 * 1 + 1 * p.val = p.val; rw [hi.1]; omega
  | ⟨1, _⟩ => show win0_17.index t 1 * 1024 + 1 * d.val = d.val; rw [hi.2]; omega

theorem last17 (t : Fin cfg0.N) (h : t.val % 32 = 31) (d : Fin 1024) :
    (outsAt0 m c t.val t.isLt).2.2.2.2.2.2 (ix2 0 d) = rH m c (ix2 0 d) := by
  have ht : t.val < 32 := t.isLt
  rw [acc17, show t.val + 1 = 32 by omega]
  unfold rH
  rw [v82_apply]
  exact sum_tiles (t17 m c d)

theorem arr17 : (dats m 0 c).arrAt 17 cfg0.N = rH m c := by
  refine (dats m 0 c).arrAt_eq_of_cover 17 (rH m c) (fun t hf => ?_) (fun y => ?_)
  · have h31 : t.val % 32 = 31 := (flush0_17 t).mp hf
    rw [Value.flushed17]
    funext y
    obtain ⟨p, d, rfl⟩ : ∃ (p : Fin 1) (d : Fin 1024), y = (ix2 p d : S1x1024.Idx) := ⟨_, _, eq_ix2 (n0 := 1) (n1 := 1024) y⟩
    obtain rfl : p = 0 := Subsingleton.elim _ _
    rw [View.read_apply, emb17 t 0 d]
    change (outsAt0 m c t.val t.isLt).2.2.2.2.2.2 (ix2 0 d) = _
    exact (last17 m c t h31 d).trans (cast_eq _ _).symm
  · let t : Fin cfg0.N := ⟨31, by show 31 < 32; omega⟩
    refine ⟨t, (flush0_17 t).mpr rfl, ?_⟩
    have e : ((cfg0.win 17).blk t).view.emb (ix2 (⟨(y 0).val, (y 0).isLt⟩ : Fin 1) (⟨(y 1).val, (y 1).isLt⟩ : Fin 1024) : S1x1024.Idx) = y := by
      rw [emb17]
      exact Shape.idx_ext₂ rfl rfl
    rw [← e]
    exact View.emb_mem_set _ _

theorem value : Cert.algebraic_OdBwdIdeal_OdBwdRefIdeal := by
  intro m g m' g' _ hargs
  refine ⟨fun c => rDZ m c, fun c => rDX m c, fun c => rA m c, fun c => rB m c, fun c => rG m c, fun c => rS m c, fun c => rH m c, ?_, ?_⟩
  · refine (θ_run _ _ _).mono (fun r h c => ?_) (Cert.OdBwdIdeal.Value.run_blocks (F := Ideal) m g)
    obtain ⟨h0, h1, h2, h3, h4, h5, h6, h7⟩ := h c
    exact ⟨h0.trans (arr11 m c), h1.trans (arr12 m c), h2.trans (arr13 m c), h3.trans (arr14 m c), h4.trans (arr15 m c), h5.trans (arr16 m c),
      h6.trans (arr17 m c), h7⟩
  · refine (θ_run _ _ _).mono (fun r h c => ?_) (Cert.OdBwdRefIdeal.Value.run (F := Ideal) m' g')
    obtain ⟨h0, h1, h2, h3, h4, h5, h6, h7⟩ := h c
    obtain ⟨a0, a1, a2, a3, a4, a5, a6, a7, a8, a9⟩ := hargs c
    refine ⟨?_, ?_, ?_, ?_, ?_, ?_, ?_, h7⟩
    · rw [h0, Cert.OdBwdRefIdeal.Read.val_main_v85_eq, a0, a1, a2, a3]
    · rw [h1, Cert.OdBwdRefIdeal.Read.val_main_v86_eq, a0, a1, a2, a3, a4, a5, a6, a7, a8, a9]
    · rw [h2, Cert.OdBwdRefIdeal.Read.val_main_v79_eq, a0, a1, a2, a3]
    · rw [h3, Cert.OdBwdRefIdeal.Read.val_main_v80_eq, a0, a1, a2, a3]
    · rw [h4, Cert.OdBwdRefIdeal.Read.val_main_v60_eq, a0, a1, a2, a3, a4, a6, a8, a9]
    · rw [h5, Cert.OdBwdRefIdeal.Read.val_main_v83_eq, a0, a1, a2, a3, a4, a6, a7]
    · rw [h6, Cert.OdBwdRefIdeal.Read.val_main_v82_eq, a0, a1, a2, a3, a4, a6, a7]

/-! ## The frames -/

theorem frame_p : Cert.quiescent_OdBwd := fun m ρ _ => Cert.OdBwd.Gen.frame m ρ

theorem frame_pi : Cert.quiescent_OdBwdIdeal := fun m ρ _ => Cert.OdBwdIdeal.Gen.frame m ρ

theorem frame_ri : Cert.quiescent_OdBwdRefIdeal := fun m ρ _ =>
  (θ_run Cert.OdBwdRefIdeal.defs _ _).mono (fun r h => ⟨fun c => (h c).2.2.2.2.2.2.2,
      Idealize.ShloMosaic.sem_eq_zero_of_no_sems (by decide) r.2⟩)
    (Cert.OdBwdRefIdeal.Value.run (F := Ideal) m ρ)

end Cert.OdBwdIdeal.Bwd

end
-- ==== Proof.FwdTrip.lean ====
/-
  The forward attention's launch: what the counted loop over pairs of key blocks does, in plain functions.

  A trip takes key blocks 2k and 2k+1. The tile of scores of block 2k is found in scratch, where the trip before (or the
  code before the loop) put it; the trip forms that of block 2k+1, takes the first into the running maximum, sum and
  accumulator, forms the tile of block 2k+2 (the last block again in the last trip, where nothing reads it), and takes
  the second.
-/
module

public import proofs.«01_k».proof.Proof.Tile
public import proofs.«01_k».proof.Proof.Gen.FwdIdeal.Loops
public import Idealize.ShloMosaic.Lib.VecWindow
public import Idealize.ShloMosaic.Lib.Pointwise

@[expose] public section

noncomputable section

namespace Cert.FwdIdeal.Trip

open Idealize.ShloMosaic Idealize.ShloMosaic.TcCoe Cert.FwdIdeal.Gen
open Cert.KernelIdeal.Trip (blk window_eq_blk row)

variable {F : FTy → Type} [FloatOps F] [Named F]

theorem trips_eq : k0_t1_loop.trips = 4 := by decide

theorem off1_eq (k : Fin k0_t1_loop.trips) : k0_off1 k = ![1024 * (2 * k.val + 1), 0] := by
  revert k; decide

theorem off2_eq (k : Fin k0_t1_loop.trips) : k0_off2 k = ![1024 * (2 * k.val), 0] := by
  revert k; decide

theorem off3_eq (k : Fin k0_t1_loop.trips) : k0_off3 k = ![1024 * min (2 * k.val + 2) 7, 0] := by
  revert k; decide

theorem off4_eq (k : Fin k0_t1_loop.trips) : k0_off4 k = ![1024 * (2 * k.val + 1), 0] := by
  revert k; decide

/-- The running maximum, sum and accumulator. -/
abbrev Acc (F : FTy → Type) [FloatOps F] := Vec F S1x2048 .f32 × Vec F S1x2048 .f32 × Vec F S128x2048 .f32

/-- The tile of scores of key block `j`. -/
def sc (q : Vec F S2048x256 .bf16) (K : Vec F S8192x256 .bf16) (j : ℕ) : Vec F S1024x2048 .f32 :=
  k0_pay3 (blk K j) q

/-- A tile of scores and the values' block taken in. -/
def consume (st : Vec F S1024x2048 .f32) (v : Vec F S1024x128 .bf16) (s : Acc F) : Acc F :=
  (k0_pay10 (k0_pay4 st s.1), k0_pay7 st s.1 s.2.1, k0_pay9 (k0_pay5 st s.1) (k0_pay6 st s.1) (k0_pay8 v) s.2.2)

/-- One trip. -/
def next (q : Vec F S2048x256 .bf16) (K : Vec F S8192x256 .bf16) (V : Vec F S8192x128 .bf16) (k : ℕ)
    (s : Acc F × Vec F S1024x2048 .f32) : Acc F × Vec F S1024x2048 .f32 :=
  (consume (sc q K (2 * k + 1)) (blk V (2 * k + 1)) (consume s.2 (blk V (2 * k)) s.1), sc q K (min (2 * k + 2) 7))

/-- The contents after `k` trips. -/
def state (q : Vec F S2048x256 .bf16) (K : Vec F S8192x256 .bf16) (V : Vec F S8192x128 .bf16)
    (s : Acc F × Vec F S1024x2048 .f32) : ℕ → Acc F × Vec F S1024x2048 .f32
  | 0 => s
  | k + 1 => next q K V k (state q K V s k)

section Loop

variable (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
  (X2 : BufTy.Contents (Elt F) arg2.view.ty) (X3 : BufTy.Contents (Elt F) arg3.view.ty) (X4 : BufTy.Contents (Elt F) arg4.view.ty)

theorem trip (k : Fin k0_t1_loop.trips) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) :
    let T := tripL_k0_t1 (F := F) 𝒱 c bd i arg2 harg2 arg3 harg3 arg4 harg4 arg5 harg5 arg6 harg6 arg7 harg7 arg8 harg8 arg9 harg9 arg10 harg10 arg11 harg11 X2 X3 X4 k f7 f8 f9 f10 f11
    ((arg7.view.read (Elt F) (arg7.view.writes (Elt F) f7 T.1), arg8.view.read (Elt F) (arg8.view.writes (Elt F) f8 T.2.1),
        arg9.view.read (Elt F) (arg9.view.writes (Elt F) f9 T.2.2.1)), arg10.view.read (Elt F) (arg10.view.writes (Elt F) f10 T.2.2.2.1))
      = next (arg2.view.read (Elt F) X2) (arg3.view.read (Elt F) X3) (arg4.view.read (Elt F) X4) k.val
          ((arg7.view.read (Elt F) f7, arg8.view.read (Elt F) f8, arg9.view.read (Elt F) f9), arg10.view.read (Elt F) f10) := by
  have hk : k.val < 4 := Nat.lt_of_lt_of_eq k.isLt trips_eq
  have i1 : ∀ a, (![1024 * (2 * k.val + 1), 0] : Fin 2 → ℕ) a + (![1024, 256] : Fin 2 → ℕ) a ≤ S8192x256.size a := off1_eq k ▸ k0_off1_inb k
  have i2 : ∀ a, (![1024 * (2 * k.val), 0] : Fin 2 → ℕ) a + (![1024, 128] : Fin 2 → ℕ) a ≤ S8192x128.size a := off2_eq k ▸ k0_off2_inb k
  have i3 : ∀ a, (![1024 * min (2 * k.val + 2) 7, 0] : Fin 2 → ℕ) a + (![1024, 256] : Fin 2 → ℕ) a ≤ S8192x256.size a := off3_eq k ▸ k0_off3_inb k
  have i4 : ∀ a, (![1024 * (2 * k.val + 1), 0] : Fin 2 → ℕ) a + (![1024, 128] : Fin 2 → ℕ) a ≤ S8192x128.size a := off4_eq k ▸ k0_off4_inb k
  have e2 : View.readAt (Elt F) arg2.view (Rect.unit ![0, 0] ![2048, 256] inb_S2048x256_S2048x256_0_0).toLoadRect X2
      = arg2.view.read (Elt F) X2 := View.readAt_full _ _ _
  have e31 : View.readAt (Elt F) arg3.view (Rect.unit (k0_off1 k) ![1024, 256] (k0_off1_inb k)).toLoadRect X3
      = blk (arg3.view.read (Elt F) X3) (2 * k.val + 1) := by
    rw [View.readAt_unit _ _ (k0_off1_inb k) (off1_eq k) i1]
    exact window_eq_blk _ _ (by omega) i1
  have e33 : View.readAt (Elt F) arg3.view (Rect.unit (k0_off3 k) ![1024, 256] (k0_off3_inb k)).toLoadRect X3
      = blk (arg3.view.read (Elt F) X3) (min (2 * k.val + 2) 7) := by
    rw [View.readAt_unit _ _ (k0_off3_inb k) (off3_eq k) i3]
    exact window_eq_blk _ _ (by omega) i3
  have e42 : View.readAt (Elt F) arg4.view (Rect.unit (k0_off2 k) ![1024, 128] (k0_off2_inb k)).toLoadRect X4
      = blk (arg4.view.read (Elt F) X4) (2 * k.val) := by
    rw [View.readAt_unit _ _ (k0_off2_inb k) (off2_eq k) i2]
    exact window_eq_blk _ _ (by omega) i2
  have e44 : View.readAt (Elt F) arg4.view (Rect.unit (k0_off4 k) ![1024, 128] (k0_off4_inb k)).toLoadRect X4
      = blk (arg4.view.read (Elt F) X4) (2 * k.val + 1) := by
    rw [View.readAt_unit _ _ (k0_off4_inb k) (off4_eq k) i4]
    exact window_eq_blk _ _ (by omega) i4
  have e7 : View.readAt (Elt F) arg7.view (Rect.unit ![0, 0] ![1, 2048] inb_S1x2048_S1x2048_0_0).toLoadRect f7
      = arg7.view.read (Elt F) f7 := View.readAt_full _ _ _
  have e8 : View.readAt (Elt F) arg8.view (Rect.unit ![0, 0] ![1, 2048] inb_S1x2048_S1x2048_0_0).toLoadRect f8
      = arg8.view.read (Elt F) f8 := View.readAt_full _ _ _
  have e9 : View.readAt (Elt F) arg9.view (Rect.unit ![0, 0] ![128, 2048] inb_S128x2048_S128x2048_0_0).toLoadRect f9
      = arg9.view.read (Elt F) f9 := View.readAt_full _ _ _
  have e10 : View.readAt (Elt F) arg10.view (Rect.unit ![0, 0] ![1024, 2048] inb_S1024x2048_S1024x2048_0_0).toLoadRect f10
      = arg10.view.read (Elt F) f10 := View.readAt_full _ _ _
  have h86 : trip_k0_t1.sl.v86 arg7 arg10 f7 f10 = k0_pay10 (k0_pay4 (arg10.view.read (Elt F) f10) (arg7.view.read (Elt F) f7)) := by
    rw [← e7, ← e10]
    rfl
  have h69 : trip_k0_t1.sl.v69 arg7 arg8 arg10 f7 f8 f10
      = k0_pay7 (arg10.view.read (Elt F) f10) (arg7.view.read (Elt F) f7) (arg8.view.read (Elt F) f8) := by
    rw [← e7, ← e10, ← e8]
    rfl
  have h83 : trip_k0_t1.sl.v83 arg4 arg7 arg9 arg10 X4 k f7 f9 f10
      = k0_pay9 (k0_pay5 (arg10.view.read (Elt F) f10) (arg7.view.read (Elt F) f7)) (k0_pay6 (arg10.view.read (Elt F) f10) (arg7.view.read (Elt F) f7))
          (k0_pay8 (blk (arg4.view.read (Elt F) X4) (2 * k.val))) (arg9.view.read (Elt F) f9) := by
    rw [← e7, ← e10, ← e42, ← e9]
    rfl
  have h99 : trip_k0_t1.sl.v99 arg2 arg3 X2 X3 k = sc (arg2.view.read (Elt F) X2) (arg3.view.read (Elt F) X3) (min (2 * k.val + 2) 7) := by
    unfold sc
    rw [← e2, ← e33]
    rfl
  have h100 : trip_k0_t1.sl.v100 arg2 arg3 arg11 X2 X3 k = sc (arg2.view.read (Elt F) X2) (arg3.view.read (Elt F) X3) (2 * k.val + 1) := by
    unfold sc
    rw [← e2, ← e31]
    unfold trip_k0_t1.sl.v100 View.readCov
    exact (View.readAt_full _ _ _).trans (View.read_writes_full _ _ _ _ _)
  have h102 : trip_k0_t1.sl.v102 arg7 arg10 f7 f10 = k0_pay10 (k0_pay4 (arg10.view.read (Elt F) f10) (arg7.view.read (Elt F) f7)) := by
    rw [← h86]
    unfold trip_k0_t1.sl.v102 View.readCov
    exact (View.readAt_full _ _ _).trans (View.read_writes_full _ _ _ _ _)
  have h111 : trip_k0_t1.sl.v111 arg7 arg8 arg10 f7 f8 f10
      = k0_pay7 (arg10.view.read (Elt F) f10) (arg7.view.read (Elt F) f7) (arg8.view.read (Elt F) f8) := by
    rw [← h69]
    unfold trip_k0_t1.sl.v111 View.readCov
    exact (View.readAt_full _ _ _).trans (View.read_writes_full _ _ _ _ _)
  have h124 : trip_k0_t1.sl.v124 arg4 arg7 arg9 arg10 X4 k f7 f9 f10
      = k0_pay9 (k0_pay5 (arg10.view.read (Elt F) f10) (arg7.view.read (Elt F) f7)) (k0_pay6 (arg10.view.read (Elt F) f10) (arg7.view.read (Elt F) f7))
          (k0_pay8 (blk (arg4.view.read (Elt F) X4) (2 * k.val))) (arg9.view.read (Elt F) f9) := by
    rw [← h83]
    unfold trip_k0_t1.sl.v124 View.readCov
    exact (View.readAt_full _ _ _).trans (View.read_writes_full _ _ _ _ _)
  have h105 : trip_k0_t1.sl.v105 arg2 arg3 arg7 arg10 arg11 X2 X3 k f7 f10
      = k0_pay12 (trip_k0_t1.sl.v100 arg2 arg3 arg11 X2 X3 k) (trip_k0_t1.sl.v102 arg7 arg10 f7 f10) := rfl
  have h107 : trip_k0_t1.sl.v107 arg2 arg3 arg7 arg10 arg11 X2 X3 k f7 f10
      = k0_pay13 (trip_k0_t1.sl.v100 arg2 arg3 arg11 X2 X3 k) (trip_k0_t1.sl.v102 arg7 arg10 f7 f10) := rfl
  have h109 : trip_k0_t1.sl.v109 arg2 arg3 arg7 arg10 arg11 X2 X3 k f7 f10
      = k0_pay14 (trip_k0_t1.sl.v100 arg2 arg3 arg11 X2 X3 k) (trip_k0_t1.sl.v102 arg7 arg10 f7 f10) := rfl
  intro T
  have hT : T = tripL_k0_t1 (F := F) 𝒱 c bd i arg2 harg2 arg3 harg3 arg4 harg4 arg5 harg5 arg6 harg6 arg7 harg7 arg8 harg8 arg9 harg9 arg10 harg10 arg11 harg11 X2 X3 X4 k f7 f8 f9 f10 f11 := rfl
  unfold tripL_k0_t1 trip_k0_t1 at hT
  dsimp only at hT
  rw [hT]
  dsimp only
  rw [h105, h107, h109, h111, h124, h99, h100, h102, e44]
  refine Prod.ext (Prod.ext ?_ (Prod.ext ?_ ?_)) ?_
  · exact View.read_writes_full _ _ _ _ _
  · exact View.read_writes_full _ _ _ _ _
  · exact View.read_writes_full _ _ _ _ _
  · exact View.read_writes_full _ _ _ _ _

variable (G7 : BufTy.Contents (Elt F) arg7.view.ty) (G8 : BufTy.Contents (Elt F) arg8.view.ty)
  (G9 : BufTy.Contents (Elt F) arg9.view.ty) (G10 : BufTy.Contents (Elt F) arg10.view.ty) (G11 : BufTy.Contents (Elt F) arg11.view.ty)

/-- The loop's pieces after `k` trips, read back over what the loop found, are the state after `k` trips. -/
theorem loop_reads (k : ℕ) (hk : k ≤ k0_t1_loop.trips) :
    let T := pb_k0_t1 (F := F) 𝒱 c bd i arg2 harg2 arg3 harg3 arg4 harg4 arg5 harg5 arg6 harg6 arg7 harg7 arg8 harg8 arg9 harg9 arg10 harg10 arg11 harg11 X2 X3 X4 G7 G8 G9 G10 G11 k
    ((arg7.view.read (Elt F) (arg7.view.writes (Elt F) G7 T.1), arg8.view.read (Elt F) (arg8.view.writes (Elt F) G8 T.2.1),
        arg9.view.read (Elt F) (arg9.view.writes (Elt F) G9 T.2.2.1)), arg10.view.read (Elt F) (arg10.view.writes (Elt F) G10 T.2.2.2.1))
      = state (arg2.view.read (Elt F) X2) (arg3.view.read (Elt F) X3) (arg4.view.read (Elt F) X4)
          ((arg7.view.read (Elt F) G7, arg8.view.read (Elt F) G8, arg9.view.read (Elt F) G9), arg10.view.read (Elt F) G10) k := by
  induction k with
  | zero => rfl
  | succ k ih =>
    have ih' := ih (Nat.le_of_succ_le hk)
    intro T
    have hT : T = _ := pb_k0_t1_succ (F := F) 𝒱 c bd i arg2 harg2 arg3 harg3 arg4 harg4 arg5 harg5 arg6 harg6 arg7 harg7 arg8 harg8 arg9 harg9 arg10 harg10 arg11 harg11 X2 X3 X4 G7 G8 G9 G10 G11 ⟨k, hk⟩
    rw [hT]
    dsimp only at ih' ⊢
    rw [View.writes_append, View.writes_append, View.writes_append, View.writes_append]
    refine (trip 𝒱 c bd i arg2 harg2 arg3 harg3 arg4 harg4 arg5 harg5 arg6 harg6 arg7 harg7 arg8 harg8 arg9 harg9 arg10 harg10 arg11 harg11 X2 X3 X4 ⟨k, hk⟩ _ _ _ _ _).trans ?_
    rw [ih']
    rfl

end Loop

end Cert.FwdIdeal.Trip

end
-- ==== Proof.FwdRun.lean ====
/-
  The forward launch's body, run once: what its stores leave in the two outputs' staging buffers. The scratch tile of
  the odd key blocks starts with anything, and nothing of it is left in what the outputs get; the pieces are written out
  here as plain functions of the input blocks.
-/
module

public import proofs.«01_k».proof.Proof.FwdTrip
public import proofs.«01_k».proof.Proof.Gen.FwdIdeal.Frame.Runs

@[expose] public section

set_option maxRecDepth 16384

noncomputable section

namespace Cert.FwdIdeal.Trip

open Idealize.ShloMosaic Idealize.ShloMosaic.TcCoe Cert.FwdIdeal.Gen
open Cert.KernelIdeal.Trip (blk window_eq_blk)

variable {F : FTy → Type} [FloatOps F] [Named F]

/-- The running maximum, sum and accumulator after the whole loop. -/
def point (x0 : Vec F S2048x256 .bf16) (x1 : Vec F S8192x256 .bf16) (x2 : Vec F S8192x128 .bf16) : Acc F :=
  (state x0 x1 x2 ((k0_pay15, k0_pay16, k0_pay17), sc x0 x1 0) 4).1

section Loop

variable (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
  (x0 : Vec F S2048x256 .bf16) (x1 : Vec F S8192x256 .bf16) (x2 : Vec F S8192x128 .bf16)

/-- The tile of scores of the first key block, formed before the loop. -/
theorem first_tile : k0_pay18 (View.readAt (Elt F) arg3.view (Rect.unit ![0, 0] ![1024, 256] inb_S8192x256_S1024x256_0_0).toLoadRect (harg3.unread x1))
      (View.readAt (Elt F) arg2.view (Rect.unit ![0, 0] ![2048, 256] inb_S2048x256_S2048x256_0_0).toLoadRect (harg2.unread x0)) = sc x0 x1 0 := by
  have i3 : ∀ a, (![1024 * 0, 0] : Fin 2 → ℕ) a + (![1024, 256] : Fin 2 → ℕ) a ≤ S8192x256.size a := inb_S8192x256_S1024x256_0_0
  have e2 : View.readAt (Elt F) arg2.view (Rect.unit ![0, 0] ![2048, 256] inb_S2048x256_S2048x256_0_0).toLoadRect (harg2.unread x0) = x0 :=
    (View.readAt_full _ _ _).trans (harg2.read_unread x0)
  have e3 : View.readAt (Elt F) arg3.view (Rect.unit ![0, 0] ![1024, 256] inb_S8192x256_S1024x256_0_0).toLoadRect (harg3.unread x1) = blk x1 0 := by
    rw [View.readAt_unit _ _ inb_S8192x256_S1024x256_0_0 (by simp : (![0, 0] : Fin 2 → ℕ) = ![1024 * 0, 0]) i3, harg3.read_unread]
    exact window_eq_blk _ _ (by omega) i3
  rw [e2, e3]
  rfl

/-- The loop over what the code before it has written. -/
theorem loop_point (L7 : List (View.Piece (Elt F) S1x2048 .f32)) (L8 : List (View.Piece (Elt F) S1x2048 .f32))
    (L9 : List (View.Piece (Elt F) S128x2048 .f32)) (L10 : List (View.Piece (Elt F) S1024x2048 .f32))
    (e7 : arg7.view.read (Elt F) (arg7.view.writes (Elt F) arg7.view.junk L7) = k0_pay15)
    (e8 : arg8.view.read (Elt F) (arg8.view.writes (Elt F) arg8.view.junk L8) = k0_pay16)
    (e9 : arg9.view.read (Elt F) (arg9.view.writes (Elt F) arg9.view.junk L9) = k0_pay17)
    (e10 : arg10.view.read (Elt F) (arg10.view.writes (Elt F) arg10.view.junk L10) = sc x0 x1 0)
    (f11 : BufTy.Contents (Elt F) arg11.view.ty) :
    let T := pb_k0_t1 (F := F) Variants.none c none i arg2 harg2 arg3 harg3 arg4 harg4 arg5 harg5 arg6 harg6 arg7 harg7 arg8 harg8 arg9 harg9 arg10 harg10 arg11 harg11 (harg2.unread x0) (harg3.unread x1) (harg4.unread x2)
      (arg7.view.writes (Elt F) arg7.view.junk L7) (arg8.view.writes (Elt F) arg8.view.junk L8)
      (arg9.view.writes (Elt F) arg9.view.junk L9) (arg10.view.writes (Elt F) arg10.view.junk L10) f11 k0_t1_loop.trips
    (arg7.view.read (Elt F) (arg7.view.writes (Elt F) arg7.view.junk (T.1 ++ L7)),
      arg8.view.read (Elt F) (arg8.view.writes (Elt F) arg8.view.junk (T.2.1 ++ L8)),
      arg9.view.read (Elt F) (arg9.view.writes (Elt F) arg9.view.junk (T.2.2.1 ++ L9))) = point x0 x1 x2 := by
  have h := loop_reads (F := F) Variants.none c none i arg2 harg2 arg3 harg3 arg4 harg4 arg5 harg5 arg6 harg6 arg7 harg7 arg8 harg8 arg9 harg9 arg10 harg10 arg11 harg11 (harg2.unread x0) (harg3.unread x1) (harg4.unread x2)
    (arg7.view.writes (Elt F) arg7.view.junk L7) (arg8.view.writes (Elt F) arg8.view.junk L8)
    (arg9.view.writes (Elt F) arg9.view.junk L9) (arg10.view.writes (Elt F) arg10.view.junk L10) f11 k0_t1_loop.trips le_rfl
  rw [harg2.read_unread, harg3.read_unread, harg4.read_unread, e7, e8, e9, e10] at h
  intro T
  rw [View.writes_append, View.writes_append, View.writes_append]
  exact congrArg Prod.fst h

end Loop

end Cert.FwdIdeal.Trip

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's run: the inputs' buffers as they were, the scratch at some contents, each output's buffer with its piece. -/
noncomputable def kernelRun0_A (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
    (x0 : Vec F S2048x256 .bf16) (x1 : Vec F S8192x256 .bf16) (x2 : Vec F S8192x128 .bf16) :
    Σ' (L3 : List (View.Piece (Elt F) S2048x128 .f32)), { L4 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_flash_fwd i arg2 harg2 arg3 harg3 arg4 harg4 arg5 harg5 arg6 harg6 arg7 harg7 arg8 harg8 arg9 harg9 arg10 harg10 arg11 harg11) K } := by
  refine ⟨[⟨Rect.unit ![0, 0] ![2048, 128] inb_S2048x128_S2048x128_0_0, k0_pay1 (Trip.point x0 x1 x2).2.2 (k0_pay23 (Trip.point x0 x1 x2).2.1)⟩],
    [⟨Rect.unit ![0, 0, 0] ![1, 1, 2048] inb_S1x1x2048_S1x1x2048_0_0_0, k0_pay2 (Trip.point x0 x1 x2).2.1 (Trip.point x0 x1 x2).1⟩], fun E K => ?run⟩
  case run =>
    simp only [cc0_flash_fwd_eq_skeleton]; unfold cc0_flash_fwd_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have h := Trip.loop_point c i arg2 harg2 arg3 harg3 arg4 harg4 arg5 harg5 arg6 harg6 arg7 harg7 arg8 harg8 arg9 harg9 arg10 harg10 arg11 harg11 x0 x1 x2 kernelRun0_A.sl.HS0_1 kernelRun0_A.sl.HS1_1 kernelRun0_A.sl.HS2_1
      (kernelRun0_A.sl.HS3_1 c arg2 harg2 arg3 harg3 x0 x1) (View.read_writes_full _ _ _ _ []) (View.read_writes_full _ _ _ _ [])
      (View.read_writes_full _ _ _ _ []) (by
        unfold kernelRun0_A.sl.HS3_1
        rw [View.read_writes_full]
        exact Trip.first_tile arg2 harg2 arg3 harg3 x0 x1) fs4
    have h23 : kernelRun0_A.sl.v23 c i arg2 harg2 arg3 harg3 arg4 harg4 arg5 harg5 arg6 harg6 arg7 harg7 arg8 harg8 arg9 harg9 arg10 harg10 arg11 harg11 x0 x1 x2 fs4 = (Trip.point x0 x1 x2).2.1 := by
      rw [← h]
      unfold kernelRun0_A.sl.v23 View.readCov
      exact View.readAt_full _ _ _
    have h24 : kernelRun0_A.sl.v24 c i arg2 harg2 arg3 harg3 arg4 harg4 arg5 harg5 arg6 harg6 arg7 harg7 arg8 harg8 arg9 harg9 arg10 harg10 arg11 harg11 x0 x1 x2 fs4 = (Trip.point x0 x1 x2).2.2 := by
      rw [← h]
      unfold kernelRun0_A.sl.v24 View.readCov
      exact View.readAt_full _ _ _
    have h31 : kernelRun0_A.sl.v31 c i arg2 harg2 arg3 harg3 arg4 harg4 arg5 harg5 arg6 harg6 arg7 harg7 arg8 harg8 arg9 harg9 arg10 harg10 arg11 harg11 x0 x1 x2 fs4 = (Trip.point x0 x1 x2).1 := by
      rw [← h]
      unfold kernelRun0_A.sl.v31 View.readCov
      exact View.readAt_full _ _ _
    have hr : kernelRun0_A.sl.r c i arg2 harg2 arg3 harg3 arg4 harg4 arg5 harg5 arg6 harg6 arg7 harg7 arg8 harg8 arg9 harg9 arg10 harg10 arg11 harg11 x0 x1 x2 fs4 = k0_pay23 (kernelRun0_A.sl.v23 c i arg2 harg2 arg3 harg3 arg4 harg4 arg5 harg5 arg6 harg6 arg7 harg7 arg8 harg8 arg9 harg9 arg10 harg10 arg11 harg11 x0 x1 x2 fs4) := rfl
    rw [hr, h23, h24, h31]
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.FwdIdeal.Gen

end
-- ==== Proof.FwdFrame.lean ====
/-
  The forward launch's frame over the run of FwdRun: what each grid point leaves in the two outputs, the proof data, the
  body's obligation, the run of the whole program, and that it ends with the arguments as they were.
-/
module

public import proofs.«01_k».proof.Proof.FwdRun
public import Idealize.ShloMosaic.Lib.Claim

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S2048x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
    (x0 : Vec F S2048x256 .bf16) (x1 : Vec F S8192x256 .bf16) (x2 : Vec F S8192x128 .bf16) (y : S2048x128.Idx) :
    ∃ pc ∈ (kernelRun0_A c i arg2 harg2 arg3 harg3 arg4 harg4 arg5 harg5 arg6 harg6 arg7 harg7 arg8 harg8 arg9 harg9 arg10 harg10 arg11 harg11 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2).1 S2048x128.size (by sl_kernel_rfl) y

/-- What the run leaves in output 3's staging buffer: its pieces read back over junk. -/
def out0_A_3 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
    (x0 : Vec F S2048x256 .bf16) (x1 : Vec F S8192x256 .bf16) (x2 : Vec F S8192x128 .bf16) : Vec F S2048x128 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 x0 x1 x2).1)

/-- The run's pieces for output 4 tile its block (1 store of `S1x1x2048`, checked by the kernel's evaluation: Lib/Ring.lean `Piece.tiledL`, linear in the pieces, through a loop's `@[irreducible]` trip theorem too), so they cover it. -/
theorem cover0_A_4 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
    (x0 : Vec F S2048x256 .bf16) (x1 : Vec F S8192x256 .bf16) (x2 : Vec F S8192x128 .bf16) (y : S1x1x2048.Idx) :
    ∃ pc ∈ (kernelRun0_A c i arg2 harg2 arg3 harg3 arg4 harg4 arg5 harg5 arg6 harg6 arg7 harg7 arg8 harg8 arg9 harg9 arg10 harg10 arg11 harg11 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2).2.1 S1x1x2048.size (by sl_kernel_rfl) y

/-- What the run leaves in output 4's staging buffer: its pieces read back over junk. -/
def out0_A_4 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole)
    (x0 : Vec F S2048x256 .bf16) (x1 : Vec F S8192x256 .bf16) (x2 : Vec F S8192x128 .bf16) : Vec F S1x1x2048 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 x0 x1 x2).2.1)

/-! What the outputs hold after each point -/

/-- What the outputs' staging buffers hold after the body at point `t` (as a tuple, in window order): the run's contents at
    the point's memrefs and input blocks. -/
def outsAt0 (c : Dev nD) (t : Fin cfg0.N) : Vec F S2048x128 .f32 × Vec F S1x1x2048 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t))

/-! The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_3 out0_A_4; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, ⟨%e4, H4⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_FwdIdeal`'s statement (Defs.lean) at any `F` — Proof.lean cites it at `Bits`:
    `theorem Cert.Proof.claim : Cert.Claim := ⟨Cert.FwdIdeal.Gen.facts, fun m ρ _ => Cert.FwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FwdIdeal.Gen

end
-- ==== Proof.FwdFrames.lean ====
/-
  The frames of the forward launch's three programs. The two kernels' texts differ in one constant, so the run written
  over any floats serves both: at the words themselves the named constant is its word.
-/
module

public import proofs.«01_k».proof.Defs
public import proofs.«01_k».proof.Proof.FwdFrame
public import proofs.«01_k».proof.Proof.Gen.Fwd.Launch
public import proofs.«01_k».proof.Proof.Gen.FwdRefIdeal.Run
public import Idealize.ShloMosaic.Lib.Quiescent
public import Idealize.ShloMosaic.Lib.Exec

@[expose] public section

noncomputable section

open Idealize.ShloMosaic Idealize.ShloMosaic.TcCoe Idealize.SL.Sem

namespace Cert.FwdIdeal.Frames

/-- A named constant read as the word it stands at. -/
abbrev wordNamed : Named Bits where
  named _ _ {φ} w := Scalar.ofBits φ w

theorem frame_pi : Cert.quiescent_FwdIdeal := fun m ρ _ => Cert.FwdIdeal.Gen.frame m ρ

theorem frame_ri : Cert.quiescent_FwdRefIdeal := fun m ρ _ =>
  (θ_run Cert.FwdRefIdeal.defs _ _).mono (fun r h => ⟨fun c => (h c).2.2,
      Idealize.ShloMosaic.sem_eq_zero_of_no_sems (by decide) r.2⟩)
    (Cert.FwdRefIdeal.Value.run (F := Ideal) m ρ)

theorem frame_p : Cert.quiescent_Fwd := fun m ρ _ =>
  letI := wordNamed
  Eq.mp (by sl_kernel_rfl) (Cert.FwdIdeal.Gen.frame (F := Bits) m ρ)

end Cert.FwdIdeal.Frames

end
-- ==== Proof.FwdOnline.lean ====
/-
  The running maximum, sum and accumulator of one query over blocks of 1024 keys: what they hold after each block, and
  that after the last one the quotient is the softmax-weighted sum and the logarithm the row's log-sum, to base two. The
  scores are real; the values may be anything.
-/
module

public import proofs.«01_k».proof.Proof.Attn

@[expose] public section

noncomputable section

namespace Cert.Online

open Idealize.ShloMosaic Cert.Attn

/-- The running maximum after a block of scores. -/
def mNext (t : Fin 1024 → EReal) (m : EReal) : EReal := max m ((Finset.univ : Finset (Fin 1024)).fold max (⊥ : EReal) t)

/-- The running sum after a block of scores. -/
def lNext (t : Fin 1024 → EReal) (m l : EReal) : EReal :=
  Ideal.exp2 (m - mNext t m) * l + ∑ r : Fin 1024, Ideal.exp2 (t r - mNext t m)

/-- The running accumulator after a block of scores and of values. -/
def aNext (t w : Fin 1024 → EReal) (m a : EReal) : EReal :=
  Ideal.exp2 (m - mNext t m) * a + ∑ r : Fin 1024, w r * Ideal.exp2 (t r - mNext t m)

/-- What the three hold after `n` blocks. -/
def Runs (s : ℕ → Fin 1024 → ℝ) (w : ℕ → Fin 1024 → EReal) (n : ℕ) (m l a : EReal) : Prop :=
  (n = 0 ∧ m = ⊥ ∧ l = 0 ∧ a = 0) ∨ ∃ μ : ℝ, m = (μ : EReal)
    ∧ l = ((∑ j ∈ Finset.range n, ∑ r : Fin 1024, Real.rpow 2 (s j r - μ) : ℝ) : EReal)
    ∧ a = ∑ j ∈ Finset.range n, ∑ r : Fin 1024, w j r * ((Real.rpow 2 (s j r - μ) : ℝ) : EReal)

/-- A factor that is a real from zero on goes into a sum. -/
theorem mul_sum {ι : Type} (S : Finset ι) (c : ℝ) (hc : 0 ≤ c) (f : ι → EReal) : (c : EReal) * ∑ i ∈ S, f i = ∑ i ∈ S, (c : EReal) * f i := by
  classical
  induction S using Finset.induction_on with
  | empty => simp
  | insert x S hx ih =>
    rw [Finset.sum_insert hx, Finset.sum_insert hx, EReal.left_distrib_of_nonneg_of_ne_top (by exact_mod_cast hc) (EReal.coe_ne_top c), ih]

theorem rpow_mul (x μ ν : ℝ) : Real.rpow 2 (μ - ν) * Real.rpow 2 (x - μ) = Real.rpow 2 (x - ν) := by
  refine (Real.rpow_add two_pos (μ - ν) (x - μ)).symm.trans (congrArg (Real.rpow 2) ?_)
  ring

theorem rpow_pos (x : ℝ) : 0 < Real.rpow 2 x := Real.rpow_pos_of_pos two_pos x

theorem Runs.next {s : ℕ → Fin 1024 → ℝ} {w : ℕ → Fin 1024 → EReal} {n : ℕ} {m l a : EReal} (H : Runs s w n m l a) :
    Runs s w (n + 1) (mNext (fun r => (s n r : EReal)) m) (lNext (fun r => (s n r : EReal)) m l)
      (aNext (fun r => (s n r : EReal)) (w n) m a) := by
  obtain ⟨t, ht⟩ : ∃ t : ℝ, (Finset.univ : Finset (Fin 1024)).fold max (⊥ : EReal) (fun r => (s n r : EReal)) = (t : EReal) := by
    rcases fold_max (Finset.univ : Finset (Fin 1024)) (s n) with ⟨h0, _⟩ | h
    · exact absurd h0 Finset.univ_nonempty.ne_empty
    · exact h
  have step : ∀ ν : ℝ, (∑ r : Fin 1024, Ideal.exp2 ((s n r : EReal) - (ν : EReal)))
        = ((∑ r : Fin 1024, Real.rpow 2 (s n r - ν) : ℝ) : EReal)
      ∧ (∑ r : Fin 1024, w n r * Ideal.exp2 ((s n r : EReal) - (ν : EReal)))
        = ∑ r : Fin 1024, w n r * ((Real.rpow 2 (s n r - ν) : ℝ) : EReal) := fun ν => by
    simp only [← EReal.coe_sub, Ideal.exp2_coe, coe_sum, and_self]
  unfold lNext aNext mNext
  rw [ht]
  rcases H with ⟨rfl, rfl, rfl, rfl⟩ | ⟨μ, rfl, rfl, rfl⟩
  · refine Or.inr ⟨t, max_eq_right bot_le, ?_, ?_⟩
    · rw [max_eq_right (bot_le : (⊥ : EReal) ≤ (t : EReal)), (step t).1, mul_zero, zero_add, Finset.sum_range_one]
    · rw [max_eq_right (bot_le : (⊥ : EReal) ≤ (t : EReal)), (step t).2, mul_zero, zero_add, Finset.sum_range_one]
  · have hm : max (μ : EReal) (t : EReal) = ((max μ t : ℝ) : EReal) := by
      rcases le_total μ t with h | h
      · rw [max_eq_right h, max_eq_right (EReal.coe_le_coe_iff.mpr h)]
      · rw [max_eq_left h, max_eq_left (EReal.coe_le_coe_iff.mpr h)]
    rw [hm]
    generalize max μ t = ν
    refine Or.inr ⟨ν, rfl, ?_, ?_⟩
    · rw [(step ν).1, ← EReal.coe_sub, Ideal.exp2_coe, ← EReal.coe_mul, ← EReal.coe_add, Finset.sum_range_succ, Finset.mul_sum]
      simp only [Finset.mul_sum, rpow_mul]
    · rw [(step ν).2, ← EReal.coe_sub, Ideal.exp2_coe, mul_sum _ _ (rpow_pos _).le, Finset.sum_range_succ]
      refine congrArg (· + _) (Finset.sum_congr rfl fun j _ => ?_)
      rw [mul_sum _ _ (rpow_pos _).le]
      refine Finset.sum_congr rfl fun r _ => ?_
      rw [mul_left_comm, ← EReal.coe_mul, rpow_mul]

/-- The power of two of a score over the logarithm of two. -/
theorem rpow_score (x μ : ℝ) : Real.rpow 2 (x / ln2 - μ) = Real.exp (x - μ * ln2) := by
  refine (Real.rpow_def_of_pos two_pos _).trans (congrArg Real.exp ?_)
  have := ln2_ne
  unfold ln2 at *
  field_simp

section End

variable (S : Fin 8192 → ℝ) (M : ℝ)

/-- The sum of the exponentials of the scores less `M`. -/
def total : ℝ := ∑ r : Fin 8192, Real.exp (S r - M)

theorem total_pos : 0 < total S M := Finset.sum_pos (fun _ _ => Real.exp_pos _) Finset.univ_nonempty

theorem exp_shift (x N : ℝ) : Real.exp (x - N) = Real.exp (M - N) * Real.exp (x - M) := by
  rw [← Real.exp_add]
  congr 1
  ring

theorem total_shift (N : ℝ) : total S N = Real.exp (M - N) * total S M := by
  unfold total
  rw [Finset.mul_sum]
  exact Finset.sum_congr rfl fun r _ => exp_shift M (S r) N

/-- The accumulator times the reciprocal of the sum. -/
theorem quotient (N : ℝ) (W : Fin 8192 → EReal) :
    (∑ r : Fin 8192, W r * ((Real.exp (S r - N) : ℝ) : EReal)) * Ideal.div 1 ((total S N : ℝ) : EReal)
      = ∑ r : Fin 8192, W r * ((Real.exp (S r - M) / total S M : ℝ) : EReal) := by
  have hN := total_pos S N
  have hM := total_pos S M
  rw [Ideal.div_coe hN.ne', one_mul, mul_comm, mul_sum _ _ (one_div_pos.mpr hN).le]
  refine Finset.sum_congr rfl fun r _ => ?_
  rw [mul_left_comm, ← EReal.coe_mul, total_shift S M N, exp_shift M (S r) N]
  have := Real.exp_pos (M - N)
  congr 2
  field_simp

/-- The maximum and the logarithm of the sum, to base two. -/
theorem logSum (μ : ℝ) :
    (μ : EReal) + Ideal.log ((total S (μ * ln2) : ℝ) : EReal) * (((Real.log 2)⁻¹ : ℝ) : EReal)
      = (((M + Real.log (total S M)) / ln2 : ℝ) : EReal) := by
  have hM := total_pos S M
  rw [Ideal.log_coe, if_neg (not_le.mpr (total_pos S _)), ← EReal.coe_mul, ← EReal.coe_add, total_shift S M,
    Real.log_mul (Real.exp_pos _).ne' hM.ne', Real.log_exp]
  congr 1
  have := ln2_ne
  unfold ln2 at *
  field_simp
  ring

end End

end Cert.Online

end
-- ==== Proof.FwdTile.lean ====
/-
  The forward launch's functions read at an index over the extended reals: a block of keys and values taken into the
  running maximum, sum and accumulator of each query, and what a grid point leaves.
-/
module

public import proofs.«01_k».proof.Proof.FwdTrip
public import proofs.«01_k».proof.Proof.FwdOnline
public import Idealize.ShloMosaic.PureOps.IdealRules

@[expose] public section

noncomputable section

namespace Cert.FwdIdeal.Trip

open Idealize.ShloMosaic Idealize.ShloMosaic.TcCoe Cert.FwdIdeal.Gen
open Cert.KernelIdeal.Trip (blk row blk_apply sum_rows)
open Cert.Online

theorem word_bot : Ideal.ofBits .f32 0xFF800000#32 = ⊥ := by
  simp [Ideal.ofBits, Ideal.ieee]

theorem word_one : Ideal.ofBits .f32 0x3F800000#32 = 1 := by
  simp [Ideal.ofBits, Ideal.ieee]
  rw [← EReal.coe_mul]
  norm_num

section Payloads

variable (st : Vec Ideal S1024x2048 .f32) (m l : Vec Ideal S1x2048 .f32) (a : Vec Ideal S128x2048 .f32) (v : Vec Ideal S1024x128 .bf16)

theorem pay4_apply (i : Fin 2048) : k0_pay4 (F := Ideal) st m (ix2 0 i) = mNext (fun r => st (ix2 r i)) (m (ix2 0 i)) := by
  unfold k0_pay4 mNext
  rw [← word_bot]
  pointwise

theorem pay5_apply (i : Fin 2048) : k0_pay5 (F := Ideal) st m (ix2 0 i) = Ideal.exp2 (m (ix2 0 i) - mNext (fun r => st (ix2 r i)) (m (ix2 0 i))) := by
  rw [← pay4_apply]
  unfold k0_pay5
  generalize k0_pay4 (F := Ideal) st m = y
  pointwise
  rfl

theorem pay6_apply (r : Fin 1024) (i : Fin 2048) :
    k0_pay6 (F := Ideal) st m (ix2 r i) = Ideal.exp2 (st (ix2 r i) - mNext (fun r => st (ix2 r i)) (m (ix2 0 i))) := by
  rw [← pay4_apply]
  unfold k0_pay6
  generalize k0_pay4 (F := Ideal) st m = y
  pointwise
  rfl

theorem pay7_apply (i : Fin 2048) : k0_pay7 (F := Ideal) st m l (ix2 0 i) = lNext (fun r => st (ix2 r i)) (m (ix2 0 i)) (l (ix2 0 i)) := by
  unfold lNext
  rw [← pay5_apply, Finset.sum_congr rfl fun r _ => (pay6_apply st m r i).symm]
  unfold k0_pay7
  generalize k0_pay5 (F := Ideal) st m = y
  generalize k0_pay6 (F := Ideal) st m = z
  pointwise

theorem pay9_apply (d : Fin 128) (i : Fin 2048) :
    k0_pay9 (F := Ideal) (k0_pay5 st m) (k0_pay6 st m) (k0_pay8 v) a (ix2 d i)
      = aNext (fun r => st (ix2 r i)) (fun r => v (ix2 r d)) (m (ix2 0 i)) (a (ix2 d i)) := by
  unfold aNext
  rw [← pay5_apply, Finset.sum_congr rfl fun r _ => congrArg (v (ix2 r d) * ·) (pay6_apply st m r i).symm]
  unfold k0_pay9 k0_pay8
  generalize k0_pay5 (F := Ideal) st m = y
  generalize k0_pay6 (F := Ideal) st m = z
  pointwise

theorem pay10_apply (y : FVec Ideal S1x2048 .f32) (i : Fin 2048) : k0_pay10 (F := Ideal) y (ix2 0 i) = y (ix2 0 i) := by
  unfold k0_pay10
  pointwise

theorem pay15_apply (i : Fin 2048) : k0_pay15 (F := Ideal) (ix2 0 i) = ⊥ := by
  rw [← word_bot]
  unfold k0_pay15
  pointwise

theorem pay16_apply (i : Fin 2048) : k0_pay16 (F := Ideal) (ix2 0 i) = 0 := by
  unfold k0_pay16
  pointwise

theorem pay17_apply (d : Fin 128) (i : Fin 2048) : k0_pay17 (F := Ideal) (ix2 d i) = 0 := by
  unfold k0_pay17
  pointwise

theorem pay1_apply (i : Fin 2048) (d : Fin 128) :
    k0_pay1 (F := Ideal) a (k0_pay23 l) (ix2 i d) = a (ix2 d i) * Ideal.div 1 (l (ix2 0 i)) := by
  rw [← word_one]
  unfold k0_pay1 k0_pay23
  pointwise

theorem pay2_apply (i : Fin 2048) :
    k0_pay2 (F := Ideal) l m (ix3 0 0 i) = m (ix2 0 i) + Ideal.log (l (ix2 0 i)) * (((Real.log 2)⁻¹ : ℝ) : EReal) := by
  have e : Named.named (F := Ideal) (φ := .f32) Cert.FwdIdeal.κ "log2e" 0x3FB8AA3B#32 = (((Real.log 2)⁻¹ : ℝ) : EReal) :=
    IdealRules.named_const.ideal_named_scalar _ _ _ _ rfl
  unfold k0_pay2
  rw [e]
  generalize (((Real.log 2)⁻¹ : ℝ) : EReal) = y
  pointwise

theorem sc_apply (q : Vec Ideal S2048x256 .bf16) (K : Vec Ideal S8192x256 .bf16) (j : ℕ) (r : Fin 1024) (i : Fin 2048) :
    sc (F := Ideal) q K j (ix2 r i) = ∑ d : Fin 256, K (ix2 (row j r) d) * q (ix2 i d) := by
  have h : ∀ B : Vec Ideal S1024x256 .bf16, k0_pay3 (F := Ideal) B q (ix2 r i) = ∑ d : Fin 256, B (ix2 r d) * q (ix2 i d) := by
    intro B
    unfold k0_pay3
    pointwise
  exact h _

end Payloads

end Cert.FwdIdeal.Trip

end
-- ==== Proof.FwdBlocks.lean ====
/-
  What each grid point of the forward launch writes back to the two results, and the run with the results named.
-/
module

public import proofs.«01_k».proof.Proof.FwdFrame
public import Idealize.ShloMosaic.Lib.Pipeline.Value

@[expose] public section

noncomputable section

namespace Cert.FwdIdeal.Value

open Cert.FwdIdeal Cert.FwdIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t)) := by
  simp only [flushed3, outsAt0]

/-- The index map sends distinct grid points to distinct block indices (decided over the 16 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t).2) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t)) := by
  simp only [flushed4, outsAt0]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4x1x8192.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v13_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v13_1) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 3 cfg0.N
      ∧ r.2.mem ((c : Thread nD τ).loc main_v13_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      kept_main_arg0 m r h c,
      kept_main_arg1 m r h c,
      kept_main_arg2 m r h c⟩)
    (run_main m ρ)

end Cert.FwdIdeal.Value

end
-- ==== Proof.FwdWhole.lean ====
/-
  The forward launch's two result arrays as functions of the three arrays it reads, where the scores are real: each grid
  point takes the eight key blocks in, and what it writes back is the softmax-weighted sum of the values and the rows'
  log-sums, to base two.
-/
module

public import proofs.«01_k».proof.Proof.FwdTile
public import proofs.«01_k».proof.Proof.FwdBlocks
public import proofs.«01_k».proof.Proof.Whole

@[expose] public section

set_option maxRecDepth 16384

noncomputable section

namespace Cert.FwdIdeal.Trip

open Idealize.ShloMosaic Idealize.ShloMosaic.TcCoe Cert.FwdIdeal.Gen
open Cert.KernelIdeal.Trip (blk row blk_apply sum_rows)
open Cert.Online Cert.Attn

section Point

variable (q : Vec Ideal S2048x256 .bf16) (K : Vec Ideal S8192x256 .bf16) (V : Vec Ideal S8192x128 .bf16)
variable (i : Fin 2048) (d : Fin 128) (S : ℕ → Fin 1024 → ℝ) (W : ℕ → Fin 1024 → EReal)

/-- The running maximum, sum and accumulator of query `i`, column `d`, hold what they should after `n` blocks. -/
def Has (n : ℕ) (s : Acc Ideal) : Prop := Runs S W n (s.1 (ix2 0 i)) (s.2.1 (ix2 0 i)) (s.2.2 (ix2 d i))

theorem has_consume {n : ℕ} {s : Acc Ideal} (st : Vec Ideal S1024x2048 .f32) (v : Vec Ideal S1024x128 .bf16)
    (hs : ∀ r, st (ix2 r i) = (S n r : EReal)) (hw : ∀ r, v (ix2 r d) = W n r) (H : Has i d S W n s) :
    Has i d S W (n + 1) (consume st v s) := by
  have h := Runs.next H
  rw [← funext hs, ← funext hw] at h
  unfold Has consume
  dsimp only
  rw [pay10_apply, pay4_apply, pay7_apply, pay9_apply]
  exact h

variable (hS : ∀ j, j < 8 → ∀ r, sc (F := Ideal) q K j (ix2 r i) = (S j r : EReal)) (hW : ∀ j r, V (ix2 (row j r) d) = W j r)
include hS hW

theorem has_state (s : Acc Ideal) (H : Has i d S W 0 s) (k : ℕ) (hk : k ≤ 4) :
    (k < 4 → (state (F := Ideal) q K V (s, sc q K 0) k).2 = sc q K (2 * k)) ∧ Has i d S W (2 * k) (state (F := Ideal) q K V (s, sc q K 0) k).1 := by
  induction k with
  | zero => exact ⟨fun _ => rfl, H⟩
  | succ k ih =>
    obtain ⟨h2, h1⟩ := ih (by omega)
    refine ⟨fun h => ?_, ?_⟩
    · show sc q K (min (2 * k + 2) 7) = sc q K (2 * (k + 1))
      rw [show min (2 * k + 2) 7 = 2 * (k + 1) by omega]
    · show Has i d S W (2 * k + 1 + 1) (consume (sc q K (2 * k + 1)) (blk V (2 * k + 1)) (consume (state q K V (s, sc q K 0) k).2 (blk V (2 * k)) (state q K V (s, sc q K 0) k).1))
      rw [h2 (by omega)]
      exact has_consume i d S W _ _ (hS _ (by omega)) (fun r => hW _ r) (has_consume i d S W _ _ (hS _ (by omega)) (fun r => hW _ r) h1)

omit hS hW in
theorem has_start : Has i d S W 0 (k0_pay15 (F := Ideal), k0_pay16 (F := Ideal), k0_pay17 (F := Ideal)) := by
  unfold Has
  exact Or.inl ⟨rfl, pay15_apply i, pay16_apply i, pay17_apply d i⟩

theorem has_point : Has i d S W 8 (point (F := Ideal) q K V) := by
  have h := (has_state q K V i d S W hS hW _ (has_start i d S W) 4 le_rfl).2
  unfold point
  exact h

end Point

section End

variable (q : Vec Ideal S2048x256 .bf16) (K : Vec Ideal S8192x256 .bf16) (V : Vec Ideal S8192x128 .bf16)
variable (i : Fin 2048) (S : Fin 8192 → ℝ) (M : ℝ)
variable (hS : ∀ r : Fin 8192, ∑ d : Fin 256, K (ix2 r d) * q (ix2 i d) = ((S r / ln2 : ℝ) : EReal))
include hS

/-- What the three hold after the whole loop: sums over all keys. -/
theorem point_sums (d : Fin 128) : ∃ μ : ℝ, (point (F := Ideal) q K V).1 (ix2 0 i) = (μ : EReal)
    ∧ (point (F := Ideal) q K V).2.1 (ix2 0 i) = ((total S (μ * ln2) : ℝ) : EReal)
    ∧ (point (F := Ideal) q K V).2.2 (ix2 d i) = ∑ r : Fin 8192, V (ix2 r d) * ((Real.exp (S r - μ * ln2) : ℝ) : EReal) := by
  rcases has_point q K V i d (fun j r => S (row j r) / ln2) (fun j r => V (ix2 (row j r) d))
    (fun j _ r => (sc_apply q K j r i).trans (hS (row j r))) (fun _ _ => rfl) with ⟨h, _⟩ | ⟨μ, h1, h2, h3⟩
  · exact absurd h (by norm_num)
  · refine ⟨μ, h1, h2.trans ?_, h3.trans ?_⟩
    · simp only [rpow_score]
      rw [sum_rows (fun r => Real.exp (S r - μ * ln2))]
      rfl
    · simp only [rpow_score]
      exact sum_rows (fun r => V (ix2 r d) * ((Real.exp (S r - μ * ln2) : ℝ) : EReal))

/-- The first result's block. -/
theorem point_out (d : Fin 128) : k0_pay1 (F := Ideal) (point q K V).2.2 (k0_pay23 (point q K V).2.1) (ix2 i d)
    = ∑ r : Fin 8192, V (ix2 r d) * ((Real.exp (S r - M) / total S M : ℝ) : EReal) := by
  obtain ⟨μ, _, h2, h3⟩ := point_sums q K V i S hS d
  rw [pay1_apply, h2, h3]
  exact quotient S M (μ * ln2) fun r => V (ix2 r d)

/-- The second result's block. -/
theorem point_lse : k0_pay2 (F := Ideal) (point q K V).2.1 (point q K V).1 (ix3 0 0 i) = (((M + Real.log (total S M)) / ln2 : ℝ) : EReal) := by
  obtain ⟨μ, h1, h2, _⟩ := point_sums q K V i S hS 0
  rw [pay2_apply, h1, h2]
  exact logSum S M μ

end End

end Cert.FwdIdeal.Trip

namespace Cert.FwdIdeal.Whole

open Idealize.ShloMosaic Idealize.ShloMosaic.TcCoe Cert.FwdIdeal.Gen Cert.FwdIdeal.Trip
open Cert.KernelIdeal.Whole (col col' hd col'_div)
open Cert.Online Cert.Attn

/-- Query `p` of query block `j`. -/
def qrow (j : ℕ) (p : Fin 2048) : Fin 8192 := ⟨(2048 * j + p.val) % 8192, Nat.mod_lt _ (by norm_num)⟩

/-- The attention's result, the values anything. -/
def resO (q k : Fin 8192 → Fin 4 → Fin 192 → ℝ) (V : Vec Ideal S8192x512 .bf16) : Vec Ideal S8192x512 .f32 :=
  fun y => ∑ r : Fin 8192, V (ix2 r (y 1)) * ((pr q k (hd ((y 1).val / 128)) (y 0) r : ℝ) : EReal)

/-- The rows' log-sums, to base two. -/
def resL (q k : Fin 8192 → Fin 4 → Fin 192 → ℝ) : Vec Ideal S4x1x8192 .f32 :=
  fun y => (((mx q k (y 0) (y 2) + Real.log (ls q k (y 0) (y 2))) / ln2 : ℝ) : EReal)

variable (m : (ℓ : Loc nD τ sig) → Buf (Elt Ideal) ℓ) (c : Dev nD)

/-- The array of window 0: q, scaled. -/
abbrev aQ : Vec Ideal S8192x1024 .bf16 := V m c main_v7
/-- The array of window 1: k. -/
abbrev aK : Vec Ideal S8192x1024 .bf16 := V m c main_v10
/-- The array of window 2: v. -/
abbrev aV : Vec Ideal S8192x512 .bf16 := V m c main_v12

theorem index_eq : ∀ t : Fin grid0.N,
    (win0_0.index t 0 = t.val % 4 ∧ win0_0.index t 1 = t.val / 4) ∧ (win0_1.index t 0 = 0 ∧ win0_1.index t 1 = t.val / 4)
    ∧ (win0_2.index t 0 = 0 ∧ win0_2.index t 1 = t.val / 4) ∧ (win0_3.index t 0 = t.val % 4 ∧ win0_3.index t 1 = t.val / 4)
    ∧ (win0_4.index t 0 = t.val / 4 ∧ win0_4.index t 1 = 0 ∧ win0_4.index t 2 = t.val % 4) := by
  decide +kernel

theorem lt_N (t : Fin cfg0.N) : t.val < 16 := t.isLt

/-- Window 0's block of q. -/
abbrev b0 (t : Fin cfg0.N) : Vec Ideal S2048x256 .bf16 := iblk m c 0 t
/-- Window 1's block of k. -/
abbrev b1 (t : Fin cfg0.N) : Vec Ideal S8192x256 .bf16 := iblk m c 1 t
/-- Window 2's block of v. -/
abbrev b2 (t : Fin cfg0.N) : Vec Ideal S8192x128 .bf16 := iblk m c 2 t

theorem iblk0 (t : Fin cfg0.N) (p : Fin 2048) (d : Fin 256) :
    b0 m c t (ix2 p d) = aQ m c (ix2 (qrow (t.val % 4) p) (col (t.val / 4) d)) := by
  have hi := (index_eq t).1
  have ht := lt_N t
  unfold b0 iblk
  rw [View.read_apply]
  show V m c main_v7 _ = V m c main_v7 _
  congr 1
  funext a
  apply Fin.ext
  match a with
  | ⟨0, _⟩ => show win0_0.index t 0 * 2048 + 1 * p.val = (2048 * (t.val % 4) + p.val) % 8192; rw [hi.1]; omega
  | ⟨1, _⟩ => show win0_0.index t 1 * 256 + 1 * d.val = (256 * (t.val / 4) + d.val) % 1024; rw [hi.2]; omega

theorem iblk1 (t : Fin cfg0.N) (r : Fin 8192) (d : Fin 256) :
    b1 m c t (ix2 r d) = aK m c (ix2 r (col (t.val / 4) d)) := by
  have hi := (index_eq t).2.1
  have ht := lt_N t
  unfold b1 iblk
  rw [View.read_apply]
  show V m c main_v10 _ = V m c main_v10 _
  congr 1
  funext a
  apply Fin.ext
  match a with
  | ⟨0, _⟩ => show win0_1.index t 0 * 8192 + 1 * r.val = r.val; rw [hi.1]; omega
  | ⟨1, _⟩ => show win0_1.index t 1 * 256 + 1 * d.val = (256 * (t.val / 4) + d.val) % 1024; rw [hi.2]; omega

theorem iblk2 (t : Fin cfg0.N) (r : Fin 8192) (d : Fin 128) :
    b2 m c t (ix2 r d) = aV m c (ix2 r (col' (t.val / 4) d)) := by
  have hi := (index_eq t).2.2.1
  have ht := lt_N t
  unfold b2 iblk
  rw [View.read_apply]
  show V m c main_v12 _ = V m c main_v12 _
  congr 1
  funext a
  apply Fin.ext
  match a with
  | ⟨0, _⟩ => show win0_2.index t 0 * 8192 + 1 * r.val = r.val; rw [hi.1]; omega
  | ⟨1, _⟩ => show win0_2.index t 1 * 128 + 1 * d.val = (128 * (t.val / 4) + d.val) % 512; rw [hi.2]; omega

theorem emb3 (t : Fin cfg0.N) (p : Fin 2048) (d : Fin 128) :
    ((cfg0.win 3).blk t).view.emb (ix2 p d : S2048x128.Idx) = (ix2 (qrow (t.val % 4) p) (col' (t.val / 4) d) : S8192x512.Idx) := by
  have hi := (index_eq t).2.2.2.1
  have ht := lt_N t
  funext a
  apply Fin.ext
  match a with
  | ⟨0, _⟩ => show win0_3.index t 0 * 2048 + 1 * p.val = (2048 * (t.val % 4) + p.val) % 8192; rw [hi.1]; omega
  | ⟨1, _⟩ => show win0_3.index t 1 * 128 + 1 * d.val = (128 * (t.val / 4) + d.val) % 512; rw [hi.2]; omega

theorem emb4 (t : Fin cfg0.N) (p : Fin 2048) :
    ((cfg0.win 4).blk t).view.emb (ix3 0 0 p : S1x1x2048.Idx) = (ix3 (hd (t.val / 4)) 0 (qrow (t.val % 4) p) : S4x1x8192.Idx) := by
  have hi := (index_eq t).2.2.2.2
  have ht := lt_N t
  funext a
  apply Fin.ext
  match a with
  | ⟨0, _⟩ => show win0_4.index t 0 * 1 + 1 * 0 = (t.val / 4) % 4; rw [hi.1]; omega
  | ⟨1, _⟩ => show win0_4.index t 1 * 1 + 1 * 0 = 0; rw [hi.2.1]
  | ⟨2, _⟩ => show win0_4.index t 2 * 2048 + 1 * p.val = (2048 * (t.val % 4) + p.val) % 8192; rw [hi.2.2]; omega

/-! The points. -/

section Slots

variable (x0 : Vec Ideal S2048x256 .bf16) (x1 : Vec Ideal S8192x256 .bf16) (x2 : Vec Ideal S8192x128 .bf16)

theorem out3 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole) :
    out0_A_3 c i arg2 harg2 arg3 harg3 arg4 harg4 arg5 harg5 arg6 harg6 arg7 harg7 arg8 harg8 arg9 harg9 arg10 harg10 arg11 harg11 x0 x1 x2 = k0_pay1 (F := Ideal) (point x0 x1 x2).2.2 (k0_pay23 (point x0 x1 x2).2.1) := by
  unfold out0_A_3 kernelRun0_A
  exact View.read_writes_full _ _ _ _ []

theorem out4 (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S128x2048 .f32) (harg9 : arg9.IsWhole) (arg10 : Memref sig .tc .vmem S1024x2048 .f32) (harg10 : arg10.IsWhole) (arg11 : Memref sig .tc .vmem S1024x2048 .f32) (harg11 : arg11.IsWhole) :
    out0_A_4 c i arg2 harg2 arg3 harg3 arg4 harg4 arg5 harg5 arg6 harg6 arg7 harg7 arg8 harg8 arg9 harg9 arg10 harg10 arg11 harg11 x0 x1 x2 = k0_pay2 (F := Ideal) (point x0 x1 x2).2.1 (point x0 x1 x2).1 := by
  unfold out0_A_4 kernelRun0_A
  exact View.read_writes_full _ _ _ _ []

end Slots

theorem outs_eq (t : Fin cfg0.N) : outsAt0 m c t
    = (k0_pay1 (F := Ideal) (point (b0 m c t) (b1 m c t) (b2 m c t)).2.2 (k0_pay23 (point (b0 m c t) (b1 m c t) (b2 m c t)).2.1),
      k0_pay2 (F := Ideal) (point (b0 m c t) (b1 m c t) (b2 m c t)).2.1 (point (b0 m c t) (b1 m c t) (b2 m c t)).1) := by
  unfold outsAt0
  rw [out3, out4]

section Real

variable (q k : Fin 8192 → Fin 4 → Fin 192 → ℝ)
variable (HS : ∀ (h : Fin 4) (i r : Fin 8192), ∑ d : Fin 256, aK m c (ix2 r (col h.val d)) * aQ m c (ix2 i (col h.val d)) = ((sc q k h i r / ln2 : ℝ) : EReal))
include HS

theorem scores (t : Fin cfg0.N) (p : Fin 2048) (r : Fin 8192) :
    ∑ d : Fin 256, b1 m c t (ix2 r d) * b0 m c t (ix2 p d)
      = ((sc q k (hd (t.val / 4)) (qrow (t.val % 4) p) r / ln2 : ℝ) : EReal) := by
  have ht := lt_N t
  simp only [iblk0, iblk1]
  have h := HS (hd (t.val / 4)) (qrow (t.val % 4) p) r
  rwa [show (hd (t.val / 4)).val = t.val / 4 from Nat.mod_eq_of_lt (by omega)] at h

theorem outs_o (t : Fin cfg0.N) (p : Fin 2048) (d : Fin 128) :
    (outsAt0 m c t).1 (ix2 p d) = resO q k (aV m c) (ix2 (qrow (t.val % 4) p) (col' (t.val / 4) d)) := by
  have ht := lt_N t
  rw [outs_eq]
  refine (point_out _ _ _ p (sc q k (hd (t.val / 4)) (qrow (t.val % 4) p)) (mx q k (hd (t.val / 4)) (qrow (t.val % 4) p)) (scores m c q k HS t p) d).trans ?_
  simp only [iblk2]
  show _ = ∑ r : Fin 8192, aV m c (ix2 r (col' (t.val / 4) d)) * ((pr q k (hd ((col' (t.val / 4) d).val / 128)) (qrow (t.val % 4) p) r : ℝ) : EReal)
  rw [col'_div (t.val / 4) (by omega)]
  rfl

theorem outs_l (t : Fin cfg0.N) (p : Fin 2048) :
    (outsAt0 m c t).2 (ix3 0 0 p) = resL q k (ix3 (hd (t.val / 4)) 0 (qrow (t.val % 4) p)) := by
  rw [outs_eq]
  exact point_lse _ _ _ p (sc q k (hd (t.val / 4)) (qrow (t.val % 4) p)) (mx q k (hd (t.val / 4)) (qrow (t.val % 4) p)) (scores m c q k HS t p)

/-- The first result after the run. -/
theorem arr3 : (dats m 0 c).arrAt 3 cfg0.N = resO q k (aV m c) := by
  refine (dats m 0 c).arrAt_eq_of_cover 3 (resO q k (aV m c)) (fun t _ => ?_) (fun y => ?_)
  · rw [Value.flushed3]
    funext y
    obtain ⟨p, d, rfl⟩ : ∃ (p : Fin 2048) (d : Fin 128), y = (ix2 p d : S2048x128.Idx) := ⟨_, _, eq_ix2 (n0 := 2048) (n1 := 128) y⟩
    rw [View.read_apply]
    change (outsAt0 m c t).1 (ix2 p d) = _
    rw [outs_o m c q k HS t]
    rw [emb3 t p d]
    exact (cast_eq _ _).symm
  · have h0 : (y 0).val < 8192 := (y 0).isLt
    have h1 : (y 1).val < 512 := (y 1).isLt
    let t : Fin cfg0.N := ⟨4 * ((y 1).val / 128) + (y 0).val / 2048, by show _ < 16; omega⟩
    refine ⟨t, flush0_3 t, ?_⟩
    have e : ((cfg0.win 3).blk t).view.emb (ix2 ⟨(y 0).val % 2048, by omega⟩ ⟨(y 1).val % 128, by omega⟩ : S2048x128.Idx) = y := by
      rw [emb3]
      refine Shape.idx_ext₂ ?_ ?_
      · show (2048 * ((4 * ((y 1).val / 128) + (y 0).val / 2048) % 4) + (y 0).val % 2048) % 8192 = (y 0).val
        omega
      · show (128 * ((4 * ((y 1).val / 128) + (y 0).val / 2048) / 4) + (y 1).val % 128) % 512 = (y 1).val
        omega
    rw [← e]
    exact View.emb_mem_set _ _

/-- The second result after the run. -/
theorem arr4 : (dats m 0 c).arrAt 4 cfg0.N = resL q k := by
  refine (dats m 0 c).arrAt_eq_of_cover 4 (resL q k) (fun t _ => ?_) (fun y => ?_)
  · rw [Value.flushed4]
    funext y
    obtain ⟨p, rfl⟩ : ∃ (p : Fin 2048), y = (ix3 0 0 p : S1x1x2048.Idx) :=
      ⟨y 2, (eq_ix3 (n0 := 1) (n1 := 1) (n2 := 2048) y).trans (congrArg₂ (fun a b => (ix3 a b (y 2) : S1x1x2048.Idx)) (Subsingleton.elim (α := Fin 1) _ _) (Subsingleton.elim (α := Fin 1) _ _))⟩
    rw [View.read_apply]
    change (outsAt0 m c t).2 (ix3 0 0 p) = _
    rw [outs_l m c q k HS t]
    rw [emb4 t p]
    exact (cast_eq _ _).symm
  · have h0 : (y 0).val < 4 := (y 0).isLt
    have h1 : (y 1).val < 1 := (y 1).isLt
    have h2 : (y 2).val < 8192 := (y 2).isLt
    let t : Fin cfg0.N := ⟨4 * (y 0).val + (y 2).val / 2048, by show _ < 16; omega⟩
    refine ⟨t, flush0_4 t, ?_⟩
    have e : ((cfg0.win 4).blk t).view.emb (ix3 0 0 ⟨(y 2).val % 2048, by omega⟩ : S1x1x2048.Idx) = y := by
      rw [emb4]
      funext a
      apply Fin.ext
      match a with
      | ⟨0, _⟩ => show (4 * (y 0).val + (y 2).val / 2048) / 4 % 4 = (y 0).val; omega
      | ⟨1, _⟩ => show 0 = (y 1).val; omega
      | ⟨2, _⟩ => show (2048 * ((4 * (y 0).val + (y 2).val / 2048) % 4) + (y 2).val % 2048) % 8192 = (y 2).val; omega
    rw [← e]
    exact View.emb_mem_set _ _

end Real

end Cert.FwdIdeal.Whole

end
-- ==== Proof.FwdHost.lean ====
/-
  What the host hands to the forward launch: q scaled, k and v, each head's columns padded; the scores they make are the
  attention's where q and k are real numbers, and v passes through whatever it holds.
-/
module

public import proofs.«01_k».proof.Proof.FwdWhole
public import proofs.«01_k».proof.Proof.Real
public import Idealize.ShloMosaic.Lib.StableHlo.ReadAt

@[expose] public section

set_option maxRecDepth 16384

noncomputable section

namespace Cert.FwdIdeal.Host

open Idealize.ShloMosaic Idealize.ShloMosaic.TcCoe Cert.FwdIdeal Cert.FwdIdeal.Facts Cert.FwdIdeal.Gen Cert.FwdIdeal.Whole
open Cert.Words Cert.Attn
open Cert.KernelIdeal.Host (padded padded_mul)
open Cert.KernelIdeal.Whole (col col' hd col_div col'_div)

variable (m : (ℓ : Loc nD τ sig) → Buf (Elt Ideal) ℓ) (c : Dev nD)

/-- q in memory. -/
abbrev inQ : FVec Ideal S8192x4x192 .f32 := m (c, Proc.tc.devRef main_arg0)
/-- k in memory. -/
abbrev inK : FVec Ideal S8192x4x192 .f32 := m (c, Proc.tc.devRef main_arg1)
/-- v in memory. -/
abbrev inV : FVec Ideal S8192x4x128 .f32 := m (c, Proc.tc.devRef main_arg2)

theorem aV_apply (j : S8192x512.Idx) :
    aV m c j = inV m c (ix3 (j 0) ⟨(j 1).val / 128, by have : (j 1).val < 512 := (j 1).isLt; omega⟩ ⟨(j 1).val % 128, by omega⟩) := by
  show V m c main_v12 j = _
  unfold V
  after_reads_at

theorem aQ_apply (j : S8192x1024.Idx) :
    aQ m c j = Ideal.div ((if h : (j 1).val / 256 < 4 ∧ (j 1).val % 256 < 192 then
        inQ m c (ix3 (j 0) ⟨(j 1).val / 256, h.1⟩ ⟨(j 1).val % 256, h.2⟩) else FloatOps.sitofp (F := Ideal) .f32 (0#32 : BitVec 32))
        * Ideal.ofBits .f32 0x3D93CD3A#32) (Ideal.log (Ideal.ofBits .f32 0x40000000#32)) := by
  show V m c main_v7 j = _
  unfold V
  after_reads_at

theorem aK_apply (j : S8192x1024.Idx) :
    aK m c j = (if h : (j 1).val / 256 < 4 ∧ (j 1).val % 256 < 192 then
        inK m c (ix3 (j 0) ⟨(j 1).val / 256, h.1⟩ ⟨(j 1).val % 256, h.2⟩) else FloatOps.sitofp (F := Ideal) .f32 (0#32 : BitVec 32)) := by
  show V m c main_v10 j = _
  unfold V
  after_reads_at

theorem aV_at (r : Fin 8192) (h : Fin 4) (d : Fin 128) : aV m c (ix2 r (col' h.val d)) = inV m c (ix3 r h d) := by
  rw [aV_apply]
  refine congrArg (inV m c) (congrArg₂ (ix3 r) (Fin.ext (col'_div h.val h.isLt d)) (Fin.ext ?_))
  show (128 * h.val + d.val) % 512 % 128 = d.val
  omega

section Real

variable {m c}
variable {q k : Fin 8192 → Fin 4 → Fin 192 → ℝ}
variable (hq : ∀ i h d, inQ m c (ix3 i h d) = (q i h d : EReal)) (hk : ∀ i h d, inK m c (ix3 i h d) = (k i h d : EReal))

/-- A head's column lies in that head. -/
theorem in_head (h : Fin 4) (d : Fin 256) : (col h.val d).val / 256 = h.val ∧ (col h.val d).val % 256 = d.val := by
  refine ⟨col_div h.val h.isLt d, ?_⟩
  show (256 * h.val + d.val) % 1024 % 256 = d.val
  omega

/-- Reading an array of heads padded to 256 columns. -/
theorem pad_read (x : FVec Ideal S8192x4x192 .f32) (f : Fin 8192 → Fin 4 → Fin 192 → ℝ) (hx : ∀ i h d, x (ix3 i h d) = (f i h d : EReal))
    (i : Fin 8192) (h : Fin 4) (d : Fin 256) :
    (if hh : (col h.val d).val / 256 < 4 ∧ (col h.val d).val % 256 < 192 then
      x (ix3 i ⟨(col h.val d).val / 256, hh.1⟩ ⟨(col h.val d).val % 256, hh.2⟩) else FloatOps.sitofp (F := Ideal) .f32 (0#32 : BitVec 32))
      = (padded (f i h) d : EReal) := by
  obtain ⟨e0, e1⟩ := in_head h d
  unfold padded
  by_cases hd : d.val < 192
  · rw [dif_pos hd]
    refine (dif_pos ⟨by rw [e0]; exact h.isLt, by rw [e1]; exact hd⟩).trans ?_
    exact Eq.trans (congrArg x (congrArg₂ (ix3 i) (Fin.ext e0) (show _ = (⟨d.val, hd⟩ : Fin 192) from Fin.ext e1))) (hx i h ⟨d.val, hd⟩)
  · rw [dif_neg hd]
    refine (dif_neg fun hh => hd (by have := hh.2; rwa [e1] at this)).trans ?_
    rw [int_zero, EReal.coe_zero]

include hk in
theorem aK_real (r : Fin 8192) (h : Fin 4) (d : Fin 256) : aK m c (ix2 r (col h.val d)) = (padded (k r h) d : EReal) := by
  rw [aK_apply]
  exact pad_read (inK m c) k hk r h d

include hq in
theorem aQ_real (i : Fin 8192) (h : Fin 4) (d : Fin 256) : aQ m c (ix2 i (col h.val d)) = ((padded (q i h) d * scale / ln2 : ℝ) : EReal) := by
  rw [aQ_apply, scale_word, log_two]
  refine (congrArg (fun x => Ideal.div (x * (scale : EReal)) (ln2 : EReal)) (pad_read (inQ m c) q hq i h d)).trans ?_
  rw [← EReal.coe_mul, div_real _ _ ln2_ne]

include hq hk in
/-- The launch's scores are the attention's, to base two. -/
theorem score_real (h : Fin 4) (i r : Fin 8192) :
    ∑ d : Fin 256, aK m c (ix2 r (col h.val d)) * aQ m c (ix2 i (col h.val d)) = ((sc q k h i r / ln2 : ℝ) : EReal) := by
  simp only [aQ_real hq, aK_real hk, ← EReal.coe_mul]
  rw [← coe_sum]
  refine congrArg (fun x : ℝ => (x : EReal)) ?_
  have e : ∀ d : Fin 256, padded (k r h) d * (padded (q i h) d * scale / ln2) = padded (q i h) d * padded (k r h) d * (scale / ln2) := fun d => by ring
  simp only [e, padded_mul]
  rw [← Finset.sum_mul, sum_pad (fun d => q i h d * k r h d)]
  unfold sc
  ring

end Real

end Cert.FwdIdeal.Host

end
-- ==== Proof.FwdRef.lean ====
/-
  The forward reference's two results, stage by stage: each stage at an index, then its value where q and k are real
  numbers; the values are anything.
-/
module

public import proofs.«01_k».proof.Proof.Real
public import proofs.«01_k».proof.Proof.Gen.FwdRefIdeal.Run
public import proofs.«01_k».proof.Proof.Gen.FwdRefIdeal.Read
public import Idealize.ShloMosaic.Lib.Pointwise

@[expose] public section

set_option maxRecDepth 16384

noncomputable section

namespace Cert.FwdRefIdeal.Stage

open Idealize.ShloMosaic Idealize.ShloMosaic.TcCoe Cert.FwdRefIdeal Cert.FwdRefIdeal.Gen Cert.FwdRefIdeal.Read
open Cert.Words Cert.Attn Cert.KernelIdeal.Whole
open Cert.KernelIdeal.Host (log_at div_at add_at)

theorem fold_at (x : FVec Ideal S4x8192x8192 .f32) (z : FVec Ideal S_ .f32) (h : Fin 4) (i : Fin 8192) :
    Host.reduce FloatOps.maximumf x z reducesTo_S4x8192x8192_S4x8192_d2 h_S_ (ix2 h i)
      = (Finset.univ : Finset (Fin 8192)).fold max (z ix0) fun r => x (ix3 h i r) := by
  pointwise
  rw [show Shape.Idx.first h_S_ = ix0 from Subsingleton.elim _ _]

theorem bcol (y : FVec Ideal S4x8192 .f32) (h : Fin 4) (i : Fin 8192) :
    broadcastInDim S4x8192x1 ![0, 1] bcast_S4x8192_S4x8192x1_0_1 y (ix3 h i 0) = y (ix2 h i) := by
  pointwise

theorem bone (z : FVec Ideal S_ .f32) (h : Fin 4) (i : Fin 8192) :
    broadcastInDim S4x8192 ![] bcast_S_S4x8192 z (ix2 h i) = z ix0 := by
  pointwise

theorem max_at (y z : FVec Ideal S4x8192 .f32) (j : S4x8192.Idx) : maximumf y z j = max (y j) (z j) := rfl

section At

variable (q k : FVec Ideal S8192x4x192 .f32) (v : FVec Ideal S8192x4x128 .f32)

theorem at2 (h : Fin 4) (i r : Fin 8192) :
    val_main_v2 (F := Ideal) q k (ix3 h i r) = (∑ d : Fin 192, q (ix3 i h d) * k (ix3 r h d)) * Ideal.ofBits .f32 0x3D93CD3A#32 := by
  unfold val_main_v2 val_main_v0 val_main_v1 val_main_cst
  pointwise

/-- The scores are computed twice. -/
theorem twice : val_main_v14 (F := Ideal) q k = val_main_v2 (F := Ideal) q k := rfl

theorem at4 (h : Fin 4) (i : Fin 8192) :
    val_main_v4 (F := Ideal) q k (ix3 h i 0)
      = (Finset.univ : Finset (Fin 8192)).fold max (val_main_cst_0 (F := Ideal) ix0) fun r => val_main_v2 (F := Ideal) q k (ix3 h i r) := by
  unfold val_main_v4
  rw [bcol]
  unfold val_main_v3
  exact fold_at _ _ h i

theorem at7 (h : Fin 4) (i r : Fin 8192) :
    val_main_v7 (F := Ideal) q k (ix3 h i r) = Ideal.exp (val_main_v2 (F := Ideal) q k (ix3 h i r) - val_main_v4 (F := Ideal) q k (ix3 h i 0)) := by
  unfold val_main_v7 val_main_v6 val_main_v5
  pointwise

theorem at9 (h : Fin 4) (i : Fin 8192) :
    val_main_v9 (F := Ideal) q k (ix3 h i 0) = ∑ r : Fin 8192, val_main_v7 (F := Ideal) q k (ix3 h i r) := by
  unfold val_main_v9 val_main_v8 val_main_cst_1
  pointwise

theorem at11 (h : Fin 4) (i : Fin 8192) :
    val_main_v11 (F := Ideal) q k (ix3 h i 0) = val_main_v4 (F := Ideal) q k (ix3 h i 0) + Ideal.log (val_main_v9 (F := Ideal) q k (ix3 h i 0)) := by
  unfold val_main_v11 val_main_v10
  rw [add_at, log_at]

theorem at18 (h : Fin 4) (i : Fin 8192) :
    val_main_v18 (F := Ideal) q k (ix3 h i 0) = max (val_main_cst_4 (F := Ideal) ix0)
      ((Finset.univ : Finset (Fin 8192)).fold max (val_main_cst_3 (F := Ideal) ix0) fun r => val_main_v2 (F := Ideal) q k (ix3 h i r)) := by
  unfold val_main_v18
  rw [bcol]
  unfold val_main_v17
  rw [max_at]
  unfold val_main_v16
  rw [bone]
  unfold val_main_v15
  rw [fold_at, twice]

theorem at21 (h : Fin 4) (i r : Fin 8192) :
    val_main_v21 (F := Ideal) q k (ix3 h i r) = Ideal.exp (val_main_v2 (F := Ideal) q k (ix3 h i r) - val_main_v18 (F := Ideal) q k (ix3 h i 0)) := by
  unfold val_main_v21 val_main_v20 val_main_v19
  rw [twice]
  pointwise

theorem at23 (h : Fin 4) (i : Fin 8192) :
    val_main_v23 (F := Ideal) q k (ix3 h i 0) = ∑ r : Fin 8192, val_main_v21 (F := Ideal) q k (ix3 h i r) := by
  unfold val_main_v23 val_main_v22 val_main_cst_5
  pointwise

theorem at25 (h : Fin 4) (i r : Fin 8192) :
    val_main_v25 (F := Ideal) q k (ix3 h i r) = Ideal.div (val_main_v21 (F := Ideal) q k (ix3 h i r)) (val_main_v23 (F := Ideal) q k (ix3 h i 0)) := by
  unfold val_main_v25 val_main_v24
  pointwise

theorem at27 (i : Fin 8192) (h : Fin 4) (d : Fin 128) :
    val_main_v27 (F := Ideal) q k v (ix3 i h d) = ∑ r : Fin 8192, v (ix3 r h d) * val_main_v25 (F := Ideal) q k (ix3 h i r) := by
  unfold val_main_v27 val_main_v26
  pointwise

theorem at28 (j : S8192x512.Idx) :
    val_main_v28 (F := Ideal) q k v j
      = val_main_v27 (F := Ideal) q k v (ix3 (j 0) ⟨(j 1).val / 128, by have : (j 1).val < 512 := (j 1).isLt; omega⟩ ⟨(j 1).val % 128, by omega⟩) := by
  unfold val_main_v28
  pointwise

theorem at31 (h : Fin 4) (i : Fin 8192) :
    val_main_v31 (F := Ideal) q k (ix3 h i 0) = Ideal.div (val_main_v11 (F := Ideal) q k (ix3 h i 0)) (Ideal.log (val_main_cst_6 (F := Ideal) ix0)) := by
  unfold val_main_v31
  rw [div_at]
  unfold val_main_v30
  rw [ValueIdx.broadcastInDim_scalar_apply]
  unfold val_main_v29
  rw [log_at]
  rfl

theorem at32 (h : Fin 4) (i : Fin 8192) : val_main_v32 (F := Ideal) q k (ix3 h 0 i) = val_main_v31 (F := Ideal) q k (ix3 h i 0) := by
  unfold val_main_v32
  generalize val_main_v31 (F := Ideal) q k = y
  refine shapeCast_apply y shapeCasts_S4x8192x1_S4x1x8192 (ix3 h 0 i) (ix3 h i 0) ?_
  rw [Shape.rowMajor_val_three, Shape.rowMajor_val_three]
  show (h.val * 8192 + i.val) * 1 + 0 = (h.val * 1 + 0) * 8192 + i.val
  omega

end At

section Real

theorem bot0 : val_main_cst_0 (F := Ideal) ix0 = ⊥ := by rw [val_main_cst_0_apply, Ideal.ofBits_def, bot_word]

theorem bot3 : val_main_cst_3 (F := Ideal) ix0 = ⊥ := by rw [val_main_cst_3_apply, Ideal.ofBits_def, bot_word]

theorem bot4 : val_main_cst_4 (F := Ideal) ix0 = ⊥ := by rw [val_main_cst_4_apply, Ideal.ofBits_def, bot_word]

theorem two6 : Ideal.log (val_main_cst_6 (F := Ideal) ix0) = (ln2 : EReal) := by rw [val_main_cst_6_apply, Ideal.ofBits_def, log_two]

variable {q k : FVec Ideal S8192x4x192 .f32} {rq rk : Fin 8192 → Fin 4 → Fin 192 → ℝ}
variable (hq : ∀ i h d, q (ix3 i h d) = (rq i h d : EReal)) (hk : ∀ i h d, k (ix3 i h d) = (rk i h d : EReal))
include hq hk

theorem r2 (h : Fin 4) (i r : Fin 8192) : val_main_v2 (F := Ideal) q k (ix3 h i r) = (sc rq rk h i r : EReal) := by
  rw [at2, scale_word]
  simp only [hq, hk, ← EReal.coe_mul, ← coe_sum]
  rfl

theorem r4 (h : Fin 4) (i : Fin 8192) : val_main_v4 (F := Ideal) q k (ix3 h i 0) = (mx rq rk h i : EReal) := by
  rw [at4, bot0]
  simp only [r2 hq hk]
  exact mx_eq rq rk h i

theorem r18 (h : Fin 4) (i : Fin 8192) : val_main_v18 (F := Ideal) q k (ix3 h i 0) = (mx rq rk h i : EReal) := by
  rw [at18, bot3, bot4, max_eq_right bot_le]
  simp only [r2 hq hk]
  exact mx_eq rq rk h i

theorem r9 (h : Fin 4) (i : Fin 8192) : val_main_v9 (F := Ideal) q k (ix3 h i 0) = (ls rq rk h i : EReal) := by
  rw [at9]
  simp only [at7, r2 hq hk, r4 hq hk, ← EReal.coe_sub, Ideal.exp_coe]
  rw [← coe_sum]
  rfl

theorem r21 (h : Fin 4) (i r : Fin 8192) : val_main_v21 (F := Ideal) q k (ix3 h i r) = (ex rq rk h i r : EReal) := by
  rw [at21, r2 hq hk, r18 hq hk, ← EReal.coe_sub, Ideal.exp_coe]
  rfl

theorem r23 (h : Fin 4) (i : Fin 8192) : val_main_v23 (F := Ideal) q k (ix3 h i 0) = (ls rq rk h i : EReal) := by
  rw [at23]
  simp only [r21 hq hk, ← coe_sum]
  rfl

theorem r25 (h : Fin 4) (i r : Fin 8192) : val_main_v25 (F := Ideal) q k (ix3 h i r) = (pr rq rk h i r : EReal) := by
  rw [at25, r21 hq hk, r23 hq hk, div_real _ _ (ls_pos rq rk h i).ne']
  rfl

/-- The attention's result. -/
theorem r28 (v : FVec Ideal S8192x4x128 .f32) (i : Fin 8192) (h : Fin 4) (d : Fin 128) :
    val_main_v28 (F := Ideal) q k v (ix2 i (col' h.val d)) = ∑ r : Fin 8192, v (ix3 r h d) * (pr rq rk h i r : EReal) := by
  rw [at28]
  refine Eq.trans (congrArg (val_main_v27 (F := Ideal) q k v) (congrArg₂ (ix3 i) (Fin.ext (col'_div h.val h.isLt d)) (Fin.ext ?_)))
    ((at27 q k v i h d).trans (Finset.sum_congr rfl fun r _ => by rw [r25 hq hk]))
  show (128 * h.val + d.val) % 512 % 128 = d.val
  omega

/-- The rows' log-sums, to base two. -/
theorem r32 (h : Fin 4) (i : Fin 8192) :
    val_main_v32 (F := Ideal) q k (ix3 h 0 i) = (((mx rq rk h i + Real.log (ls rq rk h i)) / ln2 : ℝ) : EReal) := by
  rw [at32, at31, at11, two6, r4 hq hk, r9 hq hk, Ideal.log_coe, if_neg (not_le.mpr (ls_pos rq rk h i)), ← EReal.coe_add, div_real _ _ ln2_ne]

end Real

end Cert.FwdRefIdeal.Stage

end
-- ==== Proof.FwdValue.lean ====
/-
  The forward launch's value claim: its two results are the reference's where q and k are finite, whatever v holds.
-/
module

public import proofs.«01_k».proof.Defs
public import proofs.«01_k».proof.Proof.Value
public import proofs.«01_k».proof.Proof.FwdHost
public import proofs.«01_k».proof.Proof.FwdRef
public import proofs.«01_k».proof.Proof.Gen.Pre_finite_qk
public import Idealize.ShloMosaic.Lib.ReduceAll

@[expose] public section

set_option maxRecDepth 16384

noncomputable section

namespace Cert.FwdIdeal.Claim

open Idealize.ShloMosaic Idealize.ShloMosaic.TcCoe Idealize.SL.Sem
open Cert.Attn Cert.Words
open Cert.Proof (reals real_of_lt ex_col')
open Cert.KernelIdeal.Whole (col' hd col'_div)

/-- Where every size is below the top, every element is a real number. -/
theorem real_of_all (x : FVec Ideal Cert.Pre_finite_qk.S8192x4x192 .f32)
    (e : Host.reduce IntOp.andi (cmpf .olt (Host.absf x)
        (broadcastInDim Cert.Pre_finite_qk.S8192x4x192 ![] Cert.Pre_finite_qk.Gen.bcast_S_S8192x4x192 (constant Cert.Pre_finite_qk.S_ .f32 0x7F800000#32)))
      (constantI Cert.Pre_finite_qk.S_ 1 1#1) Cert.Pre_finite_qk.Gen.reducesTo_S8192x4x192_S_d0_1_2 Cert.Pre_finite_qk.Gen.h_S_ ix0 = 1#1)
    (i : Cert.Pre_finite_qk.S8192x4x192.Idx) : x i = (((x i).toReal : ℝ) : EReal) := by
  have h := Host.reduce_andi_all _ _ _ _ ix0 e i
  have h' : Ideal.cmp .olt (max (x i) (-(x i))) ((broadcastInDim Cert.Pre_finite_qk.S8192x4x192 ![] Cert.Pre_finite_qk.Gen.bcast_S_S8192x4x192
    (constant (F := Ideal) Cert.Pre_finite_qk.S_ .f32 0x7F800000#32)) i) = 1#1 := h
  rw [ValueIdx.broadcastInDim_scalar_apply, Cert.KernelIdeal.Host.word_at, top_word] at h'
  exact real_of_lt _ h'

/-- The precondition says of q and k that they hold real numbers. -/
theorem finite_real (x0 x1 : FVec Ideal Cert.Pre_finite_qk.S8192x4x192 .f32) (x2 : FVec Ideal Cert.Pre_finite_qk.S8192x4x128 .f32)
    (h : Cert.Pre_finite_qk.fn (F := Ideal) x0 x1 x2 = fun _ => 1#1) :
    (∀ i, x0 i = (((x0 i).toReal : ℝ) : EReal)) ∧ (∀ i, x1 i = (((x1 i).toReal : ℝ) : EReal)) := by
  unfold Cert.Pre_finite_qk.fn at h
  have e := congrFun h ix0
  obtain ⟨e0, e1⟩ := (IntOp.andi_eq_one).mp e
  exact ⟨real_of_all x0 e0, real_of_all x1 e1⟩

open Cert.FwdIdeal Cert.FwdIdeal.Gen Cert.FwdIdeal.Whole Cert.FwdIdeal.Host

section Same

variable (m : (ℓ : Loc nD τ sig) → Buf (Elt Ideal) ℓ) (c : Dev nD) (q k : Fin 8192 → Fin 4 → Fin 192 → ℝ)
variable (hq : ∀ i h d, inQ m c (ix3 i h d) = (q i h d : EReal)) (hk : ∀ i h d, inK m c (ix3 i h d) = (k i h d : EReal))
include hq hk

theorem same0 : Cert.FwdRefIdeal.Read.val_main_v28 (F := Ideal) (inQ m c) (inK m c) (inV m c) = resO q k (aV m c) := by
  funext y
  obtain ⟨i, j, rfl⟩ : ∃ (i : Fin 8192) (j : Fin 512), y = (ix2 i j : S8192x512.Idx) := ⟨_, _, eq_ix2 (n0 := 8192) (n1 := 512) y⟩
  obtain ⟨h, d, rfl⟩ := ex_col' j
  refine (Cert.FwdRefIdeal.Stage.r28 hq hk (inV m c) i h d).trans ?_
  show _ = ∑ r : Fin 8192, aV m c (ix2 r (col' h.val d)) * ((pr q k (hd ((col' h.val d).val / 128)) i r : ℝ) : EReal)
  rw [col'_div h.val h.isLt, show hd h.val = h from Fin.ext (Nat.mod_eq_of_lt h.isLt)]
  exact Finset.sum_congr rfl fun r _ => by rw [aV_at]

theorem same1 : Cert.FwdRefIdeal.Read.val_main_v32 (F := Ideal) (inQ m c) (inK m c) = resL q k := by
  funext y
  obtain ⟨h, i, rfl⟩ : ∃ (h : Fin 4) (i : Fin 8192), y = (ix3 h 0 i : S4x1x8192.Idx) :=
    ⟨y 0, y 2, (eq_ix3 (n0 := 4) (n1 := 1) (n2 := 8192) y).trans (congrArg (fun b => (ix3 (y 0) b (y 2) : S4x1x8192.Idx)) (Subsingleton.elim (α := Fin 1) _ _))⟩
  exact Cert.FwdRefIdeal.Stage.r32 hq hk h i

end Same

theorem value : Cert.algebraic_FwdIdeal_FwdRefIdeal_pre_finite_qk := by
  intro m g m' g' hpre hargs
  refine ⟨fun c => resO (reals (inQ m c)) (reals (inK m c)) (aV m c), fun c => resL (reals (inQ m c)) (reals (inK m c)), ?_, ?_⟩
  · refine (θ_run _ _ _).mono (fun r h c => ?_) (Cert.FwdIdeal.Value.run_blocks (F := Ideal) m g)
    obtain ⟨h0, h1, h2⟩ := h c
    obtain ⟨f0, f1⟩ := finite_real (inQ m c) (inK m c) (inV m c) (hpre c)
    have HS := score_real (m := m) (c := c) (q := reals (inQ m c)) (k := reals (inK m c)) (fun i h d => f0 (ix3 i h d)) (fun i h d => f1 (ix3 i h d))
    exact ⟨h0.trans (arr3 m c _ _ HS), h1.trans (arr4 m c _ _ HS), h2⟩
  · refine (θ_run _ _ _).mono (fun r h c => ?_) (Cert.FwdRefIdeal.Value.run (F := Ideal) m' g')
    obtain ⟨h0, h1, h2⟩ := h c
    obtain ⟨a0, a1, a2⟩ := hargs c
    obtain ⟨f0, f1⟩ := finite_real (inQ m c) (inK m c) (inV m c) (hpre c)
    refine ⟨?_, ?_, h2⟩
    · rw [h0, Cert.FwdRefIdeal.Read.val_main_v28_eq, a0, a1, a2]
      exact same0 m c _ _ (fun i h d => f0 (ix3 i h d)) (fun i h d => f1 (ix3 i h d))
    · rw [h1, Cert.FwdRefIdeal.Read.val_main_v32_eq, a0, a1]
      exact same1 m c _ _ (fun i h d => f0 (ix3 i h d)) (fun i h d => f1 (ix3 i h d))

end Cert.FwdIdeal.Claim

end
-- ==== Proof.lean ====
module

public import proofs.«01_k».proof.Defs
public import proofs.«01_k».proof.Proof.Frames
public import proofs.«01_k».proof.Proof.Value
public import proofs.«01_k».proof.Proof.DwOut
public import proofs.«01_k».proof.Proof.DwEvIn
public import proofs.«01_k».proof.Proof.DwOdIn
public import proofs.«01_k».proof.Proof.OdProj
public import proofs.«01_k».proof.Proof.EvProj
public import proofs.«01_k».proof.Proof.DwUq
public import proofs.«01_k».proof.Proof.DwUkv
public import proofs.«01_k».proof.Proof.OdBwd
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.OdIn.Frame
public import proofs.«01_k».proof.Proof.Gen.OdInIdeal.Value
public import proofs.«01_k».proof.Proof.Gen.OdInIdeal.Frame
public import proofs.«01_k».proof.Proof.Gen.OdInRefIdeal.Run
public import proofs.«01_k».proof.Proof.Gen.OdInRefIdeal.Read
public import proofs.«01_k».proof.Proof.Gen.EvIn.Frame
public import proofs.«01_k».proof.Proof.Gen.EvInIdeal.Value
public import proofs.«01_k».proof.Proof.Gen.EvInIdeal.Frame
public import proofs.«01_k».proof.Proof.Gen.EvInRefIdeal.Run
public import proofs.«01_k».proof.Proof.Gen.EvInRefIdeal.Read
public import proofs.«01_k».proof.Proof.Gen.Out.Frame
public import proofs.«01_k».proof.Proof.Gen.OutIdeal.Value
public import proofs.«01_k».proof.Proof.Gen.OutIdeal.Frame
public import proofs.«01_k».proof.Proof.Gen.OutRefIdeal.Run
public import proofs.«01_k».proof.Proof.Gen.OutRefIdeal.Read
public import proofs.«01_k».proof.Proof.FwdFrames
public import proofs.«01_k».proof.Proof.FwdValue
public import proofs.«01_k».proof.Proof.Gen.FwdRefIdeal.Run
public import proofs.«01_k».proof.Proof.Gen.FwdRefIdeal.Read
public import proofs.«01_k».proof.Proof.Gen.OdBwd.Frame
public import proofs.«01_k».proof.Proof.Gen.OdBwdIdeal.Value
public import proofs.«01_k».proof.Proof.Gen.OdBwdIdeal.Frame
public import proofs.«01_k».proof.Proof.Gen.OdBwdRefIdeal.Run
public import proofs.«01_k».proof.Proof.Gen.OdBwdRefIdeal.Read
public import proofs.«01_k».proof.Proof.Gen.Pre_finite_qk
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.OdIn.Gen.facts, Cert.OdInIdeal.Gen.facts, Cert.OdInRefIdeal.Gen.facts,
    Cert.EvIn.Gen.facts, Cert.EvInIdeal.Gen.facts, Cert.EvInRefIdeal.Gen.facts,
    Cert.Out.Gen.facts, Cert.OutIdeal.Gen.facts, Cert.OutRefIdeal.Gen.facts,
    Cert.Fwd.Gen.facts, Cert.FwdIdeal.Gen.facts, Cert.FwdRefIdeal.Gen.facts,
    Cert.OdProj.Gen.facts, Cert.OdProjIdeal.Gen.facts, Cert.OdProjRefIdeal.Gen.facts,
    Cert.EvProj.Gen.facts, Cert.EvProjIdeal.Gen.facts, Cert.EvProjRefIdeal.Gen.facts,
    Cert.Uq.Gen.facts, Cert.UqIdeal.Gen.facts, Cert.UqRefIdeal.Gen.facts,
    Cert.Ukv.Gen.facts, Cert.UkvIdeal.Gen.facts, Cert.UkvRefIdeal.Gen.facts,
    Cert.OdBwd.Gen.facts, Cert.OdBwdIdeal.Gen.facts, Cert.OdBwdRefIdeal.Gen.facts,
    Cert.Pre_finite.Gen.facts, Cert.Pre_finite_qk.Gen.facts,
    frame_p, frame_pi, fun m ρ _ => frame_pi m ρ trivial, frame_ri, fun m ρ _ => frame_ri m ρ trivial,
    Cert.OdInIdeal.Dw.frame_p, Cert.OdInIdeal.Dw.frame_pi, Cert.OdInIdeal.Dw.frame_ri,
    Cert.EvInIdeal.Dw.frame_p, Cert.EvInIdeal.Dw.frame_pi, Cert.EvInIdeal.Dw.frame_ri,
    Cert.OutIdeal.Dw.frame_p, Cert.OutIdeal.Dw.frame_pi, Cert.OutIdeal.Dw.frame_ri,
    Cert.FwdIdeal.Frames.frame_p, Cert.FwdIdeal.Frames.frame_pi, fun m ρ _ => Cert.FwdIdeal.Frames.frame_pi m ρ trivial,
    Cert.FwdIdeal.Frames.frame_ri, fun m ρ _ => Cert.FwdIdeal.Frames.frame_ri m ρ trivial,
    Cert.OdProjIdeal.Proj.frame_p, Cert.OdProjIdeal.Proj.frame_pi, Cert.OdProjIdeal.Proj.frame_ri,
    Cert.EvProjIdeal.Proj.frame_p, Cert.EvProjIdeal.Proj.frame_pi, Cert.EvProjIdeal.Proj.frame_ri,
    Cert.UqIdeal.Dw.frame_p, Cert.UqIdeal.Dw.frame_pi, Cert.UqIdeal.Dw.frame_ri,
    Cert.UkvIdeal.Dw.frame_p, Cert.UkvIdeal.Dw.frame_pi, Cert.UkvIdeal.Dw.frame_ri,
    Cert.OdBwdIdeal.Bwd.frame_p, Cert.OdBwdIdeal.Bwd.frame_pi, Cert.OdBwdIdeal.Bwd.frame_ri,
    trivial, value, trivial, Cert.OdInIdeal.Dw.value, trivial, Cert.EvInIdeal.Dw.value, trivial, Cert.OutIdeal.Dw.value,
    IdealRules.named_const.statement Cert.FwdIdeal.κ "log2e" .f32 0x3FB8AA3B#32 (((Real.log 2)⁻¹ : ℝ) : EReal) rfl, Cert.FwdIdeal.Claim.value,
    trivial, Cert.OdProjIdeal.Proj.value, trivial, Cert.EvProjIdeal.Proj.value, trivial, Cert.UqIdeal.Dw.value, trivial, Cert.UkvIdeal.Dw.value,
    trivial, Cert.OdBwdIdeal.Bwd.value⟩

end Cert.Proof

end
